-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_box [hPre_some_box : Cert.Pre_some_box.Facts] (m : (ℓ : Loc Cert.KernelIdeal.nD Cert.KernelIdeal.τ Cert.KernelIdeal.sig) → Buf (Elt Ideal) ℓ) : Prop :=
  ∀ c : Dev Cert.KernelIdeal.nD,
    (Cert.Pre_some_box.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_box [hPre_some_box : Cert.Pre_some_box.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_box.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_some_box [hKernelIdeal : Cert.KernelIdeal.Facts] [hPre_some_box : Cert.Pre_some_box.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_box m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_some_box [hReferenceIdeal : Cert.ReferenceIdeal.Facts] [hPre_some_box : Cert.Pre_some_box.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_box m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_some_box [hKernelIdeal : Cert.KernelIdeal.Facts] [hReferenceIdeal : Cert.ReferenceIdeal.Facts] [hPre_some_box : Cert.Pre_some_box.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_box m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_v279) = v1 c
          ∧ r.2.mem ((c.tc : Thread Cert.ReferenceIdeal.nD Cert.ReferenceIdeal.τ).loc Cert.ReferenceIdeal.main_v281) = v2 c
          ∧ r.2.mem ((c.tc : Thread Cert.ReferenceIdeal.nD Cert.ReferenceIdeal.τ).loc Cert.ReferenceIdeal.main_v283) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_some_box : Cert.Pre_some_box.Facts),
    quiescent_Kernel (hKernel := hKernel)
    ∧ quiescent_KernelIdeal (hKernelIdeal := hKernelIdeal)
    ∧ quiescent_KernelIdeal_pre_some_box (hKernelIdeal := hKernelIdeal) (hPre_some_box := hPre_some_box)
    ∧ quiescent_ReferenceIdeal (hReferenceIdeal := hReferenceIdeal)
    ∧ quiescent_ReferenceIdeal_pre_some_box (hReferenceIdeal := hReferenceIdeal) (hPre_some_box := hPre_some_box)
    ∧ preserves_Kernel_KernelIdeal
    ∧ algebraic_KernelIdeal_ReferenceIdeal_pre_some_box (hKernelIdeal := hKernelIdeal) (hReferenceIdeal := hReferenceIdeal) (hPre_some_box := hPre_some_box)
-- ==== Pre_some_box.lean ====
abbrev S1x18x64x64 : Shape := ⟨4, ![1, 18, 64, 64]⟩
abbrev S100x5 : Shape := ⟨2, ![100, 5]⟩
abbrev S1x3 : Shape := ⟨2, ![1, 3]⟩
abbrev S100x1 : Shape := ⟨2, ![100, 1]⟩
abbrev S100 : Shape := ⟨1, ![100]⟩
abbrev S_ : Shape := ⟨0, ![]⟩

class Facts : Prop where
  slices_S100x5_S100x1_0_0 : S100x5.Slices ![0, 0] S100x1
  shapeCasts_S100x1_S100 : S100x1.ShapeCasts S100
  slices_S100x5_S100x1_0_2 : S100x5.Slices ![0, 2] S100x1
  slices_S100x5_S100x1_0_1 : S100x5.Slices ![0, 1] S100x1
  slices_S100x5_S100x1_0_3 : S100x5.Slices ![0, 3] S100x1
  reducesTo_S100_S_d0 : S100.ReducesTo [0] S_
  h_S_ : 0 < S_.numel

variable [Facts]

def fn {F : FTy → Type} [FloatOps F] (main_arg0 : FVec F S1x18x64x64 .f32) (main_arg1 : FVec F S100x5 .f32) (main_arg2 : FVec F S1x3 .f32) : IVec S_ 1 :=
  let main_v0 : FVec F S100x1 .f32 := (extractStridedSlice S100x1 ![0, 0] · slices_S100x5_S100x1_0_0) main_arg1
  let main_v1 : FVec F S100 .f32 := shapeCast S100 main_v0 shapeCasts_S100x1_S100
  let main_v2 : FVec F S100x1 .f32 := (extractStridedSlice S100x1 ![0, 2] · slices_S100x5_S100x1_0_2) main_arg1
  let main_v3 : FVec F S100 .f32 := shapeCast S100 main_v2 shapeCasts_S100x1_S100
  let main_v4 : IVec S100 1 := cmpf .ole main_v1 main_v3
  let main_v5 : FVec F S100x1 .f32 := (extractStridedSlice S100x1 ![0, 1] · slices_S100x5_S100x1_0_1) main_arg1
  let main_v6 : FVec F S100 .f32 := shapeCast S100 main_v5 shapeCasts_S100x1_S100
  let main_v7 : FVec F S100x1 .f32 := (extractStridedSlice S100x1 ![0, 3] · slices_S100x5_S100x1_0_3) main_arg1
  let main_v8 : FVec F S100 .f32 := shapeCast S100 main_v7 shapeCasts_S100x1_S100
  let main_v9 : IVec S100 1 := cmpf .ole main_v6 main_v8
  let main_v10 : IVec S100 1 := andi main_v4 main_v9
  let main_c : IVec S_ 1 := constantI S_ 1 0#1
  let main_v11 : IVec S_ 1 := (fun x v => Host.reduce IntOp.ori x v reducesTo_S100_S_d0 h_S_) main_v10 main_c
  main_v11
-- ==== Kernel.lean ====
abbrev S1x18x64x64 : Shape := ⟨4, ![1, 18, 64, 64]⟩
abbrev S100x5 : Shape := ⟨2, ![100, 5]⟩
abbrev S1x3 : Shape := ⟨2, ![1, 3]⟩
abbrev S288x128 : Shape := ⟨2, ![288, 128]⟩
abbrev S100x1 : Shape := ⟨2, ![100, 1]⟩
abbrev S100 : Shape := ⟨1, ![100]⟩
abbrev S_ : Shape := ⟨0, ![]⟩
abbrev S1x2 : Shape := ⟨2, ![1, 2]⟩
abbrev S2 : Shape := ⟨1, ![2]⟩
abbrev S100x288x128 : Shape := ⟨3, ![100, 288, 128]⟩
abbrev S1 : Shape := ⟨1, ![1]⟩
abbrev S1x288x128 : Shape := ⟨3, ![1, 288, 128]⟩
abbrev S100x1x1 : Shape := ⟨3, ![100, 1, 1]⟩
abbrev S128x128 : Shape := ⟨2, ![128, 128]⟩
abbrev S288x288 : Shape := ⟨2, ![288, 288]⟩
abbrev S288x1 : Shape := ⟨2, ![288, 1]⟩
abbrev S32x128 : Shape := ⟨2, ![32, 128]⟩
abbrev S1x1x1 : Shape := ⟨3, ![1, 1, 1]⟩
abbrev S1x1x576x64 : Shape := ⟨4, ![1, 1, 576, 64]⟩
abbrev S9x4096 : Shape := ⟨2, ![9, 4096]⟩
abbrev S9x1x4096 : Shape := ⟨3, ![9, 1, 4096]⟩
abbrev S9x4x4096 : Shape := ⟨3, ![9, 4, 4096]⟩
abbrev S1x36x64x64 : Shape := ⟨4, ![1, 36, 64, 64]⟩

abbrev nBuf : Space → Nat
  | .hbm => 52
  | .vmem => 14
  | .smem => 6
  | _ => 0

abbrev bufTy : (tb : Table) → Fin (tcTables nBuf tb) → BufTy
  | .hbm, ⟨0, _⟩ => ⟨S1x18x64x64, .f32⟩
  | .hbm, ⟨1, _⟩ => ⟨S100x5, .f32⟩
  | .hbm, ⟨2, _⟩ => ⟨S1x3, .f32⟩
  | .hbm, ⟨3, _⟩ => ⟨S288x128, .f32⟩
  | .hbm, ⟨4, _⟩ => ⟨S288x128, .f32⟩
  | .hbm, ⟨5, _⟩ => ⟨S288x128, .f32⟩
  | .hbm, ⟨6, _⟩ => ⟨S288x128, .f32⟩
  | .hbm, ⟨7, _⟩ => ⟨S288x128, .f32⟩
  | .hbm, ⟨8, _⟩ => ⟨S288x128, .f32⟩
  | .hbm, ⟨9, _⟩ => ⟨S100x1, .f32⟩
  | .hbm, ⟨10, _⟩ => ⟨S100, .f32⟩
  | .hbm, ⟨11, _⟩ => ⟨S100x1, .f32⟩
  | .hbm, ⟨12, _⟩ => ⟨S100, .f32⟩
  | .hbm, ⟨13, _⟩ => ⟨S100x1, .f32⟩
  | .hbm, ⟨14, _⟩ => ⟨S100, .f32⟩
  | .hbm, ⟨15, _⟩ => ⟨S100x1, .f32⟩
  | .hbm, ⟨16, _⟩ => ⟨S100, .f32⟩
  | .hbm, ⟨17, _⟩ => ⟨S100, .f32⟩
  | .hbm, ⟨18, _⟩ => ⟨S_, .f32⟩
  | .hbm, ⟨19, _⟩ => ⟨S100, .f32⟩
  | .hbm, ⟨20, _⟩ => ⟨S100, .f32⟩
  | .hbm, ⟨21, _⟩ => ⟨S100, .f32⟩
  | .hbm, ⟨22, _⟩ => ⟨S_, .f32⟩
  | .hbm, ⟨23, _⟩ => ⟨S100, .f32⟩
  | .hbm, ⟨24, _⟩ => ⟨S100, .f32⟩
  | .hbm, ⟨25, _⟩ => ⟨S100, .f32⟩
  | .hbm, ⟨26, _⟩ => ⟨S1x2, .f32⟩
  | .hbm, ⟨27, _⟩ => ⟨S2, .f32⟩
  | .hbm, ⟨28, _⟩ => ⟨S288x128, .f32⟩
  | .hbm, ⟨29, _⟩ => ⟨S288x128, .f32⟩
  | .hbm, ⟨30, _⟩ => ⟨S288x128, .f32⟩
  | .hbm, ⟨31, _⟩ => ⟨S288x128, .f32⟩
  | .hbm, ⟨32, _⟩ => ⟨S288x128, .f32⟩
  | .hbm, ⟨33, _⟩ => ⟨S288x128, .f32⟩
  | .hbm, ⟨34, _⟩ => ⟨S288x128, .f32⟩
  | .hbm, ⟨35, _⟩ => ⟨S1x1x576x64, .f32⟩
  | .hbm, ⟨36, _⟩ => ⟨S9x4096, .f32⟩
  | .hbm, ⟨37, _⟩ => ⟨S9x4096, .f32⟩
  | .hbm, ⟨38, _⟩ => ⟨S9x4096, .f32⟩
  | .hbm, ⟨39, _⟩ => ⟨S9x4096, .f32⟩
  | .hbm, ⟨40, _⟩ => ⟨S9x1x4096, .f32⟩
  | .hbm, ⟨41, _⟩ => ⟨S9x1x4096, .f32⟩
  | .hbm, ⟨42, _⟩ => ⟨S9x1x4096, .f32⟩
  | .hbm, ⟨43, _⟩ => ⟨S9x1x4096, .f32⟩
  | .hbm, ⟨44, _⟩ => ⟨S9x4x4096, .f32⟩
  | .hbm, ⟨45, _⟩ => ⟨S1x36x64x64, .f32⟩
  | .hbm, ⟨46, _⟩ => ⟨S9x1x4096, .f32⟩
  | .hbm, ⟨47, _⟩ => ⟨S9x4x4096, .f32⟩
  | .hbm, ⟨48, _⟩ => ⟨S1x36x64x64, .f32⟩
  | .hbm, ⟨49, _⟩ => ⟨S9x1x4096, .f32⟩
  | .hbm, ⟨50, _⟩ => ⟨S9x4x4096, .f32⟩
  | .hbm, ⟨51, _⟩ => ⟨S1x36x64x64, .f32⟩
  | .local _ .vmem, ⟨0, _⟩ => ⟨S288x128, .f32⟩
  | .local _ .vmem, ⟨1, _⟩ => ⟨S288x128, .f32⟩
  | .local _ .vmem, ⟨2, _⟩ => ⟨S288x128, .f32⟩
  | .local _ .vmem, ⟨3, _⟩ => ⟨S288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | .local _ .vmem, ⟨7, _⟩ => ⟨S288x128, .f32⟩
  | .local _ .vmem, ⟨8, _⟩ => ⟨S288x128, .f32⟩
  | .local _ .vmem, ⟨9, _⟩ => ⟨S288x128, .f32⟩
  | .local _ .vmem, ⟨10, _⟩ => ⟨S288x128, .f32⟩
  | .local _ .vmem, ⟨11, _⟩ => ⟨S288x128, .f32⟩
  | .local _ .vmem, ⟨12, _⟩ => ⟨S288x128, .f32⟩
  | .local _ .vmem, ⟨13, _⟩ => ⟨S100x288x128, .f32⟩
  | .local _ .smem, ⟨0, _⟩ => ⟨S100, .f32⟩
  | .local _ .smem, ⟨1, _⟩ => ⟨S100, .f32⟩
  | .local _ .smem, ⟨2, _⟩ => ⟨S100, .f32⟩
  | .local _ .smem, ⟨3, _⟩ => ⟨S100, .f32⟩
  | .local _ .smem, ⟨4, _⟩ => ⟨S100, .f32⟩
  | .local _ .smem, ⟨5, _⟩ => ⟨S2, .f32⟩
  | _, _ => ⟨S1x18x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg6_0 : Ref sig .tc := ⟨.vmem, 0, rfl⟩
abbrev cc0_stg7_0 : Ref sig .tc := ⟨.vmem, 1, rfl⟩
abbrev cc0_stg8_0 : Ref sig .tc := ⟨.vmem, 2, rfl⟩
abbrev cc0_stg9_0 : Ref sig .tc := ⟨.vmem, 3, rfl⟩
abbrev cc0_stg10_0 : Ref sig .tc := ⟨.vmem, 4, rfl⟩
abbrev cc0_stg11_0 : Ref sig .tc := ⟨.vmem, 5, rfl⟩
abbrev cc0_stg12_0 : Ref sig .tc := ⟨.vmem, 6, rfl⟩
abbrev cc0_stg13_0 : Ref sig .tc := ⟨.vmem, 7, rfl⟩
abbrev cc0_stg14_0 : Ref sig .tc := ⟨.vmem, 8, rfl⟩
abbrev cc0_stg15_0 : Ref sig .tc := ⟨.vmem, 9, rfl⟩
abbrev cc0_stg16_0 : Ref sig .tc := ⟨.vmem, 10, rfl⟩
abbrev cc0_stg17_0 : Ref sig .tc := ⟨.vmem, 11, rfl⟩
abbrev cc0_stg18_0 : Ref sig .tc := ⟨.vmem, 12, rfl⟩
abbrev cc0_scratch0 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v24 : BitVec 32 := Scalar.addi c0_i32 c100_i32
  let c1_i32 : BitVec 32 := 1#32
  ⟨c0_i32, v24, c1_i32⟩
def k0_off1 (k0_t1 : Fin k0_t1_loop.trips) : Fin 1 → Nat :=
  let c0_i32 : BitVec 32 := 0#32
  let c1_i32 : BitVec 32 := 1#32
  let arg20 : BitVec 32 := Scf.iv c0_i32 c1_i32 k0_t1
  let v298 : Index := Scalar.indexCast arg20
  ![v298.toNat]
def k0_off2 (k0_t1 : Fin k0_t1_loop.trips) : Fin 3 → Nat :=
  let c0_i32 : BitVec 32 := 0#32
  let c1_i32 : BitVec 32 := 1#32
  let arg20 : BitVec 32 := Scf.iv c0_i32 c1_i32 k0_t1
  let v333 : Index := Scalar.indexCast arg20
  let c0_95 : Index := 0#32
  let c0_96 : Index := 0#32
  ![v333.toNat, 0, 0]
abbrev stage0_0 : Fin 1 → Memref sig .tc .smem S100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S288x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S288x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S288x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S288x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S288x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S288x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S288x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S288x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S288x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S288x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S288x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S288x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== ReferenceIdeal.lean ====
abbrev S1x18x64x64 : Shape := ⟨4, ![1, 18, 64, 64]⟩
abbrev S100x5 : Shape := ⟨2, ![100, 5]⟩
abbrev S1x3 : Shape := ⟨2, ![1, 3]⟩
abbrev S9x4 : Shape := ⟨2, ![9, 4]⟩
abbrev S64 : Shape := ⟨1, ![64]⟩
abbrev S_ : Shape := ⟨0, ![]⟩
abbrev S64x64 : Shape := ⟨2, ![64, 64]⟩
abbrev S4096 : Shape := ⟨1, ![4096]⟩
abbrev S4096x1 : Shape := ⟨2, ![4096, 1]⟩
abbrev S4096x4 : Shape := ⟨2, ![4096, 4]⟩
abbrev S1x9x4 : Shape := ⟨3, ![1, 9, 4]⟩
abbrev S4096x1x4 : Shape := ⟨3, ![4096, 1, 4]⟩
abbrev S4096x9x4 : Shape := ⟨3, ![4096, 9, 4]⟩
abbrev S36864x4 : Shape := ⟨2, ![36864, 4]⟩
abbrev S3 : Shape := ⟨1, ![3]⟩
abbrev S36864x1 : Shape := ⟨2, ![36864, 1]⟩
abbrev S36864 : Shape := ⟨1, ![36864]⟩
abbrev S1 : Shape := ⟨1, ![1]⟩
abbrev S100x4 : Shape := ⟨2, ![100, 4]⟩
abbrev S100x1 : Shape := ⟨2, ![100, 1]⟩
abbrev S100 : Shape := ⟨1, ![100]⟩
abbrev S1x100 : Shape := ⟨2, ![1, 100]⟩
abbrev S36864x100 : Shape := ⟨2, ![36864, 100]⟩
abbrev S36864x2 : Shape := ⟨2, ![36864, 2]⟩
abbrev S1x4 : Shape := ⟨2, ![1, 4]⟩
abbrev S1x64x64x9 : Shape := ⟨4, ![1, 64, 64, 9]⟩
abbrev S1x9x64x64 : Shape := ⟨4, ![1, 9, 64, 64]⟩
abbrev S1x1x576x64 : Shape := ⟨4, ![1, 1, 576, 64]⟩
abbrev S1x64x64x36 : Shape := ⟨4, ![1, 64, 64, 36]⟩
abbrev S1x36x64x64 : Shape := ⟨4, ![1, 36, 64, 64]⟩

abbrev nBuf : Space → Nat
  | .hbm => 373
  | .vmem => 0
  | .smem => 0
  | _ => 0

abbrev hbmTy0_0 (i : Nat) : BufTy := match i % 128 with
  | 0 => ⟨S1x18x64x64, .f32⟩
  | 1 => ⟨S100x5, .f32⟩
  | 2 => ⟨S1x3, .f32⟩
  | 3 => ⟨S9x4, .f32⟩
  | 4 => ⟨S64, .f32⟩
  | 5 => ⟨S_, .f32⟩
  | 6 => ⟨S64, .f32⟩
  | 7 => ⟨S64, .f32⟩
  | 8 => ⟨S64, .f32⟩
  | 9 => ⟨S_, .f32⟩
  | 10 => ⟨S64, .f32⟩
  | 11 => ⟨S64, .f32⟩
  | 12 => ⟨S64x64, .f32⟩
  | 13 => ⟨S64x64, .f32⟩
  | 14 => ⟨S4096, .f32⟩
  | 15 => ⟨S4096, .f32⟩
  | 16 => ⟨S4096, .f32⟩
  | 17 => ⟨S4096, .f32⟩
  | 18 => ⟨S4096x1, .f32⟩
  | 19 => ⟨S4096x1, .f32⟩
  | 20 => ⟨S4096x1, .f32⟩
  | 21 => ⟨S4096x1, .f32⟩
  | 22 => ⟨S4096x4, .f32⟩
  | 23 => ⟨S1x9x4, .f32⟩
  | 24 => ⟨S4096x1x4, .f32⟩
  | 25 => ⟨S4096x9x4, .f32⟩
  | 26 => ⟨S4096x9x4, .f32⟩
  | 27 => ⟨S4096x9x4, .f32⟩
  | 28 => ⟨S36864x4, .f32⟩
  | 29 => ⟨S3, .f32⟩
  | 30 => ⟨S36864x1, .f32⟩
  | 31 => ⟨S36864, .f32⟩
  | 32 => ⟨S_, .f32⟩
  | 33 => ⟨S36864, .f32⟩
  | 34 => ⟨S36864, .i1⟩
  | 35 => ⟨S36864x1, .f32⟩
  | 36 => ⟨S36864, .f32⟩
  | 37 => ⟨S_, .f32⟩
  | 38 => ⟨S36864, .f32⟩
  | 39 => ⟨S36864, .i1⟩
  | 40 => ⟨S36864, .i1⟩
  | 41 => ⟨S36864x1, .f32⟩
  | 42 => ⟨S36864, .f32⟩
  | 43 => ⟨S1, .f32⟩
  | 44 => ⟨S_, .f32⟩
  | 45 => ⟨S36864, .f32⟩
  | 46 => ⟨S36864, .i1⟩
  | 47 => ⟨S36864, .i1⟩
  | 48 => ⟨S36864x1, .f32⟩
  | 49 => ⟨S36864, .f32⟩
  | 50 => ⟨S1, .f32⟩
  | 51 => ⟨S_, .f32⟩
  | 52 => ⟨S36864, .f32⟩
  | 53 => ⟨S36864, .i1⟩
  | 54 => ⟨S36864, .i1⟩
  | 55 => ⟨S100x4, .f32⟩
  | 56 => ⟨S36864x1, .f32⟩
  | 57 => ⟨S36864, .f32⟩
  | 58 => ⟨S36864x1, .f32⟩
  | 59 => ⟨S36864, .f32⟩
  | 60 => ⟨S36864, .f32⟩
  | 61 => ⟨S_, .f32⟩
  | 62 => ⟨S36864, .f32⟩
  | 63 => ⟨S36864, .f32⟩
  | 64 => ⟨S36864x1, .f32⟩
  | 65 => ⟨S36864, .f32⟩
  | 66 => ⟨S36864x1, .f32⟩
  | 67 => ⟨S36864, .f32⟩
  | 68 => ⟨S36864, .f32⟩
  | 69 => ⟨S_, .f32⟩
  | 70 => ⟨S36864, .f32⟩
  | 71 => ⟨S36864, .f32⟩
  | 72 => ⟨S36864, .f32⟩
  | 73 => ⟨S100x1, .f32⟩
  | 74 => ⟨S100, .f32⟩
  | 75 => ⟨S100x1, .f32⟩
  | 76 => ⟨S100, .f32⟩
  | 77 => ⟨S100, .f32⟩
  | 78 => ⟨S_, .f32⟩
  | 79 => ⟨S100, .f32⟩
  | 80 => ⟨S100, .f32⟩
  | 81 => ⟨S100x1, .f32⟩
  | 82 => ⟨S100, .f32⟩
  | 83 => ⟨S100x1, .f32⟩
  | 84 => ⟨S100, .f32⟩
  | 85 => ⟨S100, .f32⟩
  | 86 => ⟨S_, .f32⟩
  | 87 => ⟨S100, .f32⟩
  | 88 => ⟨S100, .f32⟩
  | 89 => ⟨S100, .f32⟩
  | 90 => ⟨S36864x1, .f32⟩
  | 91 => ⟨S36864, .f32⟩
  | 92 => ⟨S36864x1, .f32⟩
  | 93 => ⟨S100x1, .f32⟩
  | 94 => ⟨S100, .f32⟩
  | 95 => ⟨S1x100, .f32⟩
  | 96 => ⟨S36864x100, .f32⟩
  | 97 => ⟨S36864x100, .f32⟩
  | 98 => ⟨S36864x100, .f32⟩
  | 99 => ⟨S36864x1, .f32⟩
  | 100 => ⟨S36864, .f32⟩
  | 101 => ⟨S36864x1, .f32⟩
  | 102 => ⟨S100x1, .f32⟩
  | 103 => ⟨S100, .f32⟩
  | 104 => ⟨S1x100, .f32⟩
  | 105 => ⟨S36864x100, .f32⟩
  | 106 => ⟨S36864x100, .f32⟩
  | 107 => ⟨S36864x100, .f32⟩
  | 108 => ⟨S36864x100, .f32⟩
  | 109 => ⟨S_, .f32⟩
  | 110 => ⟨S36864x100, .f32⟩
  | 111 => ⟨S36864x100, .f32⟩
  | 112 => ⟨S36864x1, .f32⟩
  | 113 => ⟨S36864, .f32⟩
  | 114 => ⟨S36864x1, .f32⟩
  | 115 => ⟨S100x1, .f32⟩
  | 116 => ⟨S100, .f32⟩
  | 117 => ⟨S1x100, .f32⟩
  | 118 => ⟨S36864x100, .f32⟩
  | 119 => ⟨S36864x100, .f32⟩
  | 120 => ⟨S36864x100, .f32⟩
  | 121 => ⟨S36864x1, .f32⟩
  | 122 => ⟨S36864, .f32⟩
  | 123 => ⟨S36864x1, .f32⟩
  | 124 => ⟨S100x1, .f32⟩
  | 125 => ⟨S100, .f32⟩
  | 126 => ⟨S1x100, .f32⟩
  | 127 => ⟨S36864x100, .f32⟩
  | _ => ⟨S1x18x64x64, .f32⟩

abbrev hbmTy0_1 (i : Nat) : BufTy := match i % 128 with
  | 0 => ⟨S36864x100, .f32⟩
  | 1 => ⟨S36864x100, .f32⟩
  | 2 => ⟨S36864x100, .f32⟩
  | 3 => ⟨S_, .f32⟩
  | 4 => ⟨S36864x100, .f32⟩
  | 5 => ⟨S36864x100, .f32⟩
  | 6 => ⟨S_, .f32⟩
  | 7 => ⟨S36864x100, .f32⟩
  | 8 => ⟨S36864x100, .f32⟩
  | 9 => ⟨S_, .f32⟩
  | 10 => ⟨S36864x100, .f32⟩
  | 11 => ⟨S36864x100, .f32⟩
  | 12 => ⟨S36864x100, .f32⟩
  | 13 => ⟨S36864x1, .f32⟩
  | 14 => ⟨S1x100, .f32⟩
  | 15 => ⟨S36864x100, .f32⟩
  | 16 => ⟨S36864x100, .f32⟩
  | 17 => ⟨S36864x100, .f32⟩
  | 18 => ⟨S36864x100, .f32⟩
  | 19 => ⟨S36864x100, .f32⟩
  | 20 => ⟨S36864x1, .i1⟩
  | 21 => ⟨S_, .f32⟩
  | 22 => ⟨S_, .f32⟩
  | 23 => ⟨S36864x100, .i1⟩
  | 24 => ⟨S36864x100, .f32⟩
  | 25 => ⟨S36864x100, .f32⟩
  | 26 => ⟨S_, .f32⟩
  | 27 => ⟨S36864, .f32⟩
  | 28 => ⟨S36864x1, .f32⟩
  | 29 => ⟨S36864x100, .f32⟩
  | 30 => ⟨S36864x100, .i1⟩
  | 31 => ⟨S100, .i32⟩
  | 32 => ⟨S1x100, .i32⟩
  | 33 => ⟨S_, .i32⟩
  | 34 => ⟨S_, .i32⟩
  | 35 => ⟨S36864x100, .i32⟩
  | 36 => ⟨S36864x100, .i32⟩
  | 37 => ⟨S36864x100, .i32⟩
  | 38 => ⟨S_, .i32⟩
  | 39 => ⟨S36864, .i32⟩
  | 40 => ⟨S_, .f32⟩
  | 41 => ⟨S100, .f32⟩
  | 42 => ⟨S1x100, .f32⟩
  | 43 => ⟨S36864x100, .f32⟩
  | 44 => ⟨S36864x100, .i1⟩
  | 45 => ⟨S36864x1, .i1⟩
  | 46 => ⟨S36864x100, .i1⟩
  | 47 => ⟨S36864x100, .i1⟩
  | 48 => ⟨S_, .i1⟩
  | 49 => ⟨S36864, .i1⟩
  | 50 => ⟨S_, .f32⟩
  | 51 => ⟨S36864, .f32⟩
  | 52 => ⟨S_, .f32⟩
  | 53 => ⟨S36864, .f32⟩
  | 54 => ⟨S36864, .i1⟩
  | 55 => ⟨S_, .f32⟩
  | 56 => ⟨S_, .f32⟩
  | 57 => ⟨S36864, .f32⟩
  | 58 => ⟨S36864, .f32⟩
  | 59 => ⟨S_, .f32⟩
  | 60 => ⟨S_, .f32⟩
  | 61 => ⟨S36864, .f32⟩
  | 62 => ⟨S36864, .f32⟩
  | 63 => ⟨S_, .f32⟩
  | 64 => ⟨S36864, .f32⟩
  | 65 => ⟨S36864, .i1⟩
  | 66 => ⟨S_, .f32⟩
  | 67 => ⟨S_, .f32⟩
  | 68 => ⟨S36864, .f32⟩
  | 69 => ⟨S36864, .f32⟩
  | 70 => ⟨S_, .f32⟩
  | 71 => ⟨S_, .f32⟩
  | 72 => ⟨S36864, .f32⟩
  | 73 => ⟨S36864, .f32⟩
  | 74 => ⟨S_, .f32⟩
  | 75 => ⟨S36864, .f32⟩
  | 76 => ⟨S36864, .i1⟩
  | 77 => ⟨S36864, .i32⟩
  | 78 => ⟨S_, .i32⟩
  | 79 => ⟨S_, .i32⟩
  | 80 => ⟨S36864, .i32⟩
  | 81 => ⟨S_, .i32⟩
  | 82 => ⟨S36864, .i32⟩
  | 83 => ⟨S36864, .i1⟩
  | 84 => ⟨S36864, .i1⟩
  | 85 => ⟨S_, .f32⟩
  | 86 => ⟨S_, .f32⟩
  | 87 => ⟨S36864, .f32⟩
  | 88 => ⟨S36864, .f32⟩
  | 89 => ⟨S_, .f32⟩
  | 90 => ⟨S36864, .f32⟩
  | 91 => ⟨S36864, .i1⟩
  | 92 => ⟨S36864, .i32⟩
  | 93 => ⟨S_, .i32⟩
  | 94 => ⟨S_, .i32⟩
  | 95 => ⟨S_, .i32⟩
  | 96 => ⟨S_, .i32⟩
  | 97 => ⟨S_, .f32⟩
  | 98 => ⟨S36864, .f32⟩
  | 99 => ⟨S36864, .i1⟩
  | 100 => ⟨S36864, .i32⟩
  | 101 => ⟨S_, .i32⟩
  | 102 => ⟨S_, .i32⟩
  | 103 => ⟨S36864, .i32⟩
  | 104 => ⟨S36864, .i32⟩
  | 105 => ⟨S36864, .i1⟩
  | 106 => ⟨S36864, .i1⟩
  | 107 => ⟨S_, .f32⟩
  | 108 => ⟨S_, .f32⟩
  | 109 => ⟨S36864, .f32⟩
  | 110 => ⟨S36864, .f32⟩
  | 111 => ⟨S_, .i32⟩
  | 112 => ⟨S36864, .i32⟩
  | 113 => ⟨S36864, .i1⟩
  | 114 => ⟨S_, .i32⟩
  | 115 => ⟨S36864, .i32⟩
  | 116 => ⟨S36864, .i32⟩
  | 117 => ⟨S36864, .i32⟩
  | 118 => ⟨S36864x1, .i32⟩
  | 119 => ⟨S_, .i32⟩
  | 120 => ⟨S36864x1, .i32⟩
  | 121 => ⟨S36864x2, .i32⟩
  | 122 => ⟨S36864x4, .f32⟩
  | 123 => ⟨S36864x1, .f32⟩
  | 124 => ⟨S36864, .f32⟩
  | 125 => ⟨S36864x1, .f32⟩
  | 126 => ⟨S36864, .f32⟩
  | 127 => ⟨S36864, .f32⟩
  | _ => ⟨S1x18x64x64, .f32⟩

abbrev hbmTy0_2 (i : Nat) : BufTy := match i % 128 with
  | 0 => ⟨S_, .f32⟩
  | 1 => ⟨S36864, .f32⟩
  | 2 => ⟨S36864, .f32⟩
  | 3 => ⟨S36864x1, .f32⟩
  | 4 => ⟨S36864, .f32⟩
  | 5 => ⟨S36864x1, .f32⟩
  | 6 => ⟨S36864, .f32⟩
  | 7 => ⟨S36864, .f32⟩
  | 8 => ⟨S_, .f32⟩
  | 9 => ⟨S36864, .f32⟩
  | 10 => ⟨S36864, .f32⟩
  | 11 => ⟨S36864x1, .f32⟩
  | 12 => ⟨S36864, .f32⟩
  | 13 => ⟨S_, .f32⟩
  | 14 => ⟨S36864, .f32⟩
  | 15 => ⟨S36864, .f32⟩
  | 16 => ⟨S36864, .f32⟩
  | 17 => ⟨S36864x1, .f32⟩
  | 18 => ⟨S36864, .f32⟩
  | 19 => ⟨S_, .f32⟩
  | 20 => ⟨S36864, .f32⟩
  | 21 => ⟨S36864, .f32⟩
  | 22 => ⟨S36864, .f32⟩
  | 23 => ⟨S36864x1, .f32⟩
  | 24 => ⟨S36864, .f32⟩
  | 25 => ⟨S36864x1, .f32⟩
  | 26 => ⟨S36864, .f32⟩
  | 27 => ⟨S36864, .f32⟩
  | 28 => ⟨S_, .f32⟩
  | 29 => ⟨S36864, .f32⟩
  | 30 => ⟨S36864, .f32⟩
  | 31 => ⟨S36864x1, .f32⟩
  | 32 => ⟨S36864, .f32⟩
  | 33 => ⟨S36864x1, .f32⟩
  | 34 => ⟨S36864, .f32⟩
  | 35 => ⟨S36864, .f32⟩
  | 36 => ⟨S_, .f32⟩
  | 37 => ⟨S36864, .f32⟩
  | 38 => ⟨S36864, .f32⟩
  | 39 => ⟨S36864x1, .f32⟩
  | 40 => ⟨S36864, .f32⟩
  | 41 => ⟨S_, .f32⟩
  | 42 => ⟨S36864, .f32⟩
  | 43 => ⟨S36864, .f32⟩
  | 44 => ⟨S36864, .f32⟩
  | 45 => ⟨S36864x1, .f32⟩
  | 46 => ⟨S36864, .f32⟩
  | 47 => ⟨S_, .f32⟩
  | 48 => ⟨S36864, .f32⟩
  | 49 => ⟨S36864, .f32⟩
  | 50 => ⟨S36864, .f32⟩
  | 51 => ⟨S36864, .f32⟩
  | 52 => ⟨S36864, .f32⟩
  | 53 => ⟨S36864, .f32⟩
  | 54 => ⟨S36864, .f32⟩
  | 55 => ⟨S36864, .f32⟩
  | 56 => ⟨S36864, .f32⟩
  | 57 => ⟨S36864, .f32⟩
  | 58 => ⟨S36864, .f32⟩
  | 59 => ⟨S36864x1, .f32⟩
  | 60 => ⟨S36864x1, .f32⟩
  | 61 => ⟨S36864x1, .f32⟩
  | 62 => ⟨S36864x1, .f32⟩
  | 63 => ⟨S36864x4, .f32⟩
  | 64 => ⟨S36864x1, .i1⟩
  | 65 => ⟨S_, .f32⟩
  | 66 => ⟨S_, .f32⟩
  | 67 => ⟨S36864x4, .i1⟩
  | 68 => ⟨S36864x4, .f32⟩
  | 69 => ⟨S36864x4, .f32⟩
  | 70 => ⟨S_, .f32⟩
  | 71 => ⟨S36864, .f32⟩
  | 72 => ⟨S36864, .i1⟩
  | 73 => ⟨S36864x1, .i1⟩
  | 74 => ⟨S_, .f32⟩
  | 75 => ⟨S_, .f32⟩
  | 76 => ⟨S36864x1, .f32⟩
  | 77 => ⟨S36864x1, .f32⟩
  | 78 => ⟨S36864x1, .f32⟩
  | 79 => ⟨S_, .f32⟩
  | 80 => ⟨S1x4, .f32⟩
  | 81 => ⟨S36864x1, .f32⟩
  | 82 => ⟨S36864x4, .f32⟩
  | 83 => ⟨S36864x4, .f32⟩
  | 84 => ⟨S36864x4, .f32⟩
  | 85 => ⟨S_, .f32⟩
  | 86 => ⟨S36864, .f32⟩
  | 87 => ⟨S36864, .i1⟩
  | 88 => ⟨S36864, .i32⟩
  | 89 => ⟨S_, .i32⟩
  | 90 => ⟨S_, .i32⟩
  | 91 => ⟨S_, .f32⟩
  | 92 => ⟨S_, .f32⟩
  | 93 => ⟨S36864, .f32⟩
  | 94 => ⟨S36864, .i1⟩
  | 95 => ⟨S36864x1, .i1⟩
  | 96 => ⟨S_, .f32⟩
  | 97 => ⟨S_, .f32⟩
  | 98 => ⟨S_, .f32⟩
  | 99 => ⟨S_, .f32⟩
  | 100 => ⟨S36864x1, .f32⟩
  | 101 => ⟨S36864x1, .f32⟩
  | 102 => ⟨S36864x1, .f32⟩
  | 103 => ⟨S_, .f32⟩
  | 104 => ⟨S1x4, .f32⟩
  | 105 => ⟨S36864x4, .f32⟩
  | 106 => ⟨S36864x4, .f32⟩
  | 107 => ⟨S36864x4, .f32⟩
  | 108 => ⟨S1x64x64x9, .f32⟩
  | 109 => ⟨S1x9x64x64, .f32⟩
  | 110 => ⟨S1x1x576x64, .f32⟩
  | 111 => ⟨S1x64x64x36, .f32⟩
  | 112 => ⟨S1x36x64x64, .f32⟩
  | 113 => ⟨S1x64x64x36, .f32⟩
  | 114 => ⟨S1x36x64x64, .f32⟩
  | 115 => ⟨S1x64x64x36, .f32⟩
  | 116 => ⟨S1x36x64x64, .f32⟩
  | _ => ⟨S1x18x64x64, .f32⟩

abbrev hbmTy (i : Nat) : BufTy := match i / 128 with
  | 0 => hbmTy0_0 i
  | 1 => hbmTy0_1 i
  | 2 => hbmTy0_2 i
  | _ => ⟨S1x18x64x64, .f32⟩

abbrev bufTy : (tb : Table) → Fin (tcTables nBuf tb) → BufTy
  | .hbm, ⟨i, _⟩ => hbmTy i
  | _, _ => ⟨S1x18x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_6 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_7 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_8 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_cst_9 : Ref sig .tc := ⟨.hbm, 131, rfl⟩
abbrev main_v118 : Ref sig .tc := ⟨.hbm, 132, rfl⟩
abbrev main_v119 : Ref sig .tc := ⟨.hbm, 133, rfl⟩
abbrev main_cst_10 : Ref sig .tc := ⟨.hbm, 134, rfl⟩
abbrev main_v120 : Ref sig .tc := ⟨.hbm, 135, rfl⟩
abbrev main_v121 : Ref sig .tc := ⟨.hbm, 136, rfl⟩
abbrev main_cst_11 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_cst_12 : Ref sig .tc := ⟨.hbm, 149, rfl⟩
abbrev main_call0_v0 : Ref sig .tc := ⟨.hbm, 150, rfl⟩
abbrev main_call0_v1 : Ref sig .tc := ⟨.hbm, 151, rfl⟩
abbrev main_call0_v2 : Ref sig .tc := ⟨.hbm, 152, rfl⟩
abbrev main_v133 : Ref sig .tc := ⟨.hbm, 153, rfl⟩
abbrev main_cst_13 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_c : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_v140 : Ref sig .tc := ⟨.hbm, 165, rfl⟩
abbrev main_c_14 : Ref sig .tc := ⟨.hbm, 166, rfl⟩
abbrev main_v141 : Ref sig .tc := ⟨.hbm, 167, rfl⟩
abbrev main_cst_15 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_c_16 : Ref sig .tc := ⟨.hbm, 176, rfl⟩
abbrev main_v149 : Ref sig .tc := ⟨.hbm, 177, rfl⟩
abbrev main_cst_17 : Ref sig .tc := ⟨.hbm, 178, rfl⟩
abbrev main_v150 : Ref sig .tc := ⟨.hbm, 179, rfl⟩
abbrev main_cst_18 : Ref sig .tc := ⟨.hbm, 180, rfl⟩
abbrev main_v151 : Ref sig .tc := ⟨.hbm, 181, rfl⟩
abbrev main_v152 : Ref sig .tc := ⟨.hbm, 182, rfl⟩
abbrev main_cst_19 : Ref sig .tc := ⟨.hbm, 183, rfl⟩
abbrev main_call2_v0 : Ref sig .tc := ⟨.hbm, 184, rfl⟩
abbrev main_call2_v1 : Ref sig .tc := ⟨.hbm, 185, rfl⟩
abbrev main_v153 : Ref sig .tc := ⟨.hbm, 186, rfl⟩
abbrev main_cst_20 : Ref sig .tc := ⟨.hbm, 187, rfl⟩
abbrev main_call3_v0 : Ref sig .tc := ⟨.hbm, 188, rfl⟩
abbrev main_call3_v1 : Ref sig .tc := ⟨.hbm, 189, rfl⟩
abbrev main_v154 : Ref sig .tc := ⟨.hbm, 190, rfl⟩
abbrev main_cst_21 : Ref sig .tc := ⟨.hbm, 191, rfl⟩
abbrev main_v155 : Ref sig .tc := ⟨.hbm, 192, rfl⟩
abbrev main_v156 : Ref sig .tc := ⟨.hbm, 193, rfl⟩
abbrev main_cst_22 : Ref sig .tc := ⟨.hbm, 194, rfl⟩
abbrev main_call4_v0 : Ref sig .tc := ⟨.hbm, 195, rfl⟩
abbrev main_call4_v1 : Ref sig .tc := ⟨.hbm, 196, rfl⟩
abbrev main_v157 : Ref sig .tc := ⟨.hbm, 197, rfl⟩
abbrev main_cst_23 : Ref sig .tc := ⟨.hbm, 198, rfl⟩
abbrev main_call5_v0 : Ref sig .tc := ⟨.hbm, 199, rfl⟩
abbrev main_call5_v1 : Ref sig .tc := ⟨.hbm, 200, rfl⟩
abbrev main_v158 : Ref sig .tc := ⟨.hbm, 201, rfl⟩
abbrev main_cst_24 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_call6_call0_c : Ref sig .tc := ⟨.hbm, 206, rfl⟩
abbrev main_call6_call0_v0 : Ref sig .tc := ⟨.hbm, 207, rfl⟩
abbrev main_v162 : Ref sig .tc := ⟨.hbm, 208, rfl⟩
abbrev main_c_25 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_26 : Ref sig .tc := ⟨.hbm, 213, rfl⟩
abbrev main_call7_v0 : Ref sig .tc := ⟨.hbm, 214, rfl⟩
abbrev main_call7_v1 : Ref sig .tc := ⟨.hbm, 215, rfl⟩
abbrev main_v166 : Ref sig .tc := ⟨.hbm, 216, rfl⟩
abbrev main_cst_27 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_c_28 : Ref sig .tc := ⟨.hbm, 221, rfl⟩
abbrev main_v170 : Ref sig .tc := ⟨.hbm, 222, rfl⟩
abbrev main_c_29 : Ref sig .tc := ⟨.hbm, 223, rfl⟩
abbrev main_v171 : Ref sig .tc := ⟨.hbm, 224, rfl⟩
abbrev main_cst_30 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_call8_call0_c : Ref sig .tc := ⟨.hbm, 229, rfl⟩
abbrev main_call8_call0_v0 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_31 : Ref sig .tc := ⟨.hbm, 235, rfl⟩
abbrev main_call9_v0 : Ref sig .tc := ⟨.hbm, 236, rfl⟩
abbrev main_call9_v1 : Ref sig .tc := ⟨.hbm, 237, rfl⟩
abbrev main_v179 : Ref sig .tc := ⟨.hbm, 238, rfl⟩
abbrev main_c_32 : Ref sig .tc := ⟨.hbm, 239, rfl⟩
abbrev main_v180 : Ref sig .tc := ⟨.hbm, 240, rfl⟩
abbrev main_v181 : Ref sig .tc := ⟨.hbm, 241, rfl⟩
abbrev main_c_33 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_c_34 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_35 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_36 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_cst_37 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_cst_38 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_cst_39 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_cst_40 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_cst_41 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_cst_42 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_cst_43 : Ref sig .tc := ⟨.hbm, 321, rfl⟩
abbrev main_call10_v0 : Ref sig .tc := ⟨.hbm, 322, rfl⟩
abbrev main_call10_v1 : Ref sig .tc := ⟨.hbm, 323, rfl⟩
abbrev main_call10_v2 : Ref sig .tc := ⟨.hbm, 324, rfl⟩
abbrev main_v251 : Ref sig .tc := ⟨.hbm, 325, rfl⟩
abbrev main_cst_44 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_cst_45 : Ref sig .tc := ⟨.hbm, 330, rfl⟩
abbrev main_cst_46 : Ref sig .tc := ⟨.hbm, 331, rfl⟩
abbrev main_call11_v0 : Ref sig .tc := ⟨.hbm, 332, rfl⟩
abbrev main_call11_v1 : Ref sig .tc := ⟨.hbm, 333, rfl⟩
abbrev main_v255 : Ref sig .tc := ⟨.hbm, 334, rfl⟩
abbrev main_cst_47 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_cst_48 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_c_49 : Ref sig .tc := ⟨.hbm, 345, rfl⟩
abbrev main_v264 : Ref sig .tc := ⟨.hbm, 346, rfl⟩
abbrev main_v265 : Ref sig .tc := ⟨.hbm, 347, rfl⟩
abbrev main_cst_50 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_cst_51 : Ref sig .tc := ⟨.hbm, 352, rfl⟩
abbrev main_v269 : Ref sig .tc := ⟨.hbm, 353, rfl⟩
abbrev main_cst_52 : Ref sig .tc := ⟨.hbm, 354, rfl⟩
abbrev main_call12_v0 : Ref sig .tc := ⟨.hbm, 355, rfl⟩
abbrev main_call12_v1 : Ref sig .tc := ⟨.hbm, 356, rfl⟩
abbrev main_call12_v2 : Ref sig .tc := ⟨.hbm, 357, rfl⟩
abbrev main_v270 : Ref sig .tc := ⟨.hbm, 358, rfl⟩
abbrev main_cst_53 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_v279 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩

abbrev nD : Nat := 1
abbrev τ : Topo := Topo.v7x

variable {F : FTy → Type} [FloatOps F]
-- ==== Proof.Kern.Transfer.lean ====
/- The kernel as it is printed and the kernel as it is read over the reals are one program: no operation is rewritten between
   the two, so each part of the one is, by unfolding, the part of the other, at any floats. -/
module

public import proofs.«01_k».proof.Proof.Gen.Kernel
public import proofs.«01_k».proof.Proof.Gen.KernelIdeal

@[expose] public section

set_option maxRecDepth 16384

noncomputable section

namespace Cert.Same

open Idealize.ShloMosaic Idealize.SL.Sem

variable {F : FTy → Type} [FloatOps F]

/-! ## The anchor tables -/

theorem lit0_eq : Cert.Kernel.lit0 = Cert.KernelIdeal.lit0 := by with_unfolding_all rfl
theorem lit1_eq : Cert.Kernel.lit1 = Cert.KernelIdeal.lit1 := by with_unfolding_all rfl
theorem lit2_eq : Cert.Kernel.lit2 = Cert.KernelIdeal.lit2 := by with_unfolding_all rfl
theorem lit3_eq : Cert.Kernel.lit3 = Cert.KernelIdeal.lit3 := by with_unfolding_all rfl
theorem lit4_eq : Cert.Kernel.lit4 = Cert.KernelIdeal.lit4 := by with_unfolding_all rfl
theorem lit5_eq : Cert.Kernel.lit5 = Cert.KernelIdeal.lit5 := by with_unfolding_all rfl

/-! ## The body, the launch and the host lines -/

set_option maxHeartbeats 1000000 in
/-- The two bodies are one. -/
theorem body_eq : Cert.Kernel.cc0__body (F := F) = Cert.KernelIdeal.cc0__body (F := F) := by with_unfolding_all rfl

set_option maxHeartbeats 1000000 in
/-- The two body tables are one. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    dsimp only
    rw [body_eq]

set_option maxHeartbeats 1000000 in
/-- The two tables of regions are one. -/
theorem defs_eq : Cert.Kernel.defs (F := F) = Cert.KernelIdeal.defs (F := F) := by
  unfold Cert.Kernel.defs Cert.KernelIdeal.defs
  rw [defs₀_eq]
  rfl

set_option maxHeartbeats 4000000 in
/-- The two programs' host lines are one. -/
theorem main_eq : Cert.Kernel.main (F := F) = Cert.KernelIdeal.main (F := F) := by
  unfold Cert.Kernel.main Cert.KernelIdeal.main
  rw [lit0_eq, lit1_eq, lit2_eq, lit3_eq, lit4_eq, lit5_eq]
  rfl

/-- What every run of the one does, every run of the other does. -/
theorem run_of (m : (ℓ : Loc Cert.Kernel.nD Cert.Kernel.τ Cert.Kernel.sig) → Buf (Elt F) ℓ) (g : Dev Cert.Kernel.nD → PrngReg)
    {Q : PUnit × MemSt Cert.Kernel.nD Cert.Kernel.τ Cert.Kernel.sig (Elt F) → Prop}
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq, main_eq]
  exact h

end Cert.Same

end
-- ==== Proof.Ref.Ops.lean ====
/- The reference's host program as a list of operations: each printed part of @main is the run of its part of the list. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v16`, named. It packs its operands into a list of dependent pairs
    whose shapes a later argument's type mentions, so `simp` cannot rewrite an operand where it stands; applied by
    name, the operands are plain arguments, which the window lemmas below rewrite before the name unfolds. -/
def fn_main_v16 : (main_v12 : Ref sig .tc).ty.Contents (Elt F) → (main_v13 : Ref sig .tc).ty.Contents (Elt F) → (main_v14 : Ref sig .tc).ty.Contents (Elt F) → (main_v15 : Ref sig .tc).ty.Contents (Elt F) → (main_v16 : Ref sig .tc).ty.Contents (Elt F) :=
  (fun u0 u1 u2 u3 => (concatenate S4096x4 1 [⟨S4096x1, (u0 : (⟨S4096x1, .f32⟩ : BufTy).Contents (Elt F))⟩, ⟨S4096x1, (u1 : (⟨S4096x1, .f32⟩ : BufTy).Contents (Elt F))⟩, ⟨S4096x1, (u2 : (⟨S4096x1, .f32⟩ : BufTy).Contents (Elt F))⟩, ⟨S4096x1, (u3 : (⟨S4096x1, .f32⟩ : BufTy).Contents (Elt F))⟩] concatenates_S4096x1_S4096x1_S4096x1_S4096x1_S4096x4_d1 : (⟨S4096x4, .f32⟩ : BufTy).Contents (Elt F)))

/-- The function of the operation that writes `main_v187`, named. It packs its operands into a list of dependent pairs
    whose shapes a later argument's type mentions, so `simp` cannot rewrite an operand where it stands; applied by
    name, the operands are plain arguments, which the window lemmas below rewrite before the name unfolds. -/
def fn_main_v187 : (⟨S36864x1, .i32⟩ : BufTy).Contents (Elt F) → (⟨S36864x1, .i32⟩ : BufTy).Contents (Elt F) → (⟨S36864x2, .i32⟩ : BufTy).Contents (Elt F) :=
  (fun a b => concatenate S36864x2 1 [⟨S36864x1, a⟩, ⟨S36864x1, b⟩] concatenates_S36864x1_S36864x1_S36864x2_d1)

/-- The function of the operation that writes `main_v249`, named. It packs its operands into a list of dependent pairs
    whose shapes a later argument's type mentions, so `simp` cannot rewrite an operand where it stands; applied by
    name, the operands are plain arguments, which the window lemmas below rewrite before the name unfolds. -/
def fn_main_v249 : (main_v245 : Ref sig .tc).ty.Contents (Elt F) → (main_v246 : Ref sig .tc).ty.Contents (Elt F) → (main_v247 : Ref sig .tc).ty.Contents (Elt F) → (main_v248 : Ref sig .tc).ty.Contents (Elt F) → (main_v249 : Ref sig .tc).ty.Contents (Elt F) :=
  (fun u0 u1 u2 u3 => (concatenate S36864x4 1 [⟨S36864x1, (u0 : (⟨S36864x1, .f32⟩ : BufTy).Contents (Elt F))⟩, ⟨S36864x1, (u1 : (⟨S36864x1, .f32⟩ : BufTy).Contents (Elt F))⟩, ⟨S36864x1, (u2 : (⟨S36864x1, .f32⟩ : BufTy).Contents (Elt F))⟩, ⟨S36864x1, (u3 : (⟨S36864x1, .f32⟩ : BufTy).Contents (Elt F))⟩] concatenates_S36864x1_S36864x1_S36864x1_S36864x1_S36864x4_d1 : (⟨S36864x4, .f32⟩ : BufTy).Contents (Elt F)))

/-- @main's operations 1 … 60 of 370 (window `main_part0`). -/
abbrev ops_part0 : List (HloOp τ sig (Elt F)) :=
  [ nullary main_cst (fun i => FloatOps.ofBits .f32 (lit0 (S9x4.rowMajor i))),
    nullary main_v0 (sitofp .f32 (iotaInDim S64 32 0)),
    nullary main_cst_0 (constant S_ .f32 0x41800000#32),
    unary main_cst_0 main_v1 (broadcastInDim S64 ![] bcast_S_S64 : (⟨S_, .f32⟩ : BufTy).Contents (Elt F) → (⟨S64, .f32⟩ : BufTy).Contents (Elt F)),
    binary main_v0 main_v1 main_v2 (mulf : (⟨S64, .f32⟩ : BufTy).Contents (Elt F) → (⟨S64, .f32⟩ : BufTy).Contents (Elt F) → (⟨S64, .f32⟩ : BufTy).Contents (Elt F)),
    nullary main_v3 (sitofp .f32 (iotaInDim S64 32 0)),
    nullary main_cst_1 (constant S_ .f32 0x41800000#32),
    unary main_cst_1 main_v4 (broadcastInDim S64 ![] bcast_S_S64 : (⟨S_, .f32⟩ : BufTy).Contents (Elt F) → (⟨S64, .f32⟩ : BufTy).Contents (Elt F)),
    binary main_v3 main_v4 main_v5 (mulf : (⟨S64, .f32⟩ : BufTy).Contents (Elt F) → (⟨S64, .f32⟩ : BufTy).Contents (Elt F) → (⟨S64, .f32⟩ : BufTy).Contents (Elt F)),
    unary main_v5 main_v6 (broadcastInDim S64x64 ![0] bcast_S64_S64x64_0 : (⟨S64, .f32⟩ : BufTy).Contents (Elt F) → (⟨S64x64, .f32⟩ : BufTy).Contents (Elt F)),
    unary main_v2 main_v7 (broadcastInDim S64x64 ![1] bcast_S64_S64x64_1 : (⟨S64, .f32⟩ : BufTy).Contents (Elt F) → (⟨S64x64, .f32⟩ : BufTy).Contents (Elt F)),
    reshape main_v7 main_v8 (rfl : (.f32 : EltTy) = .f32) shapeCasts_S64x64_S4096,
    reshape main_v6 main_v9 (rfl : (.f32 : EltTy) = .f32) shapeCasts_S64x64_S4096,
    reshape main_v7 main_v10 (rfl : (.f32 : EltTy) = .f32) shapeCasts_S64x64_S4096,
    reshape main_v6 main_v11 (rfl : (.f32 : EltTy) = .f32) shapeCasts_S64x64_S4096,
    unary main_v8 main_v12 (broadcastInDim S4096x1 ![0] bcast_S4096_S4096x1_0 : (⟨S4096, .f32⟩ : BufTy).Contents (Elt F) → (⟨S4096x1, .f32⟩ : BufTy).Contents (Elt F)),
    unary main_v9 main_v13 (broadcastInDim S4096x1 ![0] bcast_S4096_S4096x1_0 : (⟨S4096, .f32⟩ : BufTy).Contents (Elt F) → (⟨S4096x1, .f32⟩ : BufTy).Contents (Elt F)),
    unary main_v10 main_v14 (broadcastInDim S4096x1 ![0] bcast_S4096_S4096x1_0 : (⟨S4096, .f32⟩ : BufTy).Contents (Elt F) → (⟨S4096x1, .f32⟩ : BufTy).Contents (Elt F)),
    unary main_v11 main_v15 (broadcastInDim S4096x1 ![0] bcast_S4096_S4096x1_0 : (⟨S4096, .f32⟩ : BufTy).Contents (Elt F) → (⟨S4096x1, .f32⟩ : BufTy).Contents (Elt F)),
    nary ![main_v12, main_v13, main_v14, main_v15] main_v16 (fun u => fn_main_v16 (F := F) (u 0) (u 1) (u 2) (u 3)),
    unary main_cst main_v17 (broadcastInDim S1x9x4 ![1, 2] bcast_S9x4_S1x9x4_1_2 : (⟨S9x4, .f32⟩ : BufTy).Contents (Elt F) → (⟨S1x9x4, .f32⟩ : BufTy).Contents (Elt F)),
    unary main_v16 main_v18 (broadcastInDim S4096x1x4 ![0, 2] bcast_S4096x4_S4096x1x4_0_2 : (⟨S4096x4, .f32⟩ : BufTy).Contents (Elt F) → (⟨S4096x1x4, .f32⟩ : BufTy).Contents (Elt F)),
    unary main_v17 main_v19 (broadcastInDim S4096x9x4 ![0, 1, 2] bcast_S1x9x4_S4096x9x4_0_1_2 : (⟨S1x9x4, .f32⟩ : BufTy).Contents (Elt F) → (⟨S4096x9x4, .f32⟩ : BufTy).Contents (Elt F)),
    unary main_v18 main_v20 (broadcastInDim S4096x9x4 ![0, 1, 2] bcast_S4096x1x4_S4096x9x4_0_1_2 : (⟨S4096x1x4, .f32⟩ : BufTy).Contents (Elt F) → (⟨S4096x9x4, .f32⟩ : BufTy).Contents (Elt F)),
    binary main_v19 main_v20 main_v21 (addf : (⟨S4096x9x4, .f32⟩ : BufTy).Contents (Elt F) → (⟨S4096x9x4, .f32⟩ : BufTy).Contents (Elt F) → (⟨S4096x9x4, .f32⟩ : BufTy).Contents (Elt F)),
    reshape main_v21 main_v22 (rfl : (.f32 : EltTy) = .f32) shapeCasts_S4096x9x4_S36864x4,
    reshape main_arg2 main_v23 (rfl : (.f32 : EltTy) = .f32) shapeCasts_S1x3_S3,
    unary main_v22 main_v24 ((extractStridedSlice S36864x1 ![0, 0] · slices_S36864x4_S36864x1_0_0) : (⟨S36864x4, .f32⟩ : BufTy).Contents (Elt F) → (⟨S36864x1, .f32⟩ : BufTy).Contents (Elt F)),
    reshape main_v24 main_v25 (rfl : (.f32 : EltTy) = .f32) shapeCasts_S36864x1_S36864,
    nullary main_cst_2 (constant S_ .f32 0x00000000#32),
    unary main_cst_2 main_v26 (broadcastInDim S36864 ![] bcast_S_S36864 : (⟨S_, .f32⟩ : BufTy).Contents (Elt F) → (⟨S36864, .f32⟩ : BufTy).Contents (Elt F)),
    binary main_v25 main_v26 main_v27 (cmpf .oge : (⟨S36864, .f32⟩ : BufTy).Contents (Elt F) → (⟨S36864, .f32⟩ : BufTy).Contents (Elt F) → (⟨S36864, .i1⟩ : BufTy).Contents (Elt F)),
    unary main_v22 main_v28 ((extractStridedSlice S36864x1 ![0, 1] · slices_S36864x4_S36864x1_0_1) : (⟨S36864x4, .f32⟩ : BufTy).Contents (Elt F) → (⟨S36864x1, .f32⟩ : BufTy).Contents (Elt F)),
    reshape main_v28 main_v29 (rfl : (.f32 : EltTy) = .f32) shapeCasts_S36864x1_S36864,
    nullary main_cst_3 (constant S_ .f32 0x00000000#32),
    unary main_cst_3 main_v30 (broadcastInDim S36864 ![] bcast_S_S36864 : (⟨S_, .f32⟩ : BufTy).Contents (Elt F) → (⟨S36864, .f32⟩ : BufTy).Contents (Elt F)),
    binary main_v29 main_v30 main_v31 (cmpf .oge : (⟨S36864, .f32⟩ : BufTy).Contents (Elt F) → (⟨S36864, .f32⟩ : BufTy).Contents (Elt F) → (⟨S36864, .i1⟩ : BufTy).Contents (Elt F)),
    binary main_v27 main_v31 main_v32 (andi : (⟨S36864, .i1⟩ : BufTy).Contents (Elt F) → (⟨S36864, .i1⟩ : BufTy).Contents (Elt F) → (⟨S36864, .i1⟩ : BufTy).Contents (Elt F)),
    unary main_v22 main_v33 ((extractStridedSlice S36864x1 ![0, 2] · slices_S36864x4_S36864x1_0_2) : (⟨S36864x4, .f32⟩ : BufTy).Contents (Elt F) → (⟨S36864x1, .f32⟩ : BufTy).Contents (Elt F)),
    reshape main_v33 main_v34 (rfl : (.f32 : EltTy) = .f32) shapeCasts_S36864x1_S36864,
    unary main_v23 main_v35 ((extractStridedSlice S1 ![1] · slices_S3_S1_1) : (⟨S3, .f32⟩ : BufTy).Contents (Elt F) → (⟨S1, .f32⟩ : BufTy).Contents (Elt F)),
    reshape main_v35 main_v36 (rfl : (.f32 : EltTy) = .f32) shapeCasts_S1_S_,
    unary main_v36 main_v37 (broadcastInDim S36864 ![] bcast_S_S36864 : (⟨S_, .f32⟩ : BufTy).Contents (Elt F) → (⟨S36864, .f32⟩ : BufTy).Contents (Elt F)),
    binary main_v34 main_v37 main_v38 (cmpf .olt : (⟨S36864, .f32⟩ : BufTy).Contents (Elt F) → (⟨S36864, .f32⟩ : BufTy).Contents (Elt F) → (⟨S36864, .i1⟩ : BufTy).Contents (Elt F)),
    binary main_v32 main_v38 main_v39 (andi : (⟨S36864, .i1⟩ : BufTy).Contents (Elt F) → (⟨S36864, .i1⟩ : BufTy).Contents (Elt F) → (⟨S36864, .i1⟩ : BufTy).Contents (Elt F)),
    unary main_v22 main_v40 ((extractStridedSlice S36864x1 ![0, 3] · slices_S36864x4_S36864x1_0_3) : (⟨S36864x4, .f32⟩ : BufTy).Contents (Elt F) → (⟨S36864x1, .f32⟩ : BufTy).Contents (Elt F)),
    reshape main_v40 main_v41 (rfl : (.f32 : EltTy) = .f32) shapeCasts_S36864x1_S36864,
    unary main_v23 main_v42 ((extractStridedSlice S1 ![0] · slices_S3_S1_0) : (⟨S3, .f32⟩ : BufTy).Contents (Elt F) → (⟨S1, .f32⟩ : BufTy).Contents (Elt F)),
    reshape main_v42 main_v43 (rfl : (.f32 : EltTy) = .f32) shapeCasts_S1_S_,
    unary main_v43 main_v44 (broadcastInDim S36864 ![] bcast_S_S36864 : (⟨S_, .f32⟩ : BufTy).Contents (Elt F) → (⟨S36864, .f32⟩ : BufTy).Contents (Elt F)),
    binary main_v41 main_v44 main_v45 (cmpf .olt : (⟨S36864, .f32⟩ : BufTy).Contents (Elt F) → (⟨S36864, .f32⟩ : BufTy).Contents (Elt F) → (⟨S36864, .i1⟩ : BufTy).Contents (Elt F)),
    binary main_v39 main_v45 main_v46 (andi : (⟨S36864, .i1⟩ : BufTy).Contents (Elt F) → (⟨S36864, .i1⟩ : BufTy).Contents (Elt F) → (⟨S36864, .i1⟩ : BufTy).Contents (Elt F)),
    unary main_arg1 main_v47 ((extractStridedSlice S100x4 ![0, 0] · slices_S100x5_S100x4_0_0) : (⟨S100x5, .f32⟩ : BufTy).Contents (Elt F) → (⟨S100x4, .f32⟩ : BufTy).Contents (Elt F)),
    unary main_v22 main_v48 ((extractStridedSlice S36864x1 ![0, 2] · slices_S36864x4_S36864x1_0_2) : (⟨S36864x4, .f32⟩ : BufTy).Contents (Elt F) → (⟨S36864x1, .f32⟩ : BufTy).Contents (Elt F)),
    reshape main_v48 main_v49 (rfl : (.f32 : EltTy) = .f32) shapeCasts_S36864x1_S36864,
    unary main_v22 main_v50 ((extractStridedSlice S36864x1 ![0, 0] · slices_S36864x4_S36864x1_0_0) : (⟨S36864x4, .f32⟩ : BufTy).Contents (Elt F) → (⟨S36864x1, .f32⟩ : BufTy).Contents (Elt F)),
    reshape main_v50 main_v51 (rfl : (.f32 : EltTy) = .f32) shapeCasts_S36864x1_S36864,
    binary main_v49 main_v51 main_v52 (subf : (⟨S36864, .f32⟩ : BufTy).Contents (Elt F) → (⟨S36864, .f32⟩ : BufTy).Contents (Elt F) → (⟨S36864, .f32⟩ : BufTy).Contents (Elt F)),
    nullary main_cst_4 (constant S_ .f32 0x3F800000#32),
    unary main_cst_4 main_v53 (broadcastInDim S36864 ![] bcast_S_S36864 : (⟨S_, .f32⟩ : BufTy).Contents (Elt F) → (⟨S36864, .f32⟩ : BufTy).Contents (Elt F)) ]

/-- @main's operations 61 … 120 of 370 (window `main_part1`). -/
abbrev ops_part1 : List (HloOp τ sig (Elt F)) :=
  [ binary main_v52 main_v53 main_v54 (addf : (⟨S36864, .f32⟩ : BufTy).Contents (Elt F) → (⟨S36864, .f32⟩ : BufTy).Contents (Elt F) → (⟨S36864, .f32⟩ : BufTy).Contents (Elt F)),
    unary main_v22 main_v55 ((extractStridedSlice S36864x1 ![0, 3] · slices_S36864x4_S36864x1_0_3) : (⟨S36864x4, .f32⟩ : BufTy).Contents (Elt F) → (⟨S36864x1, .f32⟩ : BufTy).Contents (Elt F)),
    reshape main_v55 main_v56 (rfl : (.f32 : EltTy) = .f32) shapeCasts_S36864x1_S36864,
    unary main_v22 main_v57 ((extractStridedSlice S36864x1 ![0, 1] · slices_S36864x4_S36864x1_0_1) : (⟨S36864x4, .f32⟩ : BufTy).Contents (Elt F) → (⟨S36864x1, .f32⟩ : BufTy).Contents (Elt F)),
    reshape main_v57 main_v58 (rfl : (.f32 : EltTy) = .f32) shapeCasts_S36864x1_S36864,
    binary main_v56 main_v58 main_v59 (subf : (⟨S36864, .f32⟩ : BufTy).Contents (Elt F) → (⟨S36864, .f32⟩ : BufTy).Contents (Elt F) → (⟨S36864, .f32⟩ : BufTy).Contents (Elt F)),
    nullary main_cst_5 (constant S_ .f32 0x3F800000#32),
    unary main_cst_5 main_v60 (broadcastInDim S36864 ![] bcast_S_S36864 : (⟨S_, .f32⟩ : BufTy).Contents (Elt F) → (⟨S36864, .f32⟩ : BufTy).Contents (Elt F)),
    binary main_v59 main_v60 main_v61 (addf : (⟨S36864, .f32⟩ : BufTy).Contents (Elt F) → (⟨S36864, .f32⟩ : BufTy).Contents (Elt F) → (⟨S36864, .f32⟩ : BufTy).Contents (Elt F)),
    binary main_v54 main_v61 main_v62 (mulf : (⟨S36864, .f32⟩ : BufTy).Contents (Elt F) → (⟨S36864, .f32⟩ : BufTy).Contents (Elt F) → (⟨S36864, .f32⟩ : BufTy).Contents (Elt F)),
    unary main_v47 main_v63 ((extractStridedSlice S100x1 ![0, 2] · slices_S100x4_S100x1_0_2) : (⟨S100x4, .f32⟩ : BufTy).Contents (Elt F) → (⟨S100x1, .f32⟩ : BufTy).Contents (Elt F)),
    reshape main_v63 main_v64 (rfl : (.f32 : EltTy) = .f32) shapeCasts_S100x1_S100,
    unary main_v47 main_v65 ((extractStridedSlice S100x1 ![0, 0] · slices_S100x4_S100x1_0_0) : (⟨S100x4, .f32⟩ : BufTy).Contents (Elt F) → (⟨S100x1, .f32⟩ : BufTy).Contents (Elt F)),
    reshape main_v65 main_v66 (rfl : (.f32 : EltTy) = .f32) shapeCasts_S100x1_S100,
    binary main_v64 main_v66 main_v67 (subf : (⟨S100, .f32⟩ : BufTy).Contents (Elt F) → (⟨S100, .f32⟩ : BufTy).Contents (Elt F) → (⟨S100, .f32⟩ : BufTy).Contents (Elt F)),
    nullary main_cst_6 (constant S_ .f32 0x3F800000#32),
    unary main_cst_6 main_v68 (broadcastInDim S100 ![] bcast_S_S100 : (⟨S_, .f32⟩ : BufTy).Contents (Elt F) → (⟨S100, .f32⟩ : BufTy).Contents (Elt F)),
    binary main_v67 main_v68 main_v69 (addf : (⟨S100, .f32⟩ : BufTy).Contents (Elt F) → (⟨S100, .f32⟩ : BufTy).Contents (Elt F) → (⟨S100, .f32⟩ : BufTy).Contents (Elt F)),
    unary main_v47 main_v70 ((extractStridedSlice S100x1 ![0, 3] · slices_S100x4_S100x1_0_3) : (⟨S100x4, .f32⟩ : BufTy).Contents (Elt F) → (⟨S100x1, .f32⟩ : BufTy).Contents (Elt F)),
    reshape main_v70 main_v71 (rfl : (.f32 : EltTy) = .f32) shapeCasts_S100x1_S100,
    unary main_v47 main_v72 ((extractStridedSlice S100x1 ![0, 1] · slices_S100x4_S100x1_0_1) : (⟨S100x4, .f32⟩ : BufTy).Contents (Elt F) → (⟨S100x1, .f32⟩ : BufTy).Contents (Elt F)),
    reshape main_v72 main_v73 (rfl : (.f32 : EltTy) = .f32) shapeCasts_S100x1_S100,
    binary main_v71 main_v73 main_v74 (subf : (⟨S100, .f32⟩ : BufTy).Contents (Elt F) → (⟨S100, .f32⟩ : BufTy).Contents (Elt F) → (⟨S100, .f32⟩ : BufTy).Contents (Elt F)),
    nullary main_cst_7 (constant S_ .f32 0x3F800000#32),
    unary main_cst_7 main_v75 (broadcastInDim S100 ![] bcast_S_S100 : (⟨S_, .f32⟩ : BufTy).Contents (Elt F) → (⟨S100, .f32⟩ : BufTy).Contents (Elt F)),
    binary main_v74 main_v75 main_v76 (addf : (⟨S100, .f32⟩ : BufTy).Contents (Elt F) → (⟨S100, .f32⟩ : BufTy).Contents (Elt F) → (⟨S100, .f32⟩ : BufTy).Contents (Elt F)),
    binary main_v69 main_v76 main_v77 (mulf : (⟨S100, .f32⟩ : BufTy).Contents (Elt F) → (⟨S100, .f32⟩ : BufTy).Contents (Elt F) → (⟨S100, .f32⟩ : BufTy).Contents (Elt F)),
    unary main_v22 main_v78 ((extractStridedSlice S36864x1 ![0, 2] · slices_S36864x4_S36864x1_0_2) : (⟨S36864x4, .f32⟩ : BufTy).Contents (Elt F) → (⟨S36864x1, .f32⟩ : BufTy).Contents (Elt F)),
    reshape main_v78 main_v79 (rfl : (.f32 : EltTy) = .f32) shapeCasts_S36864x1_S36864,
    unary main_v79 main_v80 (broadcastInDim S36864x1 ![0] bcast_S36864_S36864x1_0 : (⟨S36864, .f32⟩ : BufTy).Contents (Elt F) → (⟨S36864x1, .f32⟩ : BufTy).Contents (Elt F)),
    unary main_v47 main_v81 ((extractStridedSlice S100x1 ![0, 2] · slices_S100x4_S100x1_0_2) : (⟨S100x4, .f32⟩ : BufTy).Contents (Elt F) → (⟨S100x1, .f32⟩ : BufTy).Contents (Elt F)),
    reshape main_v81 main_v82 (rfl : (.f32 : EltTy) = .f32) shapeCasts_S100x1_S100,
    unary main_v82 main_v83 (broadcastInDim S1x100 ![1] bcast_S100_S1x100_1 : (⟨S100, .f32⟩ : BufTy).Contents (Elt F) → (⟨S1x100, .f32⟩ : BufTy).Contents (Elt F)),
    unary main_v80 main_v84 (broadcastInDim S36864x100 ![0, 1] bcast_S36864x1_S36864x100_0_1 : (⟨S36864x1, .f32⟩ : BufTy).Contents (Elt F) → (⟨S36864x100, .f32⟩ : BufTy).Contents (Elt F)),
    unary main_v83 main_v85 (broadcastInDim S36864x100 ![0, 1] bcast_S1x100_S36864x100_0_1 : (⟨S1x100, .f32⟩ : BufTy).Contents (Elt F) → (⟨S36864x100, .f32⟩ : BufTy).Contents (Elt F)),
    binary main_v84 main_v85 main_v86 (minimumf : (⟨S36864x100, .f32⟩ : BufTy).Contents (Elt F) → (⟨S36864x100, .f32⟩ : BufTy).Contents (Elt F) → (⟨S36864x100, .f32⟩ : BufTy).Contents (Elt F)),
    unary main_v22 main_v87 ((extractStridedSlice S36864x1 ![0, 0] · slices_S36864x4_S36864x1_0_0) : (⟨S36864x4, .f32⟩ : BufTy).Contents (Elt F) → (⟨S36864x1, .f32⟩ : BufTy).Contents (Elt F)),
    reshape main_v87 main_v88 (rfl : (.f32 : EltTy) = .f32) shapeCasts_S36864x1_S36864,
    unary main_v88 main_v89 (broadcastInDim S36864x1 ![0] bcast_S36864_S36864x1_0 : (⟨S36864, .f32⟩ : BufTy).Contents (Elt F) → (⟨S36864x1, .f32⟩ : BufTy).Contents (Elt F)),
    unary main_v47 main_v90 ((extractStridedSlice S100x1 ![0, 0] · slices_S100x4_S100x1_0_0) : (⟨S100x4, .f32⟩ : BufTy).Contents (Elt F) → (⟨S100x1, .f32⟩ : BufTy).Contents (Elt F)),
    reshape main_v90 main_v91 (rfl : (.f32 : EltTy) = .f32) shapeCasts_S100x1_S100,
    unary main_v91 main_v92 (broadcastInDim S1x100 ![1] bcast_S100_S1x100_1 : (⟨S100, .f32⟩ : BufTy).Contents (Elt F) → (⟨S1x100, .f32⟩ : BufTy).Contents (Elt F)),
    unary main_v89 main_v93 (broadcastInDim S36864x100 ![0, 1] bcast_S36864x1_S36864x100_0_1 : (⟨S36864x1, .f32⟩ : BufTy).Contents (Elt F) → (⟨S36864x100, .f32⟩ : BufTy).Contents (Elt F)),
    unary main_v92 main_v94 (broadcastInDim S36864x100 ![0, 1] bcast_S1x100_S36864x100_0_1 : (⟨S1x100, .f32⟩ : BufTy).Contents (Elt F) → (⟨S36864x100, .f32⟩ : BufTy).Contents (Elt F)),
    binary main_v93 main_v94 main_v95 (maximumf : (⟨S36864x100, .f32⟩ : BufTy).Contents (Elt F) → (⟨S36864x100, .f32⟩ : BufTy).Contents (Elt F) → (⟨S36864x100, .f32⟩ : BufTy).Contents (Elt F)),
    binary main_v86 main_v95 main_v96 (subf : (⟨S36864x100, .f32⟩ : BufTy).Contents (Elt F) → (⟨S36864x100, .f32⟩ : BufTy).Contents (Elt F) → (⟨S36864x100, .f32⟩ : BufTy).Contents (Elt F)),
    nullary main_cst_8 (constant S_ .f32 0x3F800000#32),
    unary main_cst_8 main_v97 (broadcastInDim S36864x100 ![] bcast_S_S36864x100 : (⟨S_, .f32⟩ : BufTy).Contents (Elt F) → (⟨S36864x100, .f32⟩ : BufTy).Contents (Elt F)),
    binary main_v96 main_v97 main_v98 (addf : (⟨S36864x100, .f32⟩ : BufTy).Contents (Elt F) → (⟨S36864x100, .f32⟩ : BufTy).Contents (Elt F) → (⟨S36864x100, .f32⟩ : BufTy).Contents (Elt F)),
    unary main_v22 main_v99 ((extractStridedSlice S36864x1 ![0, 3] · slices_S36864x4_S36864x1_0_3) : (⟨S36864x4, .f32⟩ : BufTy).Contents (Elt F) → (⟨S36864x1, .f32⟩ : BufTy).Contents (Elt F)),
    reshape main_v99 main_v100 (rfl : (.f32 : EltTy) = .f32) shapeCasts_S36864x1_S36864,
    unary main_v100 main_v101 (broadcastInDim S36864x1 ![0] bcast_S36864_S36864x1_0 : (⟨S36864, .f32⟩ : BufTy).Contents (Elt F) → (⟨S36864x1, .f32⟩ : BufTy).Contents (Elt F)),
    unary main_v47 main_v102 ((extractStridedSlice S100x1 ![0, 3] · slices_S100x4_S100x1_0_3) : (⟨S100x4, .f32⟩ : BufTy).Contents (Elt F) → (⟨S100x1, .f32⟩ : BufTy).Contents (Elt F)),
    reshape main_v102 main_v103 (rfl : (.f32 : EltTy) = .f32) shapeCasts_S100x1_S100,
    unary main_v103 main_v104 (broadcastInDim S1x100 ![1] bcast_S100_S1x100_1 : (⟨S100, .f32⟩ : BufTy).Contents (Elt F) → (⟨S1x100, .f32⟩ : BufTy).Contents (Elt F)),
    unary main_v101 main_v105 (broadcastInDim S36864x100 ![0, 1] bcast_S36864x1_S36864x100_0_1 : (⟨S36864x1, .f32⟩ : BufTy).Contents (Elt F) → (⟨S36864x100, .f32⟩ : BufTy).Contents (Elt F)),
    unary main_v104 main_v106 (broadcastInDim S36864x100 ![0, 1] bcast_S1x100_S36864x100_0_1 : (⟨S1x100, .f32⟩ : BufTy).Contents (Elt F) → (⟨S36864x100, .f32⟩ : BufTy).Contents (Elt F)),
    binary main_v105 main_v106 main_v107 (minimumf : (⟨S36864x100, .f32⟩ : BufTy).Contents (Elt F) → (⟨S36864x100, .f32⟩ : BufTy).Contents (Elt F) → (⟨S36864x100, .f32⟩ : BufTy).Contents (Elt F)),
    unary main_v22 main_v108 ((extractStridedSlice S36864x1 ![0, 1] · slices_S36864x4_S36864x1_0_1) : (⟨S36864x4, .f32⟩ : BufTy).Contents (Elt F) → (⟨S36864x1, .f32⟩ : BufTy).Contents (Elt F)),
    reshape main_v108 main_v109 (rfl : (.f32 : EltTy) = .f32) shapeCasts_S36864x1_S36864 ]

/-- @main's operations 121 … 150 of 370 (window `main_part2`). -/
abbrev ops_part2_0 : List (HloOp τ sig (Elt F)) :=
  [ unary main_v109 main_v110 (broadcastInDim S36864x1 ![0] bcast_S36864_S36864x1_0 : (⟨S36864, .f32⟩ : BufTy).Contents (Elt F) → (⟨S36864x1, .f32⟩ : BufTy).Contents (Elt F)),
    unary main_v47 main_v111 ((extractStridedSlice S100x1 ![0, 1] · slices_S100x4_S100x1_0_1) : (⟨S100x4, .f32⟩ : BufTy).Contents (Elt F) → (⟨S100x1, .f32⟩ : BufTy).Contents (Elt F)),
    reshape main_v111 main_v112 (rfl : (.f32 : EltTy) = .f32) shapeCasts_S100x1_S100,
    unary main_v112 main_v113 (broadcastInDim S1x100 ![1] bcast_S100_S1x100_1 : (⟨S100, .f32⟩ : BufTy).Contents (Elt F) → (⟨S1x100, .f32⟩ : BufTy).Contents (Elt F)),
    unary main_v110 main_v114 (broadcastInDim S36864x100 ![0, 1] bcast_S36864x1_S36864x100_0_1 : (⟨S36864x1, .f32⟩ : BufTy).Contents (Elt F) → (⟨S36864x100, .f32⟩ : BufTy).Contents (Elt F)),
    unary main_v113 main_v115 (broadcastInDim S36864x100 ![0, 1] bcast_S1x100_S36864x100_0_1 : (⟨S1x100, .f32⟩ : BufTy).Contents (Elt F) → (⟨S36864x100, .f32⟩ : BufTy).Contents (Elt F)),
    binary main_v114 main_v115 main_v116 (maximumf : (⟨S36864x100, .f32⟩ : BufTy).Contents (Elt F) → (⟨S36864x100, .f32⟩ : BufTy).Contents (Elt F) → (⟨S36864x100, .f32⟩ : BufTy).Contents (Elt F)),
    binary main_v107 main_v116 main_v117 (subf : (⟨S36864x100, .f32⟩ : BufTy).Contents (Elt F) → (⟨S36864x100, .f32⟩ : BufTy).Contents (Elt F) → (⟨S36864x100, .f32⟩ : BufTy).Contents (Elt F)),
    nullary main_cst_9 (constant S_ .f32 0x3F800000#32),
    unary main_cst_9 main_v118 (broadcastInDim S36864x100 ![] bcast_S_S36864x100 : (⟨S_, .f32⟩ : BufTy).Contents (Elt F) → (⟨S36864x100, .f32⟩ : BufTy).Contents (Elt F)),
    binary main_v117 main_v118 main_v119 (addf : (⟨S36864x100, .f32⟩ : BufTy).Contents (Elt F) → (⟨S36864x100, .f32⟩ : BufTy).Contents (Elt F) → (⟨S36864x100, .f32⟩ : BufTy).Contents (Elt F)),
    nullary main_cst_10 (constant S_ .f32 0x00000000#32),
    unary main_cst_10 main_v120 (broadcastInDim S36864x100 ![] bcast_S_S36864x100 : (⟨S_, .f32⟩ : BufTy).Contents (Elt F) → (⟨S36864x100, .f32⟩ : BufTy).Contents (Elt F)),
    binary main_v98 main_v120 main_v121 (maximumf : (⟨S36864x100, .f32⟩ : BufTy).Contents (Elt F) → (⟨S36864x100, .f32⟩ : BufTy).Contents (Elt F) → (⟨S36864x100, .f32⟩ : BufTy).Contents (Elt F)),
    nullary main_cst_11 (constant S_ .f32 0x00000000#32),
    unary main_cst_11 main_v122 (broadcastInDim S36864x100 ![] bcast_S_S36864x100 : (⟨S_, .f32⟩ : BufTy).Contents (Elt F) → (⟨S36864x100, .f32⟩ : BufTy).Contents (Elt F)),
    binary main_v119 main_v122 main_v123 (maximumf : (⟨S36864x100, .f32⟩ : BufTy).Contents (Elt F) → (⟨S36864x100, .f32⟩ : BufTy).Contents (Elt F) → (⟨S36864x100, .f32⟩ : BufTy).Contents (Elt F)),
    binary main_v121 main_v123 main_v124 (mulf : (⟨S36864x100, .f32⟩ : BufTy).Contents (Elt F) → (⟨S36864x100, .f32⟩ : BufTy).Contents (Elt F) → (⟨S36864x100, .f32⟩ : BufTy).Contents (Elt F)),
    unary main_v62 main_v125 (broadcastInDim S36864x1 ![0] bcast_S36864_S36864x1_0 : (⟨S36864, .f32⟩ : BufTy).Contents (Elt F) → (⟨S36864x1, .f32⟩ : BufTy).Contents (Elt F)),
    unary main_v77 main_v126 (broadcastInDim S1x100 ![1] bcast_S100_S1x100_1 : (⟨S100, .f32⟩ : BufTy).Contents (Elt F) → (⟨S1x100, .f32⟩ : BufTy).Contents (Elt F)),
    unary main_v125 main_v127 (broadcastInDim S36864x100 ![0, 1] bcast_S36864x1_S36864x100_0_1 : (⟨S36864x1, .f32⟩ : BufTy).Contents (Elt F) → (⟨S36864x100, .f32⟩ : BufTy).Contents (Elt F)),
    unary main_v126 main_v128 (broadcastInDim S36864x100 ![0, 1] bcast_S1x100_S36864x100_0_1 : (⟨S1x100, .f32⟩ : BufTy).Contents (Elt F) → (⟨S36864x100, .f32⟩ : BufTy).Contents (Elt F)),
    binary main_v127 main_v128 main_v129 (addf : (⟨S36864x100, .f32⟩ : BufTy).Contents (Elt F) → (⟨S36864x100, .f32⟩ : BufTy).Contents (Elt F) → (⟨S36864x100, .f32⟩ : BufTy).Contents (Elt F)),
    binary main_v129 main_v124 main_v130 (subf : (⟨S36864x100, .f32⟩ : BufTy).Contents (Elt F) → (⟨S36864x100, .f32⟩ : BufTy).Contents (Elt F) → (⟨S36864x100, .f32⟩ : BufTy).Contents (Elt F)),
    binary main_v124 main_v130 main_v131 (Host.divf : (⟨S36864x100, .f32⟩ : BufTy).Contents (Elt F) → (⟨S36864x100, .f32⟩ : BufTy).Contents (Elt F) → (⟨S36864x100, .f32⟩ : BufTy).Contents (Elt F)),
    unary main_v46 main_v132 (broadcastInDim S36864x1 ![0] bcast_S36864_S36864x1_0 : (⟨S36864, .i1⟩ : BufTy).Contents (Elt F) → (⟨S36864x1, .i1⟩ : BufTy).Contents (Elt F)),
    nullary main_cst_12 (constant S_ .f32 0xBF800000#32),
    TRef.unary (TRef.of (T := ⟨S_, .f32⟩) main_cst_12) (TRef.of (T := ⟨S_, .f32⟩) main_call0_v0) id,
    TRef.unary (TRef.of (T := ⟨S36864x1, .i1⟩) main_v132) (TRef.of (T := ⟨S36864x100, .i1⟩) main_call0_v1) (broadcastInDim S36864x100 ![0, 1] bcast_S36864x1_S36864x100_0_1),
    TRef.unary (TRef.of (T := ⟨S_, .f32⟩) main_call0_v0) (TRef.of (T := ⟨S36864x100, .f32⟩) main_call0_v2) (broadcastInDim S36864x100 ![] bcast_S_S36864x100) ]

/-- @main's operations 151 … 180 of 370 (window `main_part2`). -/
abbrev ops_part2_1 : List (HloOp τ sig (Elt F)) :=
  [ TRef.ternary (TRef.of (T := ⟨S36864x100, .i1⟩) main_call0_v1) (TRef.of (T := ⟨S36864x100, .f32⟩) main_v131) (TRef.of (T := ⟨S36864x100, .f32⟩) main_call0_v2) (TRef.of (T := ⟨S36864x100, .f32⟩) main_v133) select,
    nullary main_cst_13 (constant S_ .f32 0xFF800000#32),
    binary main_v133 main_cst_13 main_v134 ((fun x v => Host.reduce FloatOps.maximumf x v reducesTo_S36864x100_S36864_d1 h_S_) : (⟨S36864x100, .f32⟩ : BufTy).Contents (Elt F) → (⟨S_, .f32⟩ : BufTy).Contents (Elt F) → (⟨S36864, .f32⟩ : BufTy).Contents (Elt F)),
    unary main_v134 main_v135 (broadcastInDim S36864x1 ![0] bcast_S36864_S36864x1_0 : (⟨S36864, .f32⟩ : BufTy).Contents (Elt F) → (⟨S36864x1, .f32⟩ : BufTy).Contents (Elt F)),
    unary main_v135 main_v136 (broadcastInDim S36864x100 ![0, 1] bcast_S36864x1_S36864x100_0_1 : (⟨S36864x1, .f32⟩ : BufTy).Contents (Elt F) → (⟨S36864x100, .f32⟩ : BufTy).Contents (Elt F)),
    binary main_v133 main_v136 main_v137 (cmpf .oeq : (⟨S36864x100, .f32⟩ : BufTy).Contents (Elt F) → (⟨S36864x100, .f32⟩ : BufTy).Contents (Elt F) → (⟨S36864x100, .i1⟩ : BufTy).Contents (Elt F)),
    nullary main_v138 (iotaInDim S100 32 0),
    unary main_v138 main_v139 (broadcastInDim S1x100 ![1] bcast_S100_S1x100_1 : (⟨S100, .i32⟩ : BufTy).Contents (Elt F) → (⟨S1x100, .i32⟩ : BufTy).Contents (Elt F)),
    nullary main_c (constantI S_ 32 100#32),
    TRef.unary (TRef.of (T := ⟨S_, .i32⟩) main_c) (TRef.of (T := ⟨S_, .i32⟩) main_call1_v0) id,
    TRef.unary (TRef.of (T := ⟨S1x100, .i32⟩) main_v139) (TRef.of (T := ⟨S36864x100, .i32⟩) main_call1_v1) (broadcastInDim S36864x100 ![0, 1] bcast_S1x100_S36864x100_0_1),
    TRef.unary (TRef.of (T := ⟨S_, .i32⟩) main_call1_v0) (TRef.of (T := ⟨S36864x100, .i32⟩) main_call1_v2) (broadcastInDim S36864x100 ![] bcast_S_S36864x100),
    TRef.ternary (TRef.of (T := ⟨S36864x100, .i1⟩) main_v137) (TRef.of (T := ⟨S36864x100, .i32⟩) main_call1_v1) (TRef.of (T := ⟨S36864x100, .i32⟩) main_call1_v2) (TRef.of (T := ⟨S36864x100, .i32⟩) main_v140) select,
    nullary main_c_14 (constantI S_ 32 2147483647#32),
    binary main_v140 main_c_14 main_v141 ((fun x v => Host.reduce IntOp.minsi x v reducesTo_S36864x100_S36864_d1 h_S_) : (⟨S36864x100, .i32⟩ : BufTy).Contents (Elt F) → (⟨S_, .i32⟩ : BufTy).Contents (Elt F) → (⟨S36864, .i32⟩ : BufTy).Contents (Elt F)),
    nullary main_cst_15 (constant S_ .f32 0xFF800000#32),
    binary main_v133 main_cst_15 main_v142 ((fun x v => Host.reduce FloatOps.maximumf x v reducesTo_S36864x100_S100_d0 h_S_) : (⟨S36864x100, .f32⟩ : BufTy).Contents (Elt F) → (⟨S_, .f32⟩ : BufTy).Contents (Elt F) → (⟨S100, .f32⟩ : BufTy).Contents (Elt F)),
    unary main_v142 main_v143 (broadcastInDim S1x100 ![1] bcast_S100_S1x100_1 : (⟨S100, .f32⟩ : BufTy).Contents (Elt F) → (⟨S1x100, .f32⟩ : BufTy).Contents (Elt F)),
    unary main_v143 main_v144 (broadcastInDim S36864x100 ![0, 1] bcast_S1x100_S36864x100_0_1 : (⟨S1x100, .f32⟩ : BufTy).Contents (Elt F) → (⟨S36864x100, .f32⟩ : BufTy).Contents (Elt F)),
    binary main_v133 main_v144 main_v145 (cmpf .oeq : (⟨S36864x100, .f32⟩ : BufTy).Contents (Elt F) → (⟨S36864x100, .f32⟩ : BufTy).Contents (Elt F) → (⟨S36864x100, .i1⟩ : BufTy).Contents (Elt F)),
    unary main_v46 main_v146 (broadcastInDim S36864x1 ![0] bcast_S36864_S36864x1_0 : (⟨S36864, .i1⟩ : BufTy).Contents (Elt F) → (⟨S36864x1, .i1⟩ : BufTy).Contents (Elt F)),
    unary main_v146 main_v147 (broadcastInDim S36864x100 ![0, 1] bcast_S36864x1_S36864x100_0_1 : (⟨S36864x1, .i1⟩ : BufTy).Contents (Elt F) → (⟨S36864x100, .i1⟩ : BufTy).Contents (Elt F)),
    binary main_v145 main_v147 main_v148 (andi : (⟨S36864x100, .i1⟩ : BufTy).Contents (Elt F) → (⟨S36864x100, .i1⟩ : BufTy).Contents (Elt F) → (⟨S36864x100, .i1⟩ : BufTy).Contents (Elt F)),
    nullary main_c_16 (constantI S_ 1 0#1),
    binary main_v148 main_c_16 main_v149 ((fun x v => Host.reduce IntOp.ori x v reducesTo_S36864x100_S36864_d1 h_S_) : (⟨S36864x100, .i1⟩ : BufTy).Contents (Elt F) → (⟨S_, .i1⟩ : BufTy).Contents (Elt F) → (⟨S36864, .i1⟩ : BufTy).Contents (Elt F)),
    nullary main_cst_17 (constant S_ .f32 0xBF800000#32),
    unary main_cst_17 main_v150 (broadcastInDim S36864 ![] bcast_S_S36864 : (⟨S_, .f32⟩ : BufTy).Contents (Elt F) → (⟨S36864, .f32⟩ : BufTy).Contents (Elt F)),
    nullary main_cst_18 (constant S_ .f32 0x3E99999A#32),
    unary main_cst_18 main_v151 (broadcastInDim S36864 ![] bcast_S_S36864 : (⟨S_, .f32⟩ : BufTy).Contents (Elt F) → (⟨S36864, .f32⟩ : BufTy).Contents (Elt F)),
    binary main_v134 main_v151 main_v152 (cmpf .olt : (⟨S36864, .f32⟩ : BufTy).Contents (Elt F) → (⟨S36864, .f32⟩ : BufTy).Contents (Elt F) → (⟨S36864, .i1⟩ : BufTy).Contents (Elt F)) ]

/-- @main's operations 181 … 190 of 370 (window `main_part2`). -/
abbrev ops_part2_2 : List (HloOp τ sig (Elt F)) :=
  [ nullary main_cst_19 (constant S_ .f32 0x00000000#32),
    TRef.unary (TRef.of (T := ⟨S_, .f32⟩) main_cst_19) (TRef.of (T := ⟨S_, .f32⟩) main_call2_v0) id,
    TRef.unary (TRef.of (T := ⟨S_, .f32⟩) main_call2_v0) (TRef.of (T := ⟨S36864, .f32⟩) main_call2_v1) (broadcastInDim S36864 ![] bcast_S_S36864),
    TRef.ternary (TRef.of (T := ⟨S36864, .i1⟩) main_v152) (TRef.of (T := ⟨S36864, .f32⟩) main_call2_v1) (TRef.of (T := ⟨S36864, .f32⟩) main_v150) (TRef.of (T := ⟨S36864, .f32⟩) main_v153) select,
    nullary main_cst_20 (constant S_ .f32 0x3F800000#32),
    TRef.unary (TRef.of (T := ⟨S_, .f32⟩) main_cst_20) (TRef.of (T := ⟨S_, .f32⟩) main_call3_v0) id,
    TRef.unary (TRef.of (T := ⟨S_, .f32⟩) main_call3_v0) (TRef.of (T := ⟨S36864, .f32⟩) main_call3_v1) (broadcastInDim S36864 ![] bcast_S_S36864),
    TRef.ternary (TRef.of (T := ⟨S36864, .i1⟩) main_v149) (TRef.of (T := ⟨S36864, .f32⟩) main_call3_v1) (TRef.of (T := ⟨S36864, .f32⟩) main_v153) (TRef.of (T := ⟨S36864, .f32⟩) main_v154) select,
    nullary main_cst_21 (constant S_ .f32 0x3F333333#32),
    unary main_cst_21 main_v155 (broadcastInDim S36864 ![] bcast_S_S36864 : (⟨S_, .f32⟩ : BufTy).Contents (Elt F) → (⟨S36864, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 191 … 220 of 370 (window `main_part3`). -/
abbrev ops_part3_0 : List (HloOp τ sig (Elt F)) :=
  [ binary main_v134 main_v155 main_v156 (cmpf .oge : (⟨S36864, .f32⟩ : BufTy).Contents (Elt F) → (⟨S36864, .f32⟩ : BufTy).Contents (Elt F) → (⟨S36864, .i1⟩ : BufTy).Contents (Elt F)),
    nullary main_cst_22 (constant S_ .f32 0x3F800000#32),
    TRef.unary (TRef.of (T := ⟨S_, .f32⟩) main_cst_22) (TRef.of (T := ⟨S_, .f32⟩) main_call4_v0) id,
    TRef.unary (TRef.of (T := ⟨S_, .f32⟩) main_call4_v0) (TRef.of (T := ⟨S36864, .f32⟩) main_call4_v1) (broadcastInDim S36864 ![] bcast_S_S36864),
    TRef.ternary (TRef.of (T := ⟨S36864, .i1⟩) main_v156) (TRef.of (T := ⟨S36864, .f32⟩) main_call4_v1) (TRef.of (T := ⟨S36864, .f32⟩) main_v154) (TRef.of (T := ⟨S36864, .f32⟩) main_v157) select,
    nullary main_cst_23 (constant S_ .f32 0xBF800000#32),
    TRef.unary (TRef.of (T := ⟨S_, .f32⟩) main_cst_23) (TRef.of (T := ⟨S_, .f32⟩) main_call5_v0) id,
    TRef.unary (TRef.of (T := ⟨S_, .f32⟩) main_call5_v0) (TRef.of (T := ⟨S36864, .f32⟩) main_call5_v1) (broadcastInDim S36864 ![] bcast_S_S36864),
    TRef.ternary (TRef.of (T := ⟨S36864, .i1⟩) main_v46) (TRef.of (T := ⟨S36864, .f32⟩) main_v157) (TRef.of (T := ⟨S36864, .f32⟩) main_call5_v1) (TRef.of (T := ⟨S36864, .f32⟩) main_v158) select,
    nullary main_cst_24 (constant S_ .f32 0x3F800000#32),
    unary main_cst_24 main_v159 (broadcastInDim S36864 ![] bcast_S_S36864 : (⟨S_, .f32⟩ : BufTy).Contents (Elt F) → (⟨S36864, .f32⟩ : BufTy).Contents (Elt F)),
    binary main_v158 main_v159 main_v160 (cmpf .oeq : (⟨S36864, .f32⟩ : BufTy).Contents (Elt F) → (⟨S36864, .f32⟩ : BufTy).Contents (Elt F) → (⟨S36864, .i1⟩ : BufTy).Contents (Elt F)),
    unary main_v160 main_v161 ((extui 32 · natLt_1_32) : (⟨S36864, .i1⟩ : BufTy).Contents (Elt F) → (⟨S36864, .i32⟩ : BufTy).Contents (Elt F)),
    TRef.nullary (TRef.of (T := ⟨S_, .i32⟩) main_call6_call0_c) (constantI S_ 32 0#32),
    TRef.unary (TRef.of (T := ⟨S_, .i32⟩) main_call6_call0_c) (TRef.of (T := ⟨S_, .i32⟩) main_call6_call0_v0) (broadcastInDim S_ ![] bcast_S_S_),
    TRef.binary (TRef.of (T := ⟨S36864, .i32⟩) main_v161) (TRef.of (T := ⟨S_, .i32⟩) main_call6_call0_v0) (TRef.of (T := ⟨S36864, .i32⟩) main_v162) (fun x v => Host.reduceWindow IntOp.addi ![36864] ![1] ![36863] ![0] x v reduceWindows_S36864_S36864_w36864s1p36863_0 h_S_),
    nullary main_c_25 (constantI S_ 32 128#32),
    unary main_c_25 main_v163 (broadcastInDim S36864 ![] bcast_S_S36864 : (⟨S_, .i32⟩ : BufTy).Contents (Elt F) → (⟨S36864, .i32⟩ : BufTy).Contents (Elt F)),
    binary main_v162 main_v163 main_v164 (cmpi .sgt : (⟨S36864, .i32⟩ : BufTy).Contents (Elt F) → (⟨S36864, .i32⟩ : BufTy).Contents (Elt F) → (⟨S36864, .i1⟩ : BufTy).Contents (Elt F)),
    binary main_v160 main_v164 main_v165 (andi : (⟨S36864, .i1⟩ : BufTy).Contents (Elt F) → (⟨S36864, .i1⟩ : BufTy).Contents (Elt F) → (⟨S36864, .i1⟩ : BufTy).Contents (Elt F)),
    nullary main_cst_26 (constant S_ .f32 0xBF800000#32),
    TRef.unary (TRef.of (T := ⟨S_, .f32⟩) main_cst_26) (TRef.of (T := ⟨S_, .f32⟩) main_call7_v0) id,
    TRef.unary (TRef.of (T := ⟨S_, .f32⟩) main_call7_v0) (TRef.of (T := ⟨S36864, .f32⟩) main_call7_v1) (broadcastInDim S36864 ![] bcast_S_S36864),
    TRef.ternary (TRef.of (T := ⟨S36864, .i1⟩) main_v165) (TRef.of (T := ⟨S36864, .f32⟩) main_call7_v1) (TRef.of (T := ⟨S36864, .f32⟩) main_v158) (TRef.of (T := ⟨S36864, .f32⟩) main_v166) select,
    nullary main_cst_27 (constant S_ .f32 0x3F800000#32),
    unary main_cst_27 main_v167 (broadcastInDim S36864 ![] bcast_S_S36864 : (⟨S_, .f32⟩ : BufTy).Contents (Elt F) → (⟨S36864, .f32⟩ : BufTy).Contents (Elt F)),
    binary main_v166 main_v167 main_v168 (cmpf .oeq : (⟨S36864, .f32⟩ : BufTy).Contents (Elt F) → (⟨S36864, .f32⟩ : BufTy).Contents (Elt F) → (⟨S36864, .i1⟩ : BufTy).Contents (Elt F)),
    unary main_v168 main_v169 ((extui 32 · natLt_1_32) : (⟨S36864, .i1⟩ : BufTy).Contents (Elt F) → (⟨S36864, .i32⟩ : BufTy).Contents (Elt F)),
    nullary main_c_28 (constantI S_ 32 0#32),
    binary main_v169 main_c_28 main_v170 ((fun x v => Host.reduce IntOp.addi x v reducesTo_S36864_S_d0 h_S_) : (⟨S36864, .i32⟩ : BufTy).Contents (Elt F) → (⟨S_, .i32⟩ : BufTy).Contents (Elt F) → (⟨S_, .i32⟩ : BufTy).Contents (Elt F)) ]

/-- @main's operations 221 … 250 of 370 (window `main_part3`). -/
abbrev ops_part3_1 : List (HloOp τ sig (Elt F)) :=
  [ nullary main_c_29 (constantI S_ 32 256#32),
    binary main_c_29 main_v170 main_v171 (subi : (⟨S_, .i32⟩ : BufTy).Contents (Elt F) → (⟨S_, .i32⟩ : BufTy).Contents (Elt F) → (⟨S_, .i32⟩ : BufTy).Contents (Elt F)),
    nullary main_cst_30 (constant S_ .f32 0x00000000#32),
    unary main_cst_30 main_v172 (broadcastInDim S36864 ![] bcast_S_S36864 : (⟨S_, .f32⟩ : BufTy).Contents (Elt F) → (⟨S36864, .f32⟩ : BufTy).Contents (Elt F)),
    binary main_v166 main_v172 main_v173 (cmpf .oeq : (⟨S36864, .f32⟩ : BufTy).Contents (Elt F) → (⟨S36864, .f32⟩ : BufTy).Contents (Elt F) → (⟨S36864, .i1⟩ : BufTy).Contents (Elt F)),
    unary main_v173 main_v174 ((extui 32 · natLt_1_32) : (⟨S36864, .i1⟩ : BufTy).Contents (Elt F) → (⟨S36864, .i32⟩ : BufTy).Contents (Elt F)),
    TRef.nullary (TRef.of (T := ⟨S_, .i32⟩) main_call8_call0_c) (constantI S_ 32 0#32),
    TRef.unary (TRef.of (T := ⟨S_, .i32⟩) main_call8_call0_c) (TRef.of (T := ⟨S_, .i32⟩) main_call8_call0_v0) (broadcastInDim S_ ![] bcast_S_S_),
    TRef.binary (TRef.of (T := ⟨S36864, .i32⟩) main_v174) (TRef.of (T := ⟨S_, .i32⟩) main_call8_call0_v0) (TRef.of (T := ⟨S36864, .i32⟩) main_v175) (fun x v => Host.reduceWindow IntOp.addi ![36864] ![1] ![36863] ![0] x v reduceWindows_S36864_S36864_w36864s1p36863_0 h_S_),
    unary main_v171 main_v176 (broadcastInDim S36864 ![] bcast_S_S36864 : (⟨S_, .i32⟩ : BufTy).Contents (Elt F) → (⟨S36864, .i32⟩ : BufTy).Contents (Elt F)),
    binary main_v175 main_v176 main_v177 (cmpi .sgt : (⟨S36864, .i32⟩ : BufTy).Contents (Elt F) → (⟨S36864, .i32⟩ : BufTy).Contents (Elt F) → (⟨S36864, .i1⟩ : BufTy).Contents (Elt F)),
    binary main_v173 main_v177 main_v178 (andi : (⟨S36864, .i1⟩ : BufTy).Contents (Elt F) → (⟨S36864, .i1⟩ : BufTy).Contents (Elt F) → (⟨S36864, .i1⟩ : BufTy).Contents (Elt F)),
    nullary main_cst_31 (constant S_ .f32 0xBF800000#32),
    TRef.unary (TRef.of (T := ⟨S_, .f32⟩) main_cst_31) (TRef.of (T := ⟨S_, .f32⟩) main_call9_v0) id,
    TRef.unary (TRef.of (T := ⟨S_, .f32⟩) main_call9_v0) (TRef.of (T := ⟨S36864, .f32⟩) main_call9_v1) (broadcastInDim S36864 ![] bcast_S_S36864),
    TRef.ternary (TRef.of (T := ⟨S36864, .i1⟩) main_v178) (TRef.of (T := ⟨S36864, .f32⟩) main_call9_v1) (TRef.of (T := ⟨S36864, .f32⟩) main_v166) (TRef.of (T := ⟨S36864, .f32⟩) main_v179) select,
    nullary main_c_32 (constantI S_ 32 0#32),
    unary main_c_32 main_v180 (broadcastInDim S36864 ![] bcast_S_S36864 : (⟨S_, .i32⟩ : BufTy).Contents (Elt F) → (⟨S36864, .i32⟩ : BufTy).Contents (Elt F)),
    binary main_v141 main_v180 main_v181 (cmpi .slt : (⟨S36864, .i32⟩ : BufTy).Contents (Elt F) → (⟨S36864, .i32⟩ : BufTy).Contents (Elt F) → (⟨S36864, .i1⟩ : BufTy).Contents (Elt F)),
    nullary main_c_33 (constantI S_ 32 100#32),
    unary main_c_33 main_v182 (broadcastInDim S36864 ![] bcast_S_S36864 : (⟨S_, .i32⟩ : BufTy).Contents (Elt F) → (⟨S36864, .i32⟩ : BufTy).Contents (Elt F)),
    binary main_v141 main_v182 main_v183 (addi : (⟨S36864, .i32⟩ : BufTy).Contents (Elt F) → (⟨S36864, .i32⟩ : BufTy).Contents (Elt F) → (⟨S36864, .i32⟩ : BufTy).Contents (Elt F)),
    ternary main_v181 main_v183 main_v141 main_v184 (select : (⟨S36864, .i1⟩ : BufTy).Contents (Elt F) → (⟨S36864, .i32⟩ : BufTy).Contents (Elt F) → (⟨S36864, .i32⟩ : BufTy).Contents (Elt F) → (⟨S36864, .i32⟩ : BufTy).Contents (Elt F)),
    unary main_v184 main_v185 (broadcastInDim S36864x1 ![0] bcast_S36864_S36864x1_0 : (⟨S36864, .i32⟩ : BufTy).Contents (Elt F) → (⟨S36864x1, .i32⟩ : BufTy).Contents (Elt F)),
    nullary main_c_34 (constantI S_ 32 0#32),
    unary main_c_34 main_v186 (broadcastInDim S36864x1 ![] bcast_S_S36864x1 : (⟨S_, .i32⟩ : BufTy).Contents (Elt F) → (⟨S36864x1, .i32⟩ : BufTy).Contents (Elt F)),
    binary main_v185 main_v186 main_v187 (fn_main_v187 (F := F)),
    binary main_arg1 main_v187 main_v188 ((fun x i => Host.gather gather_S100x5_S36864x2_S36864x4_1_0_n_n_01_1_14 x i) : (⟨S100x5, .f32⟩ : BufTy).Contents (Elt F) → (⟨S36864x2, .i32⟩ : BufTy).Contents (Elt F) → (⟨S36864x4, .f32⟩ : BufTy).Contents (Elt F)),
    unary main_v22 main_v189 ((extractStridedSlice S36864x1 ![0, 2] · slices_S36864x4_S36864x1_0_2) : (⟨S36864x4, .f32⟩ : BufTy).Contents (Elt F) → (⟨S36864x1, .f32⟩ : BufTy).Contents (Elt F)),
    reshape main_v189 main_v190 (rfl : (.f32 : EltTy) = .f32) shapeCasts_S36864x1_S36864 ]

/-- @main's operations 251 … 262 of 370 (window `main_part3`). -/
abbrev ops_part3_2 : List (HloOp τ sig (Elt F)) :=
  [ unary main_v22 main_v191 ((extractStridedSlice S36864x1 ![0, 0] · slices_S36864x4_S36864x1_0_0) : (⟨S36864x4, .f32⟩ : BufTy).Contents (Elt F) → (⟨S36864x1, .f32⟩ : BufTy).Contents (Elt F)),
    reshape main_v191 main_v192 (rfl : (.f32 : EltTy) = .f32) shapeCasts_S36864x1_S36864,
    binary main_v190 main_v192 main_v193 (subf : (⟨S36864, .f32⟩ : BufTy).Contents (Elt F) → (⟨S36864, .f32⟩ : BufTy).Contents (Elt F) → (⟨S36864, .f32⟩ : BufTy).Contents (Elt F)),
    nullary main_cst_35 (constant S_ .f32 0x3F800000#32),
    unary main_cst_35 main_v194 (broadcastInDim S36864 ![] bcast_S_S36864 : (⟨S_, .f32⟩ : BufTy).Contents (Elt F) → (⟨S36864, .f32⟩ : BufTy).Contents (Elt F)),
    binary main_v193 main_v194 main_v195 (addf : (⟨S36864, .f32⟩ : BufTy).Contents (Elt F) → (⟨S36864, .f32⟩ : BufTy).Contents (Elt F) → (⟨S36864, .f32⟩ : BufTy).Contents (Elt F)),
    unary main_v22 main_v196 ((extractStridedSlice S36864x1 ![0, 3] · slices_S36864x4_S36864x1_0_3) : (⟨S36864x4, .f32⟩ : BufTy).Contents (Elt F) → (⟨S36864x1, .f32⟩ : BufTy).Contents (Elt F)),
    reshape main_v196 main_v197 (rfl : (.f32 : EltTy) = .f32) shapeCasts_S36864x1_S36864,
    unary main_v22 main_v198 ((extractStridedSlice S36864x1 ![0, 1] · slices_S36864x4_S36864x1_0_1) : (⟨S36864x4, .f32⟩ : BufTy).Contents (Elt F) → (⟨S36864x1, .f32⟩ : BufTy).Contents (Elt F)),
    reshape main_v198 main_v199 (rfl : (.f32 : EltTy) = .f32) shapeCasts_S36864x1_S36864,
    binary main_v197 main_v199 main_v200 (subf : (⟨S36864, .f32⟩ : BufTy).Contents (Elt F) → (⟨S36864, .f32⟩ : BufTy).Contents (Elt F) → (⟨S36864, .f32⟩ : BufTy).Contents (Elt F)),
    nullary main_cst_36 (constant S_ .f32 0x3F800000#32) ]

/-- Window `main_part3`'s operations. Not an abbreviation: `main_eq` below splits `ops` into the windows and no further. -/
def ops_part3 : List (HloOp τ sig (Elt F)) :=
  ops_part3_0 ++ (ops_part3_1 ++ (ops_part3_2))

/-- @main's operations 263 … 292 of 370 (window `main_part4`). -/
abbrev ops_part4_0 : List (HloOp τ sig (Elt F)) :=
  [ unary main_cst_36 main_v201 (broadcastInDim S36864 ![] bcast_S_S36864 : (⟨S_, .f32⟩ : BufTy).Contents (Elt F) → (⟨S36864, .f32⟩ : BufTy).Contents (Elt F)),
    binary main_v200 main_v201 main_v202 (addf : (⟨S36864, .f32⟩ : BufTy).Contents (Elt F) → (⟨S36864, .f32⟩ : BufTy).Contents (Elt F) → (⟨S36864, .f32⟩ : BufTy).Contents (Elt F)),
    unary main_v22 main_v203 ((extractStridedSlice S36864x1 ![0, 0] · slices_S36864x4_S36864x1_0_0) : (⟨S36864x4, .f32⟩ : BufTy).Contents (Elt F) → (⟨S36864x1, .f32⟩ : BufTy).Contents (Elt F)),
    reshape main_v203 main_v204 (rfl : (.f32 : EltTy) = .f32) shapeCasts_S36864x1_S36864,
    nullary main_cst_37 (constant S_ .f32 0x3F000000#32),
    unary main_cst_37 main_v205 (broadcastInDim S36864 ![] bcast_S_S36864 : (⟨S_, .f32⟩ : BufTy).Contents (Elt F) → (⟨S36864, .f32⟩ : BufTy).Contents (Elt F)),
    binary main_v205 main_v195 main_v206 (mulf : (⟨S36864, .f32⟩ : BufTy).Contents (Elt F) → (⟨S36864, .f32⟩ : BufTy).Contents (Elt F) → (⟨S36864, .f32⟩ : BufTy).Contents (Elt F)),
    binary main_v204 main_v206 main_v207 (addf : (⟨S36864, .f32⟩ : BufTy).Contents (Elt F) → (⟨S36864, .f32⟩ : BufTy).Contents (Elt F) → (⟨S36864, .f32⟩ : BufTy).Contents (Elt F)),
    unary main_v22 main_v208 ((extractStridedSlice S36864x1 ![0, 1] · slices_S36864x4_S36864x1_0_1) : (⟨S36864x4, .f32⟩ : BufTy).Contents (Elt F) → (⟨S36864x1, .f32⟩ : BufTy).Contents (Elt F)),
    reshape main_v208 main_v209 (rfl : (.f32 : EltTy) = .f32) shapeCasts_S36864x1_S36864,
    nullary main_cst_38 (constant S_ .f32 0x3F000000#32),
    unary main_cst_38 main_v210 (broadcastInDim S36864 ![] bcast_S_S36864 : (⟨S_, .f32⟩ : BufTy).Contents (Elt F) → (⟨S36864, .f32⟩ : BufTy).Contents (Elt F)),
    binary main_v210 main_v202 main_v211 (mulf : (⟨S36864, .f32⟩ : BufTy).Contents (Elt F) → (⟨S36864, .f32⟩ : BufTy).Contents (Elt F) → (⟨S36864, .f32⟩ : BufTy).Contents (Elt F)),
    binary main_v209 main_v211 main_v212 (addf : (⟨S36864, .f32⟩ : BufTy).Contents (Elt F) → (⟨S36864, .f32⟩ : BufTy).Contents (Elt F) → (⟨S36864, .f32⟩ : BufTy).Contents (Elt F)),
    unary main_v188 main_v213 ((extractStridedSlice S36864x1 ![0, 2] · slices_S36864x4_S36864x1_0_2) : (⟨S36864x4, .f32⟩ : BufTy).Contents (Elt F) → (⟨S36864x1, .f32⟩ : BufTy).Contents (Elt F)),
    reshape main_v213 main_v214 (rfl : (.f32 : EltTy) = .f32) shapeCasts_S36864x1_S36864,
    unary main_v188 main_v215 ((extractStridedSlice S36864x1 ![0, 0] · slices_S36864x4_S36864x1_0_0) : (⟨S36864x4, .f32⟩ : BufTy).Contents (Elt F) → (⟨S36864x1, .f32⟩ : BufTy).Contents (Elt F)),
    reshape main_v215 main_v216 (rfl : (.f32 : EltTy) = .f32) shapeCasts_S36864x1_S36864,
    binary main_v214 main_v216 main_v217 (subf : (⟨S36864, .f32⟩ : BufTy).Contents (Elt F) → (⟨S36864, .f32⟩ : BufTy).Contents (Elt F) → (⟨S36864, .f32⟩ : BufTy).Contents (Elt F)),
    nullary main_cst_39 (constant S_ .f32 0x3F800000#32),
    unary main_cst_39 main_v218 (broadcastInDim S36864 ![] bcast_S_S36864 : (⟨S_, .f32⟩ : BufTy).Contents (Elt F) → (⟨S36864, .f32⟩ : BufTy).Contents (Elt F)),
    binary main_v217 main_v218 main_v219 (addf : (⟨S36864, .f32⟩ : BufTy).Contents (Elt F) → (⟨S36864, .f32⟩ : BufTy).Contents (Elt F) → (⟨S36864, .f32⟩ : BufTy).Contents (Elt F)),
    unary main_v188 main_v220 ((extractStridedSlice S36864x1 ![0, 3] · slices_S36864x4_S36864x1_0_3) : (⟨S36864x4, .f32⟩ : BufTy).Contents (Elt F) → (⟨S36864x1, .f32⟩ : BufTy).Contents (Elt F)),
    reshape main_v220 main_v221 (rfl : (.f32 : EltTy) = .f32) shapeCasts_S36864x1_S36864,
    unary main_v188 main_v222 ((extractStridedSlice S36864x1 ![0, 1] · slices_S36864x4_S36864x1_0_1) : (⟨S36864x4, .f32⟩ : BufTy).Contents (Elt F) → (⟨S36864x1, .f32⟩ : BufTy).Contents (Elt F)),
    reshape main_v222 main_v223 (rfl : (.f32 : EltTy) = .f32) shapeCasts_S36864x1_S36864,
    binary main_v221 main_v223 main_v224 (subf : (⟨S36864, .f32⟩ : BufTy).Contents (Elt F) → (⟨S36864, .f32⟩ : BufTy).Contents (Elt F) → (⟨S36864, .f32⟩ : BufTy).Contents (Elt F)),
    nullary main_cst_40 (constant S_ .f32 0x3F800000#32),
    unary main_cst_40 main_v225 (broadcastInDim S36864 ![] bcast_S_S36864 : (⟨S_, .f32⟩ : BufTy).Contents (Elt F) → (⟨S36864, .f32⟩ : BufTy).Contents (Elt F)),
    binary main_v224 main_v225 main_v226 (addf : (⟨S36864, .f32⟩ : BufTy).Contents (Elt F) → (⟨S36864, .f32⟩ : BufTy).Contents (Elt F) → (⟨S36864, .f32⟩ : BufTy).Contents (Elt F)) ]

/-- @main's operations 293 … 322 of 370 (window `main_part4`). -/
abbrev ops_part4_1 : List (HloOp τ sig (Elt F)) :=
  [ unary main_v188 main_v227 ((extractStridedSlice S36864x1 ![0, 0] · slices_S36864x4_S36864x1_0_0) : (⟨S36864x4, .f32⟩ : BufTy).Contents (Elt F) → (⟨S36864x1, .f32⟩ : BufTy).Contents (Elt F)),
    reshape main_v227 main_v228 (rfl : (.f32 : EltTy) = .f32) shapeCasts_S36864x1_S36864,
    nullary main_cst_41 (constant S_ .f32 0x3F000000#32),
    unary main_cst_41 main_v229 (broadcastInDim S36864 ![] bcast_S_S36864 : (⟨S_, .f32⟩ : BufTy).Contents (Elt F) → (⟨S36864, .f32⟩ : BufTy).Contents (Elt F)),
    binary main_v229 main_v219 main_v230 (mulf : (⟨S36864, .f32⟩ : BufTy).Contents (Elt F) → (⟨S36864, .f32⟩ : BufTy).Contents (Elt F) → (⟨S36864, .f32⟩ : BufTy).Contents (Elt F)),
    binary main_v228 main_v230 main_v231 (addf : (⟨S36864, .f32⟩ : BufTy).Contents (Elt F) → (⟨S36864, .f32⟩ : BufTy).Contents (Elt F) → (⟨S36864, .f32⟩ : BufTy).Contents (Elt F)),
    unary main_v188 main_v232 ((extractStridedSlice S36864x1 ![0, 1] · slices_S36864x4_S36864x1_0_1) : (⟨S36864x4, .f32⟩ : BufTy).Contents (Elt F) → (⟨S36864x1, .f32⟩ : BufTy).Contents (Elt F)),
    reshape main_v232 main_v233 (rfl : (.f32 : EltTy) = .f32) shapeCasts_S36864x1_S36864,
    nullary main_cst_42 (constant S_ .f32 0x3F000000#32),
    unary main_cst_42 main_v234 (broadcastInDim S36864 ![] bcast_S_S36864 : (⟨S_, .f32⟩ : BufTy).Contents (Elt F) → (⟨S36864, .f32⟩ : BufTy).Contents (Elt F)),
    binary main_v234 main_v226 main_v235 (mulf : (⟨S36864, .f32⟩ : BufTy).Contents (Elt F) → (⟨S36864, .f32⟩ : BufTy).Contents (Elt F) → (⟨S36864, .f32⟩ : BufTy).Contents (Elt F)),
    binary main_v233 main_v235 main_v236 (addf : (⟨S36864, .f32⟩ : BufTy).Contents (Elt F) → (⟨S36864, .f32⟩ : BufTy).Contents (Elt F) → (⟨S36864, .f32⟩ : BufTy).Contents (Elt F)),
    binary main_v231 main_v207 main_v237 (subf : (⟨S36864, .f32⟩ : BufTy).Contents (Elt F) → (⟨S36864, .f32⟩ : BufTy).Contents (Elt F) → (⟨S36864, .f32⟩ : BufTy).Contents (Elt F)),
    binary main_v237 main_v195 main_v238 (Host.divf : (⟨S36864, .f32⟩ : BufTy).Contents (Elt F) → (⟨S36864, .f32⟩ : BufTy).Contents (Elt F) → (⟨S36864, .f32⟩ : BufTy).Contents (Elt F)),
    binary main_v236 main_v212 main_v239 (subf : (⟨S36864, .f32⟩ : BufTy).Contents (Elt F) → (⟨S36864, .f32⟩ : BufTy).Contents (Elt F) → (⟨S36864, .f32⟩ : BufTy).Contents (Elt F)),
    binary main_v239 main_v202 main_v240 (Host.divf : (⟨S36864, .f32⟩ : BufTy).Contents (Elt F) → (⟨S36864, .f32⟩ : BufTy).Contents (Elt F) → (⟨S36864, .f32⟩ : BufTy).Contents (Elt F)),
    binary main_v219 main_v195 main_v241 (Host.divf : (⟨S36864, .f32⟩ : BufTy).Contents (Elt F) → (⟨S36864, .f32⟩ : BufTy).Contents (Elt F) → (⟨S36864, .f32⟩ : BufTy).Contents (Elt F)),
    unary main_v241 main_v242 (Host.log : (⟨S36864, .f32⟩ : BufTy).Contents (Elt F) → (⟨S36864, .f32⟩ : BufTy).Contents (Elt F)),
    binary main_v226 main_v202 main_v243 (Host.divf : (⟨S36864, .f32⟩ : BufTy).Contents (Elt F) → (⟨S36864, .f32⟩ : BufTy).Contents (Elt F) → (⟨S36864, .f32⟩ : BufTy).Contents (Elt F)),
    unary main_v243 main_v244 (Host.log : (⟨S36864, .f32⟩ : BufTy).Contents (Elt F) → (⟨S36864, .f32⟩ : BufTy).Contents (Elt F)),
    unary main_v238 main_v245 (broadcastInDim S36864x1 ![0] bcast_S36864_S36864x1_0 : (⟨S36864, .f32⟩ : BufTy).Contents (Elt F) → (⟨S36864x1, .f32⟩ : BufTy).Contents (Elt F)),
    unary main_v240 main_v246 (broadcastInDim S36864x1 ![0] bcast_S36864_S36864x1_0 : (⟨S36864, .f32⟩ : BufTy).Contents (Elt F) → (⟨S36864x1, .f32⟩ : BufTy).Contents (Elt F)),
    unary main_v242 main_v247 (broadcastInDim S36864x1 ![0] bcast_S36864_S36864x1_0 : (⟨S36864, .f32⟩ : BufTy).Contents (Elt F) → (⟨S36864x1, .f32⟩ : BufTy).Contents (Elt F)),
    unary main_v244 main_v248 (broadcastInDim S36864x1 ![0] bcast_S36864_S36864x1_0 : (⟨S36864, .f32⟩ : BufTy).Contents (Elt F) → (⟨S36864x1, .f32⟩ : BufTy).Contents (Elt F)),
    nary ![main_v245, main_v246, main_v247, main_v248] main_v249 (fun u => fn_main_v249 (F := F) (u 0) (u 1) (u 2) (u 3)),
    unary main_v46 main_v250 (broadcastInDim S36864x1 ![0] bcast_S36864_S36864x1_0 : (⟨S36864, .i1⟩ : BufTy).Contents (Elt F) → (⟨S36864x1, .i1⟩ : BufTy).Contents (Elt F)),
    nullary main_cst_43 (constant S_ .f32 0x00000000#32),
    TRef.unary (TRef.of (T := ⟨S_, .f32⟩) main_cst_43) (TRef.of (T := ⟨S_, .f32⟩) main_call10_v0) id,
    TRef.unary (TRef.of (T := ⟨S36864x1, .i1⟩) main_v250) (TRef.of (T := ⟨S36864x4, .i1⟩) main_call10_v1) (broadcastInDim S36864x4 ![0, 1] bcast_S36864x1_S36864x4_0_1),
    TRef.unary (TRef.of (T := ⟨S_, .f32⟩) main_call10_v0) (TRef.of (T := ⟨S36864x4, .f32⟩) main_call10_v2) (broadcastInDim S36864x4 ![] bcast_S_S36864x4) ]

/-- @main's operations 323 … 325 of 370 (window `main_part4`). -/
abbrev ops_part4_2 : List (HloOp τ sig (Elt F)) :=
  [ TRef.ternary (TRef.of (T := ⟨S36864x4, .i1⟩) main_call10_v1) (TRef.of (T := ⟨S36864x4, .f32⟩) main_v249) (TRef.of (T := ⟨S36864x4, .f32⟩) main_call10_v2) (TRef.of (T := ⟨S36864x4, .f32⟩) main_v251) select,
    nullary main_cst_44 (constant S_ .f32 0x3F800000#32),
    unary main_cst_44 main_v252 (broadcastInDim S36864 ![] bcast_S_S36864 : (⟨S_, .f32⟩ : BufTy).Contents (Elt F) → (⟨S36864, .f32⟩ : BufTy).Contents (Elt F)) ]

/-- Window `main_part4`'s operations. Not an abbreviation: `main_eq` below splits `ops` into the windows and no further. -/
def ops_part4 : List (HloOp τ sig (Elt F)) :=
  ops_part4_0 ++ (ops_part4_1 ++ (ops_part4_2))

/-- @main's operations 326 … 370 of 370 (window `main_part5`). -/
abbrev ops_part5 : List (HloOp τ sig (Elt F)) :=
  [ binary main_v179 main_v252 main_v253 (cmpf .oeq : (⟨S36864, .f32⟩ : BufTy).Contents (Elt F) → (⟨S36864, .f32⟩ : BufTy).Contents (Elt F) → (⟨S36864, .i1⟩ : BufTy).Contents (Elt F)),
    unary main_v253 main_v254 (broadcastInDim S36864x1 ![0] bcast_S36864_S36864x1_0 : (⟨S36864, .i1⟩ : BufTy).Contents (Elt F) → (⟨S36864x1, .i1⟩ : BufTy).Contents (Elt F)),
    nullary main_cst_45 (constant S_ .f32 0x3F800000#32),
    nullary main_cst_46 (constant S_ .f32 0x00000000#32),
    TRef.unary (TRef.of (T := ⟨S_, .f32⟩) main_cst_45) (TRef.of (T := ⟨S36864x1, .f32⟩) main_call11_v0) (broadcastInDim S36864x1 ![] bcast_S_S36864x1),
    TRef.unary (TRef.of (T := ⟨S_, .f32⟩) main_cst_46) (TRef.of (T := ⟨S36864x1, .f32⟩) main_call11_v1) (broadcastInDim S36864x1 ![] bcast_S_S36864x1),
    TRef.ternary (TRef.of (T := ⟨S36864x1, .i1⟩) main_v254) (TRef.of (T := ⟨S36864x1, .f32⟩) main_call11_v0) (TRef.of (T := ⟨S36864x1, .f32⟩) main_call11_v1) (TRef.of (T := ⟨S36864x1, .f32⟩) main_v255) select,
    nullary main_cst_47 (constant S_ .f32 0x3F800000#32),
    unary main_cst_47 main_v256 (broadcastInDim S1x4 ![] bcast_S_S1x4 : (⟨S_, .f32⟩ : BufTy).Contents (Elt F) → (⟨S1x4, .f32⟩ : BufTy).Contents (Elt F)),
    unary main_v255 main_v257 (id : (⟨S36864x1, .f32⟩ : BufTy).Contents (Elt F) → (⟨S36864x1, .f32⟩ : BufTy).Contents (Elt F)),
    unary main_v257 main_v258 (broadcastInDim S36864x4 ![0, 1] bcast_S36864x1_S36864x4_0_1 : (⟨S36864x1, .f32⟩ : BufTy).Contents (Elt F) → (⟨S36864x4, .f32⟩ : BufTy).Contents (Elt F)),
    unary main_v256 main_v259 (broadcastInDim S36864x4 ![0, 1] bcast_S1x4_S36864x4_0_1 : (⟨S1x4, .f32⟩ : BufTy).Contents (Elt F) → (⟨S36864x4, .f32⟩ : BufTy).Contents (Elt F)),
    binary main_v258 main_v259 main_v260 (mulf : (⟨S36864x4, .f32⟩ : BufTy).Contents (Elt F) → (⟨S36864x4, .f32⟩ : BufTy).Contents (Elt F) → (⟨S36864x4, .f32⟩ : BufTy).Contents (Elt F)),
    nullary main_cst_48 (constant S_ .f32 0x00000000#32),
    unary main_cst_48 main_v261 (broadcastInDim S36864 ![] bcast_S_S36864 : (⟨S_, .f32⟩ : BufTy).Contents (Elt F) → (⟨S36864, .f32⟩ : BufTy).Contents (Elt F)),
    binary main_v179 main_v261 main_v262 (cmpf .oge : (⟨S36864, .f32⟩ : BufTy).Contents (Elt F) → (⟨S36864, .f32⟩ : BufTy).Contents (Elt F) → (⟨S36864, .i1⟩ : BufTy).Contents (Elt F)),
    unary main_v262 main_v263 ((extui 32 · natLt_1_32) : (⟨S36864, .i1⟩ : BufTy).Contents (Elt F) → (⟨S36864, .i32⟩ : BufTy).Contents (Elt F)),
    nullary main_c_49 (constantI S_ 32 0#32),
    binary main_v263 main_c_49 main_v264 ((fun x v => Host.reduce IntOp.addi x v reducesTo_S36864_S_d0 h_S_) : (⟨S36864, .i32⟩ : BufTy).Contents (Elt F) → (⟨S_, .i32⟩ : BufTy).Contents (Elt F) → (⟨S_, .i32⟩ : BufTy).Contents (Elt F)),
    unary main_v264 main_v265 (sitofp .f32 : (⟨S_, .i32⟩ : BufTy).Contents (Elt F) → (⟨S_, .f32⟩ : BufTy).Contents (Elt F)),
    nullary main_cst_50 (constant S_ .f32 0x00000000#32),
    unary main_cst_50 main_v266 (broadcastInDim S36864 ![] bcast_S_S36864 : (⟨S_, .f32⟩ : BufTy).Contents (Elt F) → (⟨S36864, .f32⟩ : BufTy).Contents (Elt F)),
    binary main_v179 main_v266 main_v267 (cmpf .oge : (⟨S36864, .f32⟩ : BufTy).Contents (Elt F) → (⟨S36864, .f32⟩ : BufTy).Contents (Elt F) → (⟨S36864, .i1⟩ : BufTy).Contents (Elt F)),
    unary main_v267 main_v268 (broadcastInDim S36864x1 ![0] bcast_S36864_S36864x1_0 : (⟨S36864, .i1⟩ : BufTy).Contents (Elt F) → (⟨S36864x1, .i1⟩ : BufTy).Contents (Elt F)),
    nullary main_cst_51 (constant S_ .f32 0x3F800000#32),
    binary main_cst_51 main_v265 main_v269 (Host.divf : (⟨S_, .f32⟩ : BufTy).Contents (Elt F) → (⟨S_, .f32⟩ : BufTy).Contents (Elt F) → (⟨S_, .f32⟩ : BufTy).Contents (Elt F)),
    nullary main_cst_52 (constant S_ .f32 0x00000000#32),
    TRef.unary (TRef.of (T := ⟨S_, .f32⟩) main_cst_52) (TRef.of (T := ⟨S_, .f32⟩) main_call12_v0) id,
    TRef.unary (TRef.of (T := ⟨S_, .f32⟩) main_v269) (TRef.of (T := ⟨S36864x1, .f32⟩) main_call12_v1) (broadcastInDim S36864x1 ![] bcast_S_S36864x1),
    TRef.unary (TRef.of (T := ⟨S_, .f32⟩) main_call12_v0) (TRef.of (T := ⟨S36864x1, .f32⟩) main_call12_v2) (broadcastInDim S36864x1 ![] bcast_S_S36864x1),
    TRef.ternary (TRef.of (T := ⟨S36864x1, .i1⟩) main_v268) (TRef.of (T := ⟨S36864x1, .f32⟩) main_call12_v1) (TRef.of (T := ⟨S36864x1, .f32⟩) main_call12_v2) (TRef.of (T := ⟨S36864x1, .f32⟩) main_v270) select,
    nullary main_cst_53 (constant S_ .f32 0x3F800000#32),
    unary main_cst_53 main_v271 (broadcastInDim S1x4 ![] bcast_S_S1x4 : (⟨S_, .f32⟩ : BufTy).Contents (Elt F) → (⟨S1x4, .f32⟩ : BufTy).Contents (Elt F)),
    unary main_v270 main_v272 (broadcastInDim S36864x4 ![0, 1] bcast_S36864x1_S36864x4_0_1 : (⟨S36864x1, .f32⟩ : BufTy).Contents (Elt F) → (⟨S36864x4, .f32⟩ : BufTy).Contents (Elt F)),
    unary main_v271 main_v273 (broadcastInDim S36864x4 ![0, 1] bcast_S1x4_S36864x4_0_1 : (⟨S1x4, .f32⟩ : BufTy).Contents (Elt F) → (⟨S36864x4, .f32⟩ : BufTy).Contents (Elt F)),
    binary main_v272 main_v273 main_v274 (mulf : (⟨S36864x4, .f32⟩ : BufTy).Contents (Elt F) → (⟨S36864x4, .f32⟩ : BufTy).Contents (Elt F) → (⟨S36864x4, .f32⟩ : BufTy).Contents (Elt F)),
    reshape main_v179 main_v275 (rfl : (.f32 : EltTy) = .f32) shapeCasts_S36864_S1x64x64x9,
    unary main_v275 main_v276 ((transpose S1x9x64x64 [0, 3, 1, 2] · transposes_S1x64x64x9_S1x9x64x64_0_3_1_2) : (⟨S1x64x64x9, .f32⟩ : BufTy).Contents (Elt F) → (⟨S1x9x64x64, .f32⟩ : BufTy).Contents (Elt F)),
    reshape main_v276 main_v277 (rfl : (.f32 : EltTy) = .f32) shapeCasts_S1x9x64x64_S1x1x576x64,
    reshape main_v251 main_v278 (rfl : (.f32 : EltTy) = .f32) shapeCasts_S36864x4_S1x64x64x36,
    unary main_v278 main_v279 ((transpose S1x36x64x64 [0, 3, 1, 2] · transposes_S1x64x64x36_S1x36x64x64_0_3_1_2) : (⟨S1x64x64x36, .f32⟩ : BufTy).Contents (Elt F) → (⟨S1x36x64x64, .f32⟩ : BufTy).Contents (Elt F)),
    reshape main_v260 main_v280 (rfl : (.f32 : EltTy) = .f32) shapeCasts_S36864x4_S1x64x64x36,
    unary main_v280 main_v281 ((transpose S1x36x64x64 [0, 3, 1, 2] · transposes_S1x64x64x36_S1x36x64x64_0_3_1_2) : (⟨S1x64x64x36, .f32⟩ : BufTy).Contents (Elt F) → (⟨S1x36x64x64, .f32⟩ : BufTy).Contents (Elt F)),
    reshape main_v274 main_v282 (rfl : (.f32 : EltTy) = .f32) shapeCasts_S36864x4_S1x64x64x36,
    unary main_v282 main_v283 ((transpose S1x36x64x64 [0, 3, 1, 2] · transposes_S1x64x64x36_S1x36x64x64_0_3_1_2) : (⟨S1x64x64x36, .f32⟩ : BufTy).Contents (Elt F) → (⟨S1x36x64x64, .f32⟩ : BufTy).Contents (Elt F)) ]

/-- @main's 370 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := by
  simp only [main_part3, fn_cumsum.body, fn_cumsum_3.body, fn_where_1.body, fn_where_2.body, ops_part3, ops_part3_0, ops_part3_1, ops_part3_2,
    seq, List.cons_append, List.nil_append, bind_assoc, pure_bind, main_call4, main_call5, main_call6, main_call6_call0, main_call7, main_call8,
    main_call8_call0, main_call9]
  delta fn_main_v187
  rfl
set_option maxRecDepth 8192 in
set_option maxHeartbeats 4000000 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., nullary_bufs_sub .., unary_bufs_sub .., binary_bufs_sub .., nullary_bufs_sub .., nullary_bufs_sub .., unary_bufs_sub .., binary_bufs_sub .., unary_bufs_sub .., unary_bufs_sub .., reshape_bufs_sub .., reshape_bufs_sub .., reshape_bufs_sub .., reshape_bufs_sub .., unary_bufs_sub .., unary_bufs_sub .., unary_bufs_sub .., unary_bufs_sub .., nary_bufs_sub .., unary_bufs_sub .., unary_bufs_sub .., unary_bufs_sub .., unary_bufs_sub .., binary_bufs_sub .., reshape_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., unary_bufs_sub .., reshape_bufs_sub .., unary_bufs_sub .., binary_bufs_sub .., binary_bufs_sub .., unary_bufs_sub .., reshape_bufs_sub .., unary_bufs_sub .., reshape_bufs_sub .., unary_bufs_sub .., binary_bufs_sub .., binary_bufs_sub .., unary_bufs_sub .., unary_bufs_sub .., reshape_bufs_sub .., unary_bufs_sub .., reshape_bufs_sub .., binary_bufs_sub .., nullary_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨binary_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., binary_bufs_sub .., nullary_bufs_sub .., unary_bufs_sub .., binary_bufs_sub .., unary_bufs_sub .., reshape_bufs_sub .., unary_bufs_sub .., unary_bufs_sub .., reshape_bufs_sub .., unary_bufs_sub .., unary_bufs_sub .., unary_bufs_sub .., binary_bufs_sub .., unary_bufs_sub .., reshape_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨unary_bufs_sub .., unary_bufs_sub .., reshape_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., binary_bufs_sub .., binary_bufs_sub .., unary_bufs_sub .., nullary_bufs_sub .., unary_bufs_sub .., unary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨ternary_bufs_sub .., nullary_bufs_sub .., binary_bufs_sub .., unary_bufs_sub .., unary_bufs_sub .., binary_bufs_sub .., nullary_bufs_sub .., unary_bufs_sub .., nullary_bufs_sub .., unary_bufs_sub .., unary_bufs_sub .., unary_bufs_sub .., ternary_bufs_sub .., nullary_bufs_sub .., binary_bufs_sub .., nullary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., nullary_bufs_sub .., unary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nullary_bufs_sub .., unary_bufs_sub ..⟩
set_option maxRecDepth 8192 in
theorem ops_part2_2_fresh : (ops_part2_2 : List (HloOp τ sig (Elt F))).Forall fun op => op.fresh = ∅ :=
  ⟨rfl, rfl, rfl, rfl, rfl, rfl, rfl, rfl, rfl, rfl⟩
set_option maxRecDepth 8192 in
theorem ops_part3_0_sub : (ops_part3_0 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨nullary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., binary_bufs_sub .., binary_bufs_sub .., unary_bufs_sub .., reshape_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub ..⟩
set_option maxRecDepth 8192 in
theorem ops_part3_2_fresh : (ops_part3_2 : List (HloOp τ sig (Elt F))).Forall fun op => op.fresh = ∅ :=
  ⟨rfl, rfl, rfl, rfl, rfl, rfl, rfl, rfl, rfl, rfl, rfl, rfl⟩
set_option maxRecDepth 8192 in
theorem ops_part4_0_sub : (ops_part4_0 : List (HloOp τ sig (Elt F))).Forall fun op => op.bufs ⊆ tcRefs τ sig :=
  ⟨unary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub ..⟩
set_option maxRecDepth 8192 in
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_1_sub : (ops_part4_1 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., binary_bufs_sub .., binary_bufs_sub .., binary_bufs_sub .., binary_bufs_sub .., binary_bufs_sub .., unary_bufs_sub .., binary_bufs_sub .., unary_bufs_sub .., unary_bufs_sub .., unary_bufs_sub .., unary_bufs_sub .., unary_bufs_sub .., nary_bufs_sub .., unary_bufs_sub .., nullary_bufs_sub .., unary_bufs_sub .., unary_bufs_sub .., unary_bufs_sub ..⟩
set_option maxRecDepth 8192 in
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_2_sub : (ops_part4_2 : List (HloOp τ sig (Elt F))).Forall fun op => op.bufs ⊆ tcRefs τ sig :=
  ⟨ternary_bufs_sub .., nullary_bufs_sub .., unary_bufs_sub ..⟩
set_option maxRecDepth 8192 in
theorem ops_part4_2_fresh : (ops_part4_2 : List (HloOp τ sig (Elt F))).Forall fun op => op.fresh = ∅ :=
  ⟨rfl, rfl, rfl⟩
set_option maxRecDepth 8192 in
theorem ops_part5_sub : (ops_part5 : List (HloOp τ sig (Elt F))).Forall fun op => op.bufs ⊆ tcRefs τ sig :=
  ⟨binary_bufs_sub .., unary_bufs_sub .., nullary_bufs_sub .., nullary_bufs_sub .., unary_bufs_sub .., unary_bufs_sub .., ternary_bufs_sub .., nullary_bufs_sub .., unary_bufs_sub .., unary_bufs_sub .., unary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., nullary_bufs_sub .., binary_bufs_sub .., nullary_bufs_sub .., unary_bufs_sub .., unary_bufs_sub .., unary_bufs_sub .., ternary_bufs_sub .., nullary_bufs_sub .., unary_bufs_sub .., unary_bufs_sub .., unary_bufs_sub .., binary_bufs_sub .., reshape_bufs_sub .., unary_bufs_sub .., reshape_bufs_sub .., reshape_bufs_sub .., unary_bufs_sub .., reshape_bufs_sub .., unary_bufs_sub .., reshape_bufs_sub .., unary_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part2, ops_part3, ops_part4, List.mem_append, or_assoc] at h
    rcases h with h | h | h | h | h | h | h | h | h | h | h | h
    exacts [List.forall_iff_forall_mem.mp ops_part0_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_0_sub op h, List.forall_iff_forall_mem.mp ops_part4_1_sub op h, List.forall_iff_forall_mem.mp ops_part4_2_sub op h, List.forall_iff_forall_mem.mp ops_part5_sub op h]
theorem ops_fresh : ∀ op ∈ (ops : List (HloOp τ sig (Elt F))), op.fresh = ∅ := fun op h => by
    simp only [ops, ops_part2, ops_part3, ops_part4, List.mem_append, or_assoc] at h
    rcases h with h | h | h | h | h | h | h | h | h | h | h | h
    exacts [List.forall_iff_forall_mem.mp ops_part0_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_0_fresh op h, List.forall_iff_forall_mem.mp ops_part4_1_fresh op h, List.forall_iff_forall_mem.mp ops_part4_2_fresh op h, List.forall_iff_forall_mem.mp ops_part5_fresh op h]

end Cert.ReferenceIdeal.Value

end
-- ==== Proof.Ref.Vals.lean ====
/- What the reference's named intermediate arrays hold, as terms of the arguments' contents (first half of the operations). -/
module

public import proofs.«01_k».proof.Proof.Ref.Ops

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
/-- `main_v6`'s composed term of the arguments (named: it is used 2 times). -/
def res_main_v6 (V0 : Valuation τ sig (Elt F)) : (Proc.devRef .tc main_v6 : DevRef τ sig).ty.Contents (Elt F) :=
  broadcastInDim S64x64 ![0] bcast_S64_S64x64_0 (mulf (sitofp .f32 (iotaInDim S64 32 0)) (broadcastInDim S64 ![] bcast_S_S64 (constant S_ .f32 0x41800000#32)))

set_option maxRecDepth 8192 in
/-- `main_v7`'s composed term of the arguments (named: it is used 2 times). -/
def res_main_v7 (V0 : Valuation τ sig (Elt F)) : (Proc.devRef .tc main_v7 : DevRef τ sig).ty.Contents (Elt F) :=
  broadcastInDim S64x64 ![1] bcast_S64_S64x64_1 (mulf (sitofp .f32 (iotaInDim S64 32 0)) (broadcastInDim S64 ![] bcast_S_S64 (constant S_ .f32 0x41800000#32)))

set_option maxRecDepth 8192 in
/-- `main_v22`'s composed term of the arguments (named: it is used 18 times). -/
def res_main_v22 (V0 : Valuation τ sig (Elt F)) : (Proc.devRef .tc main_v22 : DevRef τ sig).ty.Contents (Elt F) :=
  shapeCast _ (addf (broadcastInDim S4096x9x4 ![0, 1, 2] bcast_S1x9x4_S4096x9x4_0_1_2 (broadcastInDim S1x9x4 ![1, 2] bcast_S9x4_S1x9x4_1_2 ((fun i => FloatOps.ofBits .f32 (lit0 (S9x4.rowMajor i)))))) (broadcastInDim S4096x9x4 ![0, 1, 2] bcast_S4096x1x4_S4096x9x4_0_1_2 (broadcastInDim S4096x1x4 ![0, 2] bcast_S4096x4_S4096x1x4_0_2 ((concatenate S4096x4 1 [⟨S4096x1, ((broadcastInDim S4096x1 ![0] bcast_S4096_S4096x1_0 (shapeCast _ (res_main_v7 V0) shapeCasts_S64x64_S4096)) : (⟨S4096x1, .f32⟩ : BufTy).Contents (Elt F))⟩, ⟨S4096x1, ((broadcastInDim S4096x1 ![0] bcast_S4096_S4096x1_0 (shapeCast _ (res_main_v6 V0) shapeCasts_S64x64_S4096)) : (⟨S4096x1, .f32⟩ : BufTy).Contents (Elt F))⟩, ⟨S4096x1, ((broadcastInDim S4096x1 ![0] bcast_S4096_S4096x1_0 (shapeCast _ (res_main_v7 V0) shapeCasts_S64x64_S4096)) : (⟨S4096x1, .f32⟩ : BufTy).Contents (Elt F))⟩, ⟨S4096x1, ((broadcastInDim S4096x1 ![0] bcast_S4096_S4096x1_0 (shapeCast _ (res_main_v6 V0) shapeCasts_S64x64_S4096)) : (⟨S4096x1, .f32⟩ : BufTy).Contents (Elt F))⟩] concatenates_S4096x1_S4096x1_S4096x1_S4096x1_S4096x4_d1 : (⟨S4096x4, .f32⟩ : BufTy).Contents (Elt F)))))) shapeCasts_S4096x9x4_S36864x4

set_option maxRecDepth 8192 in
/-- `main_v23`'s composed term of the arguments (named: it is used 2 times). -/
def res_main_v23 (V0 : Valuation τ sig (Elt F)) : (Proc.devRef .tc main_v23 : DevRef τ sig).ty.Contents (Elt F) :=
  shapeCast _ (V0 (Proc.devRef .tc main_arg2)) shapeCasts_S1x3_S3

set_option maxRecDepth 8192 in
/-- `main_v46`'s composed term of the arguments (named: it is used 4 times). -/
def res_main_v46 (V0 : Valuation τ sig (Elt F)) : (Proc.devRef .tc main_v46 : DevRef τ sig).ty.Contents (Elt F) :=
  andi (andi (andi (cmpf .oge (shapeCast _ (extractStridedSlice S36864x1 ![0, 0] (res_main_v22 V0) slices_S36864x4_S36864x1_0_0) shapeCasts_S36864x1_S36864) (broadcastInDim S36864 ![] bcast_S_S36864 (constant S_ .f32 0x00000000#32))) (cmpf .oge (shapeCast _ (extractStridedSlice S36864x1 ![0, 1] (res_main_v22 V0) slices_S36864x4_S36864x1_0_1) shapeCasts_S36864x1_S36864) (broadcastInDim S36864 ![] bcast_S_S36864 (constant S_ .f32 0x00000000#32)))) (cmpf .olt (shapeCast _ (extractStridedSlice S36864x1 ![0, 2] (res_main_v22 V0) slices_S36864x4_S36864x1_0_2) shapeCasts_S36864x1_S36864) (broadcastInDim S36864 ![] bcast_S_S36864 (shapeCast _ (extractStridedSlice S1 ![1] (res_main_v23 V0) slices_S3_S1_1) shapeCasts_S1_S_)))) (cmpf .olt (shapeCast _ (extractStridedSlice S36864x1 ![0, 3] (res_main_v22 V0) slices_S36864x4_S36864x1_0_3) shapeCasts_S36864x1_S36864) (broadcastInDim S36864 ![] bcast_S_S36864 (shapeCast _ (extractStridedSlice S1 ![0] (res_main_v23 V0) slices_S3_S1_0) shapeCasts_S1_S_)))

set_option maxRecDepth 8192 in
/-- `main_v47`'s composed term of the arguments (named: it is used 8 times). -/
def res_main_v47 (V0 : Valuation τ sig (Elt F)) : (Proc.devRef .tc main_v47 : DevRef τ sig).ty.Contents (Elt F) :=
  extractStridedSlice S100x4 ![0, 0] (V0 (Proc.devRef .tc main_arg1)) slices_S100x5_S100x4_0_0

set_option maxRecDepth 8192 in
/-- `main_v124`'s composed term of the arguments (named: it is used 2 times). -/
def res_main_v124 (V0 : Valuation τ sig (Elt F)) : (Proc.devRef .tc main_v124 : DevRef τ sig).ty.Contents (Elt F) :=
  mulf (maximumf (addf (subf (minimumf (broadcastInDim S36864x100 ![0, 1] bcast_S36864x1_S36864x100_0_1 (broadcastInDim S36864x1 ![0] bcast_S36864_S36864x1_0 (shapeCast _ (extractStridedSlice S36864x1 ![0, 2] (res_main_v22 V0) slices_S36864x4_S36864x1_0_2) shapeCasts_S36864x1_S36864))) (broadcastInDim S36864x100 ![0, 1] bcast_S1x100_S36864x100_0_1 (broadcastInDim S1x100 ![1] bcast_S100_S1x100_1 (shapeCast _ (extractStridedSlice S100x1 ![0, 2] (res_main_v47 V0) slices_S100x4_S100x1_0_2) shapeCasts_S100x1_S100)))) (maximumf (broadcastInDim S36864x100 ![0, 1] bcast_S36864x1_S36864x100_0_1 (broadcastInDim S36864x1 ![0] bcast_S36864_S36864x1_0 (shapeCast _ (extractStridedSlice S36864x1 ![0, 0] (res_main_v22 V0) slices_S36864x4_S36864x1_0_0) shapeCasts_S36864x1_S36864))) (broadcastInDim S36864x100 ![0, 1] bcast_S1x100_S36864x100_0_1 (broadcastInDim S1x100 ![1] bcast_S100_S1x100_1 (shapeCast _ (extractStridedSlice S100x1 ![0, 0] (res_main_v47 V0) slices_S100x4_S100x1_0_0) shapeCasts_S100x1_S100))))) (broadcastInDim S36864x100 ![] bcast_S_S36864x100 (constant S_ .f32 0x3F800000#32))) (broadcastInDim S36864x100 ![] bcast_S_S36864x100 (constant S_ .f32 0x00000000#32))) (maximumf (addf (subf (minimumf (broadcastInDim S36864x100 ![0, 1] bcast_S36864x1_S36864x100_0_1 (broadcastInDim S36864x1 ![0] bcast_S36864_S36864x1_0 (shapeCast _ (extractStridedSlice S36864x1 ![0, 3] (res_main_v22 V0) slices_S36864x4_S36864x1_0_3) shapeCasts_S36864x1_S36864))) (broadcastInDim S36864x100 ![0, 1] bcast_S1x100_S36864x100_0_1 (broadcastInDim S1x100 ![1] bcast_S100_S1x100_1 (shapeCast _ (extractStridedSlice S100x1 ![0, 3] (res_main_v47 V0) slices_S100x4_S100x1_0_3) shapeCasts_S100x1_S100)))) (maximumf (broadcastInDim S36864x100 ![0, 1] bcast_S36864x1_S36864x100_0_1 (broadcastInDim S36864x1 ![0] bcast_S36864_S36864x1_0 (shapeCast _ (extractStridedSlice S36864x1 ![0, 1] (res_main_v22 V0) slices_S36864x4_S36864x1_0_1) shapeCasts_S36864x1_S36864))) (broadcastInDim S36864x100 ![0, 1] bcast_S1x100_S36864x100_0_1 (broadcastInDim S1x100 ![1] bcast_S100_S1x100_1 (shapeCast _ (extractStridedSlice S100x1 ![0, 1] (res_main_v47 V0) slices_S100x4_S100x1_0_1) shapeCasts_S100x1_S100))))) (broadcastInDim S36864x100 ![] bcast_S_S36864x100 (constant S_ .f32 0x3F800000#32))) (broadcastInDim S36864x100 ![] bcast_S_S36864x100 (constant S_ .f32 0x00000000#32)))

set_option maxRecDepth 8192 in
/-- `main_v133`'s composed term of the arguments (named: it is used 4 times). -/
def res_main_v133 (V0 : Valuation τ sig (Elt F)) : (Proc.devRef .tc main_v133 : DevRef τ sig).ty.Contents (Elt F) :=
  select (broadcastInDim S36864x100 ![0, 1] bcast_S36864x1_S36864x100_0_1 (broadcastInDim S36864x1 ![0] bcast_S36864_S36864x1_0 (res_main_v46 V0))) (Host.divf (res_main_v124 V0) (subf (addf (broadcastInDim S36864x100 ![0, 1] bcast_S36864x1_S36864x100_0_1 (broadcastInDim S36864x1 ![0] bcast_S36864_S36864x1_0 (mulf (addf (subf (shapeCast _ (extractStridedSlice S36864x1 ![0, 2] (res_main_v22 V0) slices_S36864x4_S36864x1_0_2) shapeCasts_S36864x1_S36864) (shapeCast _ (extractStridedSlice S36864x1 ![0, 0] (res_main_v22 V0) slices_S36864x4_S36864x1_0_0) shapeCasts_S36864x1_S36864)) (broadcastInDim S36864 ![] bcast_S_S36864 (constant S_ .f32 0x3F800000#32))) (addf (subf (shapeCast _ (extractStridedSlice S36864x1 ![0, 3] (res_main_v22 V0) slices_S36864x4_S36864x1_0_3) shapeCasts_S36864x1_S36864) (shapeCast _ (extractStridedSlice S36864x1 ![0, 1] (res_main_v22 V0) slices_S36864x4_S36864x1_0_1) shapeCasts_S36864x1_S36864)) (broadcastInDim S36864 ![] bcast_S_S36864 (constant S_ .f32 0x3F800000#32)))))) (broadcastInDim S36864x100 ![0, 1] bcast_S1x100_S36864x100_0_1 (broadcastInDim S1x100 ![1] bcast_S100_S1x100_1 (mulf (addf (subf (shapeCast _ (extractStridedSlice S100x1 ![0, 2] (res_main_v47 V0) slices_S100x4_S100x1_0_2) shapeCasts_S100x1_S100) (shapeCast _ (extractStridedSlice S100x1 ![0, 0] (res_main_v47 V0) slices_S100x4_S100x1_0_0) shapeCasts_S100x1_S100)) (broadcastInDim S100 ![] bcast_S_S100 (constant S_ .f32 0x3F800000#32))) (addf (subf (shapeCast _ (extractStridedSlice S100x1 ![0, 3] (res_main_v47 V0) slices_S100x4_S100x1_0_3) shapeCasts_S100x1_S100) (shapeCast _ (extractStridedSlice S100x1 ![0, 1] (res_main_v47 V0) slices_S100x4_S100x1_0_1) shapeCasts_S100x1_S100)) (broadcastInDim S100 ![] bcast_S_S100 (constant S_ .f32 0x3F800000#32))))))) (res_main_v124 V0))) (broadcastInDim S36864x100 ![] bcast_S_S36864x100 (id (constant S_ .f32 0xBF800000#32)))

set_option maxRecDepth 8192 in
/-- `main_v134`'s composed term of the arguments (named: it is used 3 times). -/
def res_main_v134 (V0 : Valuation τ sig (Elt F)) : (Proc.devRef .tc main_v134 : DevRef τ sig).ty.Contents (Elt F) :=
  Host.reduce FloatOps.maximumf (res_main_v133 V0) (constant S_ .f32 0xFF800000#32) reducesTo_S36864x100_S36864_d1 h_S_

set_option maxRecDepth 8192 in
/-- `main_v141`'s composed term of the arguments (named: it is used 3 times). -/
def res_main_v141 (V0 : Valuation τ sig (Elt F)) : (Proc.devRef .tc main_v141 : DevRef τ sig).ty.Contents (Elt F) :=
  Host.reduce IntOp.minsi (select (cmpf .oeq (res_main_v133 V0) (broadcastInDim S36864x100 ![0, 1] bcast_S36864x1_S36864x100_0_1 (broadcastInDim S36864x1 ![0] bcast_S36864_S36864x1_0 (res_main_v134 V0)))) (broadcastInDim S36864x100 ![0, 1] bcast_S1x100_S36864x100_0_1 (broadcastInDim S1x100 ![1] bcast_S100_S1x100_1 (iotaInDim S100 32 0))) (broadcastInDim S36864x100 ![] bcast_S_S36864x100 (id (constantI S_ 32 100#32)))) (constantI S_ 32 2147483647#32) reducesTo_S36864x100_S36864_d1 h_S_

set_option maxRecDepth 8192 in
/-- `main_v158`'s composed term of the arguments (named: it is used 2 times). -/
def res_main_v158 (V0 : Valuation τ sig (Elt F)) : (Proc.devRef .tc main_v158 : DevRef τ sig).ty.Contents (Elt F) :=
  select (res_main_v46 V0) (select (cmpf .oge (res_main_v134 V0) (broadcastInDim S36864 ![] bcast_S_S36864 (constant S_ .f32 0x3F333333#32))) (broadcastInDim S36864 ![] bcast_S_S36864 (id (constant S_ .f32 0x3F800000#32))) (select (Host.reduce IntOp.ori (andi (cmpf .oeq (res_main_v133 V0) (broadcastInDim S36864x100 ![0, 1] bcast_S1x100_S36864x100_0_1 (broadcastInDim S1x100 ![1] bcast_S100_S1x100_1 (Host.reduce FloatOps.maximumf (res_main_v133 V0) (constant S_ .f32 0xFF800000#32) reducesTo_S36864x100_S100_d0 h_S_)))) (broadcastInDim S36864x100 ![0, 1] bcast_S36864x1_S36864x100_0_1 (broadcastInDim S36864x1 ![0] bcast_S36864_S36864x1_0 (res_main_v46 V0)))) (constantI S_ 1 0#1) reducesTo_S36864x100_S36864_d1 h_S_) (broadcastInDim S36864 ![] bcast_S_S36864 (id (constant S_ .f32 0x3F800000#32))) (select (cmpf .olt (res_main_v134 V0) (broadcastInDim S36864 ![] bcast_S_S36864 (constant S_ .f32 0x3E99999A#32))) (broadcastInDim S36864 ![] bcast_S_S36864 (id (constant S_ .f32 0x00000000#32))) (broadcastInDim S36864 ![] bcast_S_S36864 (constant S_ .f32 0xBF800000#32))))) (broadcastInDim S36864 ![] bcast_S_S36864 (id (constant S_ .f32 0xBF800000#32)))

set_option maxRecDepth 8192 in
/-- `main_v160`'s composed term of the arguments (named: it is used 2 times). -/
def res_main_v160 (V0 : Valuation τ sig (Elt F)) : (Proc.devRef .tc main_v160 : DevRef τ sig).ty.Contents (Elt F) :=
  cmpf .oeq (res_main_v158 V0) (broadcastInDim S36864 ![] bcast_S_S36864 (constant S_ .f32 0x3F800000#32))

set_option maxRecDepth 8192 in
/-- `main_v166`'s composed term of the arguments (named: it is used 3 times). -/
def res_main_v166 (V0 : Valuation τ sig (Elt F)) : (Proc.devRef .tc main_v166 : DevRef τ sig).ty.Contents (Elt F) :=
  select (andi (res_main_v160 V0) (cmpi .sgt (Host.reduceWindow IntOp.addi ![36864] ![1] ![36863] ![0] (extui 32 (res_main_v160 V0) natLt_1_32) (broadcastInDim S_ ![] bcast_S_S_ (constantI S_ 32 0#32)) reduceWindows_S36864_S36864_w36864s1p36863_0 h_S_) (broadcastInDim S36864 ![] bcast_S_S36864 (constantI S_ 32 128#32)))) (broadcastInDim S36864 ![] bcast_S_S36864 (id (constant S_ .f32 0xBF800000#32))) (res_main_v158 V0)

set_option maxRecDepth 8192 in
/-- `main_v173`'s composed term of the arguments (named: it is used 2 times). -/
def res_main_v173 (V0 : Valuation τ sig (Elt F)) : (Proc.devRef .tc main_v173 : DevRef τ sig).ty.Contents (Elt F) :=
  cmpf .oeq (res_main_v166 V0) (broadcastInDim S36864 ![] bcast_S_S36864 (constant S_ .f32 0x00000000#32))

set_option maxRecDepth 8192 in
/-- `main_v179`'s composed term of the arguments (named: it is used 4 times). -/
def res_main_v179 (V0 : Valuation τ sig (Elt F)) : (Proc.devRef .tc main_v179 : DevRef τ sig).ty.Contents (Elt F) :=
  select (andi (res_main_v173 V0) (cmpi .sgt (Host.reduceWindow IntOp.addi ![36864] ![1] ![36863] ![0] (extui 32 (res_main_v173 V0) natLt_1_32) (broadcastInDim S_ ![] bcast_S_S_ (constantI S_ 32 0#32)) reduceWindows_S36864_S36864_w36864s1p36863_0 h_S_) (broadcastInDim S36864 ![] bcast_S_S36864 (subi (constantI S_ 32 256#32) (Host.reduce IntOp.addi (extui 32 (cmpf .oeq (res_main_v166 V0) (broadcastInDim S36864 ![] bcast_S_S36864 (constant S_ .f32 0x3F800000#32))) natLt_1_32) (constantI S_ 32 0#32) reducesTo_S36864_S_d0 h_S_))))) (broadcastInDim S36864 ![] bcast_S_S36864 (id (constant S_ .f32 0xBF800000#32))) (res_main_v166 V0)

set_option maxRecDepth 8192 in
/-- `main_v188`'s composed term of the arguments (named: it is used 6 times). -/
def res_main_v188 (V0 : Valuation τ sig (Elt F)) : (Proc.devRef .tc main_v188 : DevRef τ sig).ty.Contents (Elt F) :=
  Host.gather gather_S100x5_S36864x2_S36864x4_1_0_n_n_01_1_14 (V0 (Proc.devRef .tc main_arg1)) (concatenate S36864x2 1 [⟨S36864x1, (broadcastInDim S36864x1 ![0] bcast_S36864_S36864x1_0 (select (cmpi .slt (res_main_v141 V0) (broadcastInDim S36864 ![] bcast_S_S36864 (constantI S_ 32 0#32))) (addi (res_main_v141 V0) (broadcastInDim S36864 ![] bcast_S_S36864 (constantI S_ 32 100#32))) (res_main_v141 V0)))⟩, ⟨S36864x1, (broadcastInDim S36864x1 ![] bcast_S_S36864x1 (constantI S_ 32 0#32))⟩] concatenates_S36864x1_S36864x1_S36864x2_d1)

set_option maxRecDepth 8192 in
/-- `main_v195`'s composed term of the arguments (named: it is used 3 times). -/
def res_main_v195 (V0 : Valuation τ sig (Elt F)) : (Proc.devRef .tc main_v195 : DevRef τ sig).ty.Contents (Elt F) :=
  addf (subf (shapeCast _ (extractStridedSlice S36864x1 ![0, 2] (res_main_v22 V0) slices_S36864x4_S36864x1_0_2) shapeCasts_S36864x1_S36864) (shapeCast _ (extractStridedSlice S36864x1 ![0, 0] (res_main_v22 V0) slices_S36864x4_S36864x1_0_0) shapeCasts_S36864x1_S36864)) (broadcastInDim S36864 ![] bcast_S_S36864 (constant S_ .f32 0x3F800000#32))

set_option maxRecDepth 8192 in
/-- `main_v202`'s composed term of the arguments (named: it is used 3 times). -/
def res_main_v202 (V0 : Valuation τ sig (Elt F)) : (Proc.devRef .tc main_v202 : DevRef τ sig).ty.Contents (Elt F) :=
  addf (subf (shapeCast _ (extractStridedSlice S36864x1 ![0, 3] (res_main_v22 V0) slices_S36864x4_S36864x1_0_3) shapeCasts_S36864x1_S36864) (shapeCast _ (extractStridedSlice S36864x1 ![0, 1] (res_main_v22 V0) slices_S36864x4_S36864x1_0_1) shapeCasts_S36864x1_S36864)) (broadcastInDim S36864 ![] bcast_S_S36864 (constant S_ .f32 0x3F800000#32))

set_option maxRecDepth 8192 in
/-- `main_v219`'s composed term of the arguments (named: it is used 2 times). -/
def res_main_v219 (V0 : Valuation τ sig (Elt F)) : (Proc.devRef .tc main_v219 : DevRef τ sig).ty.Contents (Elt F) :=
  addf (subf (shapeCast _ (extractStridedSlice S36864x1 ![0, 2] (res_main_v188 V0) slices_S36864x4_S36864x1_0_2) shapeCasts_S36864x1_S36864) (shapeCast _ (extractStridedSlice S36864x1 ![0, 0] (res_main_v188 V0) slices_S36864x4_S36864x1_0_0) shapeCasts_S36864x1_S36864)) (broadcastInDim S36864 ![] bcast_S_S36864 (constant S_ .f32 0x3F800000#32))

set_option maxRecDepth 8192 in
/-- `main_v226`'s composed term of the arguments (named: it is used 2 times). -/
def res_main_v226 (V0 : Valuation τ sig (Elt F)) : (Proc.devRef .tc main_v226 : DevRef τ sig).ty.Contents (Elt F) :=
  addf (subf (shapeCast _ (extractStridedSlice S36864x1 ![0, 3] (res_main_v188 V0) slices_S36864x4_S36864x1_0_3) shapeCasts_S36864x1_S36864) (shapeCast _ (extractStridedSlice S36864x1 ![0, 1] (res_main_v188 V0) slices_S36864x4_S36864x1_0_1) shapeCasts_S36864x1_S36864)) (broadcastInDim S36864 ![] bcast_S_S36864 (constant S_ .f32 0x3F800000#32))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_cst, main_v0, main_cst_0, main_v1, main_v2, main_v3, main_cst_1, main_v4, main_v5, main_v6, main_v7, main_v8, main_v9, main_v10, main_v11, main_v12, main_v13, main_v14, main_v15, main_v16, main_v17, main_v18, main_v19, main_v20, main_v21, main_v22, main_v23, main_v24, main_v25, main_cst_2, main_v26, main_v27, main_v28, main_v29, main_cst_3, main_v30, main_v31, main_v32, main_v33, main_v34, main_v35, main_v36, main_v37, main_v38, main_v39, main_v40, main_v41, main_v42, main_v43, main_v44, main_v45, main_v46, main_v47, main_v48, main_v49, main_v50, main_v51, main_v52, main_cst_4, main_v53]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
set_option maxRecDepth 8192 in
set_option maxHeartbeats 2000000 in
theorem val1_main_v22 (V0 : Valuation τ sig (Elt F)) : val1 V0 (no_index (Proc.devRef .tc main_v22)) = res_main_v22 V0 := by
  unfold val1
  simp only [ops_part0]
  after_results_simp
  try dsimp only [Matrix.cons_val]
  try after_results_simp
  all_goals rfl
set_option maxRecDepth 8192 in
set_option maxHeartbeats 2000000 in
theorem val1_main_v46 (V0 : Valuation τ sig (Elt F)) : val1 V0 (no_index (Proc.devRef .tc main_v46)) = res_main_v46 V0 := by
  unfold val1
  simp only [ops_part0]
  after_results_simp
  try dsimp only [Matrix.cons_val]
  try after_results_simp
  simp only [val0_main_arg2] <;> rfl
set_option maxRecDepth 8192 in
set_option maxHeartbeats 2000000 in
theorem val1_main_v47 (V0 : Valuation τ sig (Elt F)) : val1 V0 (no_index (Proc.devRef .tc main_v47)) = res_main_v47 V0 := by
  unfold val1
  simp only [ops_part0]
  after_results_simp
  try dsimp only [Matrix.cons_val]
  try after_results_simp
  simp only [val0_main_arg1] <;> rfl
set_option maxRecDepth 8192 in
set_option maxHeartbeats 2000000 in
theorem val1_main_v52 (V0 : Valuation τ sig (Elt F)) : val1 V0 (no_index (Proc.devRef .tc main_v52)) = subf (shapeCast _ (extractStridedSlice S36864x1 ![0, 2] (res_main_v22 V0) slices_S36864x4_S36864x1_0_2) shapeCasts_S36864x1_S36864) (shapeCast _ (extractStridedSlice S36864x1 ![0, 0] (res_main_v22 V0) slices_S36864x4_S36864x1_0_0) shapeCasts_S36864x1_S36864) := by
  unfold val1
  simp only [ops_part0]
  after_results_simp
  try dsimp only [Matrix.cons_val]
  try after_results_simp
  all_goals rfl
set_option maxRecDepth 8192 in
set_option maxHeartbeats 2000000 in
theorem val1_main_v53 (V0 : Valuation τ sig (Elt F)) : val1 V0 (no_index (Proc.devRef .tc main_v53)) = broadcastInDim S36864 ![] bcast_S_S36864 (constant S_ .f32 0x3F800000#32) := by
  unfold val1
  simp only [ops_part0]
  after_results_simp
  try dsimp only [Matrix.cons_val]
  try after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v54, main_v55, main_v56, main_v57, main_v58, main_v59, main_cst_5, main_v60, main_v61, main_v62, main_v63, main_v64, main_v65, main_v66, main_v67, main_cst_6, main_v68, main_v69, main_v70, main_v71, main_v72, main_v73, main_v74, main_cst_7, main_v75, main_v76, main_v77, main_v78, main_v79, main_v80, main_v81, main_v82, main_v83, main_v84, main_v85, main_v86, main_v87, main_v88, main_v89, main_v90, main_v91, main_v92, main_v93, main_v94, main_v95, main_v96, main_cst_8, main_v97, main_v98, main_v99, main_v100, main_v101, main_v102, main_v103, main_v104, main_v105, main_v106, main_v107, main_v108, main_v109]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_v22 (V0 : Valuation τ sig (Elt F)) : val2 V0 (no_index (Proc.devRef .tc main_v22)) = res_main_v22 V0 :=
  (val2_keep V0 main_v22 (by decide)).trans (val1_main_v22 V0)
theorem val2_main_v46 (V0 : Valuation τ sig (Elt F)) : val2 V0 (no_index (Proc.devRef .tc main_v46)) = res_main_v46 V0 :=
  (val2_keep V0 main_v46 (by decide)).trans (val1_main_v46 V0)
theorem val2_main_v47 (V0 : Valuation τ sig (Elt F)) : val2 V0 (no_index (Proc.devRef .tc main_v47)) = res_main_v47 V0 :=
  (val2_keep V0 main_v47 (by decide)).trans (val1_main_v47 V0)
set_option maxRecDepth 8192 in
set_option maxHeartbeats 2000000 in
theorem val2_main_v62 (V0 : Valuation τ sig (Elt F)) : val2 V0 (no_index (Proc.devRef .tc main_v62)) = mulf (addf (subf (shapeCast _ (extractStridedSlice S36864x1 ![0, 2] (res_main_v22 V0) slices_S36864x4_S36864x1_0_2) shapeCasts_S36864x1_S36864) (shapeCast _ (extractStridedSlice S36864x1 ![0, 0] (res_main_v22 V0) slices_S36864x4_S36864x1_0_0) shapeCasts_S36864x1_S36864)) (broadcastInDim S36864 ![] bcast_S_S36864 (constant S_ .f32 0x3F800000#32))) (addf (subf (shapeCast _ (extractStridedSlice S36864x1 ![0, 3] (res_main_v22 V0) slices_S36864x4_S36864x1_0_3) shapeCasts_S36864x1_S36864) (shapeCast _ (extractStridedSlice S36864x1 ![0, 1] (res_main_v22 V0) slices_S36864x4_S36864x1_0_1) shapeCasts_S36864x1_S36864)) (broadcastInDim S36864 ![] bcast_S_S36864 (constant S_ .f32 0x3F800000#32))) := by
  unfold val2
  simp only [ops_part1]
  after_results_simp
  simp only [val1_main_v22, val1_main_v53, val1_main_v52] <;> rfl
set_option maxRecDepth 8192 in
set_option maxHeartbeats 2000000 in
theorem val2_main_v77 (V0 : Valuation τ sig (Elt F)) : val2 V0 (no_index (Proc.devRef .tc main_v77)) = mulf (addf (subf (shapeCast _ (extractStridedSlice S100x1 ![0, 2] (res_main_v47 V0) slices_S100x4_S100x1_0_2) shapeCasts_S100x1_S100) (shapeCast _ (extractStridedSlice S100x1 ![0, 0] (res_main_v47 V0) slices_S100x4_S100x1_0_0) shapeCasts_S100x1_S100)) (broadcastInDim S100 ![] bcast_S_S100 (constant S_ .f32 0x3F800000#32))) (addf (subf (shapeCast _ (extractStridedSlice S100x1 ![0, 3] (res_main_v47 V0) slices_S100x4_S100x1_0_3) shapeCasts_S100x1_S100) (shapeCast _ (extractStridedSlice S100x1 ![0, 1] (res_main_v47 V0) slices_S100x4_S100x1_0_1) shapeCasts_S100x1_S100)) (broadcastInDim S100 ![] bcast_S_S100 (constant S_ .f32 0x3F800000#32))) := by
  unfold val2
  simp only [ops_part1]
  after_results_simp
  simp only [val1_main_v47] <;> rfl
set_option maxRecDepth 8192 in
set_option maxHeartbeats 2000000 in
theorem val2_main_v98 (V0 : Valuation τ sig (Elt F)) : val2 V0 (no_index (Proc.devRef .tc main_v98)) = addf (subf (minimumf (broadcastInDim S36864x100 ![0, 1] bcast_S36864x1_S36864x100_0_1 (broadcastInDim S36864x1 ![0] bcast_S36864_S36864x1_0 (shapeCast _ (extractStridedSlice S36864x1 ![0, 2] (res_main_v22 V0) slices_S36864x4_S36864x1_0_2) shapeCasts_S36864x1_S36864))) (broadcastInDim S36864x100 ![0, 1] bcast_S1x100_S36864x100_0_1 (broadcastInDim S1x100 ![1] bcast_S100_S1x100_1 (shapeCast _ (extractStridedSlice S100x1 ![0, 2] (res_main_v47 V0) slices_S100x4_S100x1_0_2) shapeCasts_S100x1_S100)))) (maximumf (broadcastInDim S36864x100 ![0, 1] bcast_S36864x1_S36864x100_0_1 (broadcastInDim S36864x1 ![0] bcast_S36864_S36864x1_0 (shapeCast _ (extractStridedSlice S36864x1 ![0, 0] (res_main_v22 V0) slices_S36864x4_S36864x1_0_0) shapeCasts_S36864x1_S36864))) (broadcastInDim S36864x100 ![0, 1] bcast_S1x100_S36864x100_0_1 (broadcastInDim S1x100 ![1] bcast_S100_S1x100_1 (shapeCast _ (extractStridedSlice S100x1 ![0, 0] (res_main_v47 V0) slices_S100x4_S100x1_0_0) shapeCasts_S100x1_S100))))) (broadcastInDim S36864x100 ![] bcast_S_S36864x100 (constant S_ .f32 0x3F800000#32)) := by
  unfold val2
  simp only [ops_part1]
  after_results_simp
  simp only [val1_main_v47, val1_main_v22] <;> rfl
set_option maxRecDepth 8192 in
set_option maxHeartbeats 2000000 in
theorem val2_main_v107 (V0 : Valuation τ sig (Elt F)) : val2 V0 (no_index (Proc.devRef .tc main_v107)) = minimumf (broadcastInDim S36864x100 ![0, 1] bcast_S36864x1_S36864x100_0_1 (broadcastInDim S36864x1 ![0] bcast_S36864_S36864x1_0 (shapeCast _ (extractStridedSlice S36864x1 ![0, 3] (res_main_v22 V0) slices_S36864x4_S36864x1_0_3) shapeCasts_S36864x1_S36864))) (broadcastInDim S36864x100 ![0, 1] bcast_S1x100_S36864x100_0_1 (broadcastInDim S1x100 ![1] bcast_S100_S1x100_1 (shapeCast _ (extractStridedSlice S100x1 ![0, 3] (res_main_v47 V0) slices_S100x4_S100x1_0_3) shapeCasts_S100x1_S100))) := by
  unfold val2
  simp only [ops_part1]
  after_results_simp
  simp only [val1_main_v47, val1_main_v22] <;> rfl
set_option maxRecDepth 8192 in
set_option maxHeartbeats 2000000 in
theorem val2_main_v109 (V0 : Valuation τ sig (Elt F)) : val2 V0 (no_index (Proc.devRef .tc main_v109)) = shapeCast _ (extractStridedSlice S36864x1 ![0, 1] (res_main_v22 V0) slices_S36864x4_S36864x1_0_1) shapeCasts_S36864x1_S36864 := by
  unfold val2
  simp only [ops_part1]
  after_results_simp
  simp only [val1_main_v22] <;> rfl

/-- The device's buffer contents after @main's first 150 operations. -/
def val2_1 (V0 : Valuation τ sig (Elt F)) : Valuation τ sig (Elt F) := after ops_part2_0 (val2 V0)
/-- The buffers that window `ops_part2_0`'s operations write. -/
abbrev ops_part2_0_W : List (Ref sig .tc) := [main_v110, main_v111, main_v112, main_v113, main_v114, main_v115, main_v116, main_v117, main_cst_9, main_v118, main_v119, main_cst_10, main_v120, main_v121, main_cst_11, main_v122, main_v123, main_v124, main_v125, main_v126, main_v127, main_v128, main_v129, main_v130, main_v131, main_v132, main_cst_12, main_call0_v0, main_call0_v1, main_call0_v2]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_v22 (V0 : Valuation τ sig (Elt F)) : val2_1 V0 (no_index (Proc.devRef .tc main_v22)) = res_main_v22 V0 :=
  (val2_1_keep V0 main_v22 (by decide)).trans (val2_main_v22 V0)
theorem val2_1_main_v46 (V0 : Valuation τ sig (Elt F)) : val2_1 V0 (no_index (Proc.devRef .tc main_v46)) = res_main_v46 V0 :=
  (val2_1_keep V0 main_v46 (by decide)).trans (val2_main_v46 V0)
set_option maxRecDepth 8192 in
set_option maxHeartbeats 2000000 in
theorem val2_1_main_v131 (V0 : Valuation τ sig (Elt F)) : val2_1 V0 (no_index (Proc.devRef .tc main_v131)) = Host.divf (res_main_v124 V0) (subf (addf (broadcastInDim S36864x100 ![0, 1] bcast_S36864x1_S36864x100_0_1 (broadcastInDim S36864x1 ![0] bcast_S36864_S36864x1_0 (mulf (addf (subf (shapeCast _ (extractStridedSlice S36864x1 ![0, 2] (res_main_v22 V0) slices_S36864x4_S36864x1_0_2) shapeCasts_S36864x1_S36864) (shapeCast _ (extractStridedSlice S36864x1 ![0, 0] (res_main_v22 V0) slices_S36864x4_S36864x1_0_0) shapeCasts_S36864x1_S36864)) (broadcastInDim S36864 ![] bcast_S_S36864 (constant S_ .f32 0x3F800000#32))) (addf (subf (shapeCast _ (extractStridedSlice S36864x1 ![0, 3] (res_main_v22 V0) slices_S36864x4_S36864x1_0_3) shapeCasts_S36864x1_S36864) (shapeCast _ (extractStridedSlice S36864x1 ![0, 1] (res_main_v22 V0) slices_S36864x4_S36864x1_0_1) shapeCasts_S36864x1_S36864)) (broadcastInDim S36864 ![] bcast_S_S36864 (constant S_ .f32 0x3F800000#32)))))) (broadcastInDim S36864x100 ![0, 1] bcast_S1x100_S36864x100_0_1 (broadcastInDim S1x100 ![1] bcast_S100_S1x100_1 (mulf (addf (subf (shapeCast _ (extractStridedSlice S100x1 ![0, 2] (res_main_v47 V0) slices_S100x4_S100x1_0_2) shapeCasts_S100x1_S100) (shapeCast _ (extractStridedSlice S100x1 ![0, 0] (res_main_v47 V0) slices_S100x4_S100x1_0_0) shapeCasts_S100x1_S100)) (broadcastInDim S100 ![] bcast_S_S100 (constant S_ .f32 0x3F800000#32))) (addf (subf (shapeCast _ (extractStridedSlice S100x1 ![0, 3] (res_main_v47 V0) slices_S100x4_S100x1_0_3) shapeCasts_S100x1_S100) (shapeCast _ (extractStridedSlice S100x1 ![0, 1] (res_main_v47 V0) slices_S100x4_S100x1_0_1) shapeCasts_S100x1_S100)) (broadcastInDim S100 ![] bcast_S_S100 (constant S_ .f32 0x3F800000#32))))))) (res_main_v124 V0)) := by
  unfold val2_1
  simp only [ops_part2_0, TRef.unary, TRef.toBuf, TRef.ofBuf, cast_eq]
  after_results_simp
  simp only [val2_main_v77, val2_main_v62, val2_main_v47, val2_main_v109, val2_main_v107, val2_main_v98] <;> rfl
set_option maxRecDepth 8192 in
set_option maxHeartbeats 2000000 in
theorem val2_1_main_call0_v1 (V0 : Valuation τ sig (Elt F)) : val2_1 V0 (no_index (Proc.devRef .tc main_call0_v1)) = broadcastInDim S36864x100 ![0, 1] bcast_S36864x1_S36864x100_0_1 (broadcastInDim S36864x1 ![0] bcast_S36864_S36864x1_0 (res_main_v46 V0)) := by
  unfold val2_1
  simp only [ops_part2_0, TRef.unary, TRef.toBuf, TRef.ofBuf, cast_eq]
  after_results_simp
  simp only [val2_main_v46] <;> rfl
set_option maxRecDepth 8192 in
set_option maxHeartbeats 2000000 in
theorem val2_1_main_call0_v2 (V0 : Valuation τ sig (Elt F)) : val2_1 V0 (no_index (Proc.devRef .tc main_call0_v2)) = broadcastInDim S36864x100 ![] bcast_S_S36864x100 (id (constant S_ .f32 0xBF800000#32)) := by
  unfold val2_1
  simp only [ops_part2_0, TRef.unary, TRef.toBuf, TRef.ofBuf, cast_eq]
  after_results_simp
  all_goals rfl

/-- The device's buffer contents after @main's first 180 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v133, main_cst_13, main_v134, main_v135, main_v136, main_v137, main_v138, main_v139, main_c, main_call1_v0, main_call1_v1, main_call1_v2, main_v140, main_c_14, main_v141, main_cst_15, main_v142, main_v143, main_v144, main_v145, main_v146, main_v147, main_v148, main_c_16, main_v149, main_cst_17, main_v150, main_cst_18, main_v151, main_v152]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_v22 (V0 : Valuation τ sig (Elt F)) : val2_2 V0 (no_index (Proc.devRef .tc main_v22)) = res_main_v22 V0 :=
  (val2_2_keep V0 main_v22 (by decide)).trans (val2_1_main_v22 V0)
theorem val2_2_main_v46 (V0 : Valuation τ sig (Elt F)) : val2_2 V0 (no_index (Proc.devRef .tc main_v46)) = res_main_v46 V0 :=
  (val2_2_keep V0 main_v46 (by decide)).trans (val2_1_main_v46 V0)
set_option maxRecDepth 8192 in
set_option maxHeartbeats 2000000 in
theorem val2_2_main_v134 (V0 : Valuation τ sig (Elt F)) : val2_2 V0 (no_index (Proc.devRef .tc main_v134)) = res_main_v134 V0 := by
  unfold val2_2
  simp only [ops_part2_1, TRef.ternary, TRef.unary, TRef.toBuf, TRef.ofBuf, cast_eq]
  after_results_simp
  simp only [val2_1_main_call0_v2, val2_1_main_v131, val2_1_main_call0_v1] <;> rfl
set_option maxRecDepth 8192 in
set_option maxHeartbeats 2000000 in
theorem val2_2_main_v141 (V0 : Valuation τ sig (Elt F)) : val2_2 V0 (no_index (Proc.devRef .tc main_v141)) = res_main_v141 V0 := by
  unfold val2_2
  simp only [ops_part2_1, TRef.ternary, TRef.unary, TRef.toBuf, TRef.ofBuf, cast_eq]
  after_results_simp
  simp only [val2_1_main_call0_v2, val2_1_main_v131, val2_1_main_call0_v1] <;> rfl
set_option maxRecDepth 8192 in
set_option maxHeartbeats 2000000 in
theorem val2_2_main_v149 (V0 : Valuation τ sig (Elt F)) : val2_2 V0 (no_index (Proc.devRef .tc main_v149)) = Host.reduce IntOp.ori (andi (cmpf .oeq (res_main_v133 V0) (broadcastInDim S36864x100 ![0, 1] bcast_S1x100_S36864x100_0_1 (broadcastInDim S1x100 ![1] bcast_S100_S1x100_1 (Host.reduce FloatOps.maximumf (res_main_v133 V0) (constant S_ .f32 0xFF800000#32) reducesTo_S36864x100_S100_d0 h_S_)))) (broadcastInDim S36864x100 ![0, 1] bcast_S36864x1_S36864x100_0_1 (broadcastInDim S36864x1 ![0] bcast_S36864_S36864x1_0 (res_main_v46 V0)))) (constantI S_ 1 0#1) reducesTo_S36864x100_S36864_d1 h_S_ := by
  unfold val2_2
  simp only [ops_part2_1, TRef.ternary, TRef.unary, TRef.toBuf, TRef.ofBuf, cast_eq]
  after_results_simp
  simp only [val2_1_main_v46, val2_1_main_call0_v2, val2_1_main_v131, val2_1_main_call0_v1] <;> rfl
set_option maxRecDepth 8192 in
set_option maxHeartbeats 2000000 in
theorem val2_2_main_v150 (V0 : Valuation τ sig (Elt F)) : val2_2 V0 (no_index (Proc.devRef .tc main_v150)) = broadcastInDim S36864 ![] bcast_S_S36864 (constant S_ .f32 0xBF800000#32) := by
  unfold val2_2
  simp only [ops_part2_1, TRef.ternary, TRef.unary, TRef.toBuf, TRef.ofBuf, cast_eq]
  after_results_simp
  all_goals rfl
set_option maxRecDepth 8192 in
set_option maxHeartbeats 2000000 in
theorem val2_2_main_v152 (V0 : Valuation τ sig (Elt F)) : val2_2 V0 (no_index (Proc.devRef .tc main_v152)) = cmpf .olt (res_main_v134 V0) (broadcastInDim S36864 ![] bcast_S_S36864 (constant S_ .f32 0x3E99999A#32)) := by
  unfold val2_2
  simp only [ops_part2_1, TRef.ternary, TRef.unary, TRef.toBuf, TRef.ofBuf, cast_eq]
  after_results_simp
  simp only [val2_1_main_call0_v2, val2_1_main_v131, val2_1_main_call0_v1] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_cst_19, main_call2_v0, main_call2_v1, main_v153, main_cst_20, main_call3_v0, main_call3_v1, main_v154, main_cst_21, main_v155]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_v22 (V0 : Valuation τ sig (Elt F)) : val3 V0 (no_index (Proc.devRef .tc main_v22)) = res_main_v22 V0 :=
  (val3_keep V0 main_v22 (by decide)).trans (val2_2_main_v22 V0)
theorem val3_main_v46 (V0 : Valuation τ sig (Elt F)) : val3 V0 (no_index (Proc.devRef .tc main_v46)) = res_main_v46 V0 :=
  (val3_keep V0 main_v46 (by decide)).trans (val2_2_main_v46 V0)
theorem val3_main_v134 (V0 : Valuation τ sig (Elt F)) : val3 V0 (no_index (Proc.devRef .tc main_v134)) = res_main_v134 V0 :=
  (val3_keep V0 main_v134 (by decide)).trans (val2_2_main_v134 V0)
theorem val3_main_v141 (V0 : Valuation τ sig (Elt F)) : val3 V0 (no_index (Proc.devRef .tc main_v141)) = res_main_v141 V0 :=
  (val3_keep V0 main_v141 (by decide)).trans (val2_2_main_v141 V0)
set_option maxRecDepth 8192 in
set_option maxHeartbeats 1000000 in
theorem val3_main_v154 (V0 : Valuation τ sig (Elt F)) : val3 V0 (no_index (Proc.devRef .tc main_v154)) = select (Host.reduce IntOp.ori (andi (cmpf .oeq (res_main_v133 V0) (broadcastInDim S36864x100 ![0, 1] bcast_S1x100_S36864x100_0_1 (broadcastInDim S1x100 ![1] bcast_S100_S1x100_1 (Host.reduce FloatOps.maximumf (res_main_v133 V0) (constant S_ .f32 0xFF800000#32) reducesTo_S36864x100_S100_d0 h_S_)))) (broadcastInDim S36864x100 ![0, 1] bcast_S36864x1_S36864x100_0_1 (broadcastInDim S36864x1 ![0] bcast_S36864_S36864x1_0 (res_main_v46 V0)))) (constantI S_ 1 0#1) reducesTo_S36864x100_S36864_d1 h_S_) (broadcastInDim S36864 ![] bcast_S_S36864 (id (constant S_ .f32 0x3F800000#32))) (select (cmpf .olt (res_main_v134 V0) (broadcastInDim S36864 ![] bcast_S_S36864 (constant S_ .f32 0x3E99999A#32))) (broadcastInDim S36864 ![] bcast_S_S36864 (id (constant S_ .f32 0x00000000#32))) (broadcastInDim S36864 ![] bcast_S_S36864 (constant S_ .f32 0xBF800000#32))) := by
  unfold val3
  simp only [ops_part2_2, TRef.ternary, TRef.unary, TRef.toBuf, TRef.ofBuf, cast_eq]
  after_results_simp
  simp only [val2_2_main_v150, val2_2_main_v152, val2_2_main_v149] <;> rfl
set_option maxRecDepth 8192 in
set_option maxHeartbeats 1000000 in
theorem val3_main_v155 (V0 : Valuation τ sig (Elt F)) : val3 V0 (no_index (Proc.devRef .tc main_v155)) = broadcastInDim S36864 ![] bcast_S_S36864 (constant S_ .f32 0x3F333333#32) := by
  unfold val3
  simp only [ops_part2_2, TRef.ternary, TRef.unary, TRef.toBuf, TRef.ofBuf, cast_eq]
  after_results_simp
  all_goals rfl

/-- The device's buffer contents after @main's first 220 operations. -/
def val3_1 (V0 : Valuation τ sig (Elt F)) : Valuation τ sig (Elt F) := after ops_part3_0 (val3 V0)
/-- The buffers that window `ops_part3_0`'s operations write. -/
abbrev ops_part3_0_W : List (Ref sig .tc) := [main_v156, main_cst_22, main_call4_v0, main_call4_v1, main_v157, main_cst_23, main_call5_v0, main_call5_v1, main_v158, main_cst_24, main_v159, main_v160, main_v161, main_call6_call0_c, main_call6_call0_v0, main_v162, main_c_25, main_v163, main_v164, main_v165, main_cst_26, main_call7_v0, main_call7_v1, main_v166, main_cst_27, main_v167, main_v168, main_v169, main_c_28, main_v170]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_v22 (V0 : Valuation τ sig (Elt F)) : val3_1 V0 (no_index (Proc.devRef .tc main_v22)) = res_main_v22 V0 :=
  (val3_1_keep V0 main_v22 (by decide)).trans (val3_main_v22 V0)
theorem val3_1_main_v46 (V0 : Valuation τ sig (Elt F)) : val3_1 V0 (no_index (Proc.devRef .tc main_v46)) = res_main_v46 V0 :=
  (val3_1_keep V0 main_v46 (by decide)).trans (val3_main_v46 V0)
theorem val3_1_main_v141 (V0 : Valuation τ sig (Elt F)) : val3_1 V0 (no_index (Proc.devRef .tc main_v141)) = res_main_v141 V0 :=
  (val3_1_keep V0 main_v141 (by decide)).trans (val3_main_v141 V0)
set_option maxRecDepth 8192 in
set_option maxHeartbeats 2000000 in
theorem val3_1_main_v166 (V0 : Valuation τ sig (Elt F)) : val3_1 V0 (no_index (Proc.devRef .tc main_v166)) = res_main_v166 V0 := by
  unfold val3_1
  simp only [ops_part3_0, TRef.binary, TRef.nullary, TRef.ternary, TRef.unary, TRef.toBuf, TRef.ofBuf, cast_eq]
  after_results_simp
  simp only [val3_main_v154, val3_main_v155, val3_main_v134, val3_main_v46] <;> rfl
set_option maxRecDepth 8192 in
set_option maxHeartbeats 2000000 in
theorem val3_1_main_v170 (V0 : Valuation τ sig (Elt F)) : val3_1 V0 (no_index (Proc.devRef .tc main_v170)) = Host.reduce IntOp.addi (extui 32 (cmpf .oeq (res_main_v166 V0) (broadcastInDim S36864 ![] bcast_S_S36864 (constant S_ .f32 0x3F800000#32))) natLt_1_32) (constantI S_ 32 0#32) reducesTo_S36864_S_d0 h_S_ := by
  unfold val3_1
  simp only [ops_part3_0, TRef.binary, TRef.nullary, TRef.ternary, TRef.unary, TRef.toBuf, TRef.ofBuf, cast_eq]
  after_results_simp
  simp only [val3_main_v154, val3_main_v155, val3_main_v134, val3_main_v46] <;> rfl

/-- The device's buffer contents after @main's first 250 operations. -/
def val3_2 (V0 : Valuation τ sig (Elt F)) : Valuation τ sig (Elt F) := after ops_part3_1 (val3_1 V0)
/-- The buffers that window `ops_part3_1`'s operations write. -/
abbrev ops_part3_1_W : List (Ref sig .tc) := [main_c_29, main_v171, main_cst_30, main_v172, main_v173, main_v174, main_call8_call0_c, main_call8_call0_v0, main_v175, main_v176, main_v177, main_v178, main_cst_31, main_call9_v0, main_call9_v1, main_v179, main_c_32, main_v180, main_v181, main_c_33, main_v182, main_v183, main_v184, main_v185, main_c_34, main_v186, main_v187, main_v188, main_v189, main_v190]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_v22 (V0 : Valuation τ sig (Elt F)) : val3_2 V0 (no_index (Proc.devRef .tc main_v22)) = res_main_v22 V0 :=
  (val3_2_keep V0 main_v22 (by decide)).trans (val3_1_main_v22 V0)
theorem val3_2_main_v46 (V0 : Valuation τ sig (Elt F)) : val3_2 V0 (no_index (Proc.devRef .tc main_v46)) = res_main_v46 V0 :=
  (val3_2_keep V0 main_v46 (by decide)).trans (val3_1_main_v46 V0)
set_option maxRecDepth 8192 in
set_option maxHeartbeats 2000000 in
theorem val3_2_main_v179 (V0 : Valuation τ sig (Elt F)) : val3_2 V0 (no_index (Proc.devRef .tc main_v179)) = res_main_v179 V0 := by
  unfold val3_2
  simp only [ops_part3_1, TRef.binary, TRef.nullary, TRef.ternary, TRef.unary, TRef.toBuf, TRef.ofBuf, cast_eq]
  after_results_simp
  simp only [val3_1_main_v166, val3_1_main_v170] <;> rfl
set_option maxRecDepth 8192 in
set_option maxHeartbeats 2000000 in
theorem val3_2_main_v188 (V0 : Valuation τ sig (Elt F)) : val3_2 V0 (no_index (Proc.devRef .tc main_v188)) = res_main_v188 V0 := by
  unfold val3_2
  simp only [ops_part3_1, TRef.binary, TRef.nullary, TRef.ternary, TRef.unary, TRef.toBuf, TRef.ofBuf, cast_eq]
  after_results_simp
  simp only [val3_1_main_v141, val3_1_main_arg1] <;> rfl
set_option maxRecDepth 8192 in
set_option maxHeartbeats 2000000 in
theorem val3_2_main_v190 (V0 : Valuation τ sig (Elt F)) : val3_2 V0 (no_index (Proc.devRef .tc main_v190)) = shapeCast _ (extractStridedSlice S36864x1 ![0, 2] (res_main_v22 V0) slices_S36864x4_S36864x1_0_2) shapeCasts_S36864x1_S36864 := by
  unfold val3_2
  simp only [ops_part3_1, TRef.binary, TRef.nullary, TRef.ternary, TRef.unary, TRef.toBuf, TRef.ofBuf, cast_eq]
  after_results_simp
  simp only [val3_1_main_v22] <;> rfl

end Cert.ReferenceIdeal.Value

end
-- ==== Proof.Tab.Words.lean ====
/- The corners of the anchors as integers, and when a float word is an integer. -/
module

public import Idealize.ShloMosaic.Lib.IdealHost
public import Idealize.ShloMosaic.Lib.Pointwise

@[expose] public section

noncomputable section

namespace Cert.Tab

open Idealize.ShloMosaic

/-- Corner `c` of base anchor `a`: the nine shapes around the first cell. -/
def base (a c : ℕ) : ℤ :=
  (([[-84, -40, 99, 55], [-176, -88, 191, 103], [-360, -184, 375, 199], [-56, -56, 71, 71], [-120, -120, 135, 135],
    [-248, -248, 263, 263], [-36, -80, 51, 95], [-80, -168, 95, 183], [-168, -344, 183, 359]] : List (List ℤ)).getD a []).getD c 0

/-- Corner `c` of anchor `a` at cell `p` of the 64 by 64 grid: the base anchor moved by 16 a cell, along x for an even
    corner and along y for an odd one. -/
def corner (a p c : ℕ) : ℤ := base a c + 16 * ((if c % 2 = 0 then p % 64 else p / 64 : ℕ) : ℤ)

/-- Does the float32 word with the value `b` encode the integer `z`? -/
def wordIs (b : ℕ) (z : ℤ) : Bool :=
  if b / 2 ^ 23 % 256 = 0 then decide (b % 2 ^ 23 = 0) && decide (z = 0)
  else decide (b / 2 ^ 23 % 256 ≠ 255) && decide (z.natAbs * 2 ^ 150 = (2 ^ 23 + b % 2 ^ 23) * 2 ^ (b / 2 ^ 23 % 256))
    && (decide (b / 2 ^ 31 % 2 = 1) == decide (z < 0))

/-- A word that encodes an integer denotes it. -/
theorem ofBits_of_wordIs (b : BitVec 32) (z : ℤ) (h : wordIs b.toNat z = true) : Ideal.ofBits .f32 b = (((z : ℤ) : ℝ) : EReal) := by
  have hex : (b.extractLsb' 23 8).toNat = b.toNat / 2 ^ 23 % 256 := by
    rw [BitVec.extractLsb'_toNat, Nat.shiftRight_eq_div_pow]
  have hfr : (b.extractLsb' 0 23).toNat = b.toNat % 2 ^ 23 := by
    rw [BitVec.extractLsb'_toNat, Nat.shiftRight_eq_div_pow]; simp
  have hng : (b.extractLsb' 31 1 == 1#1) = decide (b.toNat / 2 ^ 31 % 2 = 1) := by
    rw [Bool.eq_iff_iff, beq_iff_eq, decide_eq_true_iff, ← BitVec.toNat_inj, BitVec.extractLsb'_toNat, Nat.shiftRight_eq_div_pow]
    simp
  show Ideal.ieee 8 23 b = _
  unfold Ideal.ieee
  dsimp only
  rw [show 8 + 23 = 31 from rfl, hex, hfr, hng]
  unfold wordIs at h
  generalize b.toNat / 2 ^ 23 % 256 = ex at h ⊢
  generalize b.toNat % 2 ^ 23 = fr at h ⊢
  generalize b.toNat / 2 ^ 31 % 2 = ng at h ⊢
  by_cases he : ex = 0
  · subst he
    simp at h
    simp [h.1, h.2]
  · rw [if_neg he] at h
    simp only [Bool.and_eq_true, decide_eq_true_eq, beq_iff_eq] at h
    obtain ⟨⟨h1, h2⟩, h3⟩ := h
    rw [if_neg (by simpa using h1), if_neg he]
    congr 1
    have hz : (z : ℝ) = (if decide (ng = 1) = true then -1 else 1) * (z.natAbs : ℝ) := by
      have ha : (z.natAbs : ℝ) = |(z : ℝ)| := by rw [Nat.cast_natAbs, Int.cast_abs]
      rw [h3, ha]
      by_cases hz : z < 0
      · have : (z : ℝ) < 0 := by exact_mod_cast hz
        simp [hz, abs_of_neg this]
      · have : (0 : ℝ) ≤ z := by exact_mod_cast not_lt.mp hz
        simp [hz, abs_of_nonneg this]
    rw [hz, mul_assoc]
    congr 1
    have h2' : (z.natAbs : ℝ) * 2 ^ 150 = ((2 ^ 23 + fr : ℕ) : ℝ) * 2 ^ ex := by exact_mod_cast h2
    have e : (2 : ℝ) ^ ((ex : ℤ) - (2 ^ (8 - 1) - 1) - 23) = 2 ^ ex / 2 ^ 150 := by
      rw [show ((ex : ℤ) - (2 ^ (8 - 1) - 1) - 23) = (ex : ℤ) - (150 : ℕ) by norm_num; ring, zpow_sub₀ (by norm_num), zpow_natCast, zpow_natCast]
    push_cast at e ⊢
    rw [e, ← mul_div_assoc, eq_comm, eq_div_iff (by positivity), h2']
    push_cast; rfl

end Cert.Tab

end
-- ==== Proof.Tab.Digit.lean ====
/- A table of a digit tree, read at a digit. -/
module

public import proofs.«01_k».proof.Proof.Tab.Words

@[expose] public section

set_option maxRecDepth 16384

noncomputable section

namespace Cert.Tab

open Idealize.ShloMosaic

/-- What holds of each of 128 entries with its number holds of the entry a digit selects. -/
theorem of_digit {α : Type} (P : ℕ → α → Prop) {w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 w62 w63 w64 w65 w66 w67 w68 w69 w70 w71 w72 w73 w74 w75 w76 w77 w78 w79 w80 w81 w82 w83 w84 w85 w86 w87 w88 w89 w90 w91 w92 w93 w94 w95 w96 w97 w98 w99 w100 w101 w102 w103 w104 w105 w106 w107 w108 w109 w110 w111 w112 w113 w114 w115 w116 w117 w118 w119 w120 w121 w122 w123 w124 w125 w126 w127 z : α} {n : ℕ} (hn : n < 128)
    (h : P 0 w0 ∧ P 1 w1 ∧ P 2 w2 ∧ P 3 w3 ∧ P 4 w4 ∧ P 5 w5 ∧ P 6 w6 ∧ P 7 w7 ∧ P 8 w8 ∧ P 9 w9 ∧ P 10 w10 ∧ P 11 w11 ∧ P 12 w12 ∧ P 13 w13 ∧ P 14 w14 ∧ P 15 w15 ∧ P 16 w16 ∧ P 17 w17 ∧ P 18 w18 ∧ P 19 w19 ∧ P 20 w20 ∧ P 21 w21 ∧ P 22 w22 ∧ P 23 w23 ∧ P 24 w24 ∧ P 25 w25 ∧ P 26 w26 ∧ P 27 w27 ∧ P 28 w28 ∧ P 29 w29 ∧ P 30 w30 ∧ P 31 w31 ∧ P 32 w32 ∧ P 33 w33 ∧ P 34 w34 ∧ P 35 w35 ∧ P 36 w36 ∧ P 37 w37 ∧ P 38 w38 ∧ P 39 w39 ∧ P 40 w40 ∧ P 41 w41 ∧ P 42 w42 ∧ P 43 w43 ∧ P 44 w44 ∧ P 45 w45 ∧ P 46 w46 ∧ P 47 w47 ∧ P 48 w48 ∧ P 49 w49 ∧ P 50 w50 ∧ P 51 w51 ∧ P 52 w52 ∧ P 53 w53 ∧ P 54 w54 ∧ P 55 w55 ∧ P 56 w56 ∧ P 57 w57 ∧ P 58 w58 ∧ P 59 w59 ∧ P 60 w60 ∧ P 61 w61 ∧ P 62 w62 ∧ P 63 w63 ∧ P 64 w64 ∧ P 65 w65 ∧ P 66 w66 ∧ P 67 w67 ∧ P 68 w68 ∧ P 69 w69 ∧ P 70 w70 ∧ P 71 w71 ∧ P 72 w72 ∧ P 73 w73 ∧ P 74 w74 ∧ P 75 w75 ∧ P 76 w76 ∧ P 77 w77 ∧ P 78 w78 ∧ P 79 w79 ∧ P 80 w80 ∧ P 81 w81 ∧ P 82 w82 ∧ P 83 w83 ∧ P 84 w84 ∧ P 85 w85 ∧ P 86 w86 ∧ P 87 w87 ∧ P 88 w88 ∧ P 89 w89 ∧ P 90 w90 ∧ P 91 w91 ∧ P 92 w92 ∧ P 93 w93 ∧ P 94 w94 ∧ P 95 w95 ∧ P 96 w96 ∧ P 97 w97 ∧ P 98 w98 ∧ P 99 w99 ∧ P 100 w100 ∧ P 101 w101 ∧ P 102 w102 ∧ P 103 w103 ∧ P 104 w104 ∧ P 105 w105 ∧ P 106 w106 ∧ P 107 w107 ∧ P 108 w108 ∧ P 109 w109 ∧ P 110 w110 ∧ P 111 w111 ∧ P 112 w112 ∧ P 113 w113 ∧ P 114 w114 ∧ P 115 w115 ∧ P 116 w116 ∧ P 117 w117 ∧ P 118 w118 ∧ P 119 w119 ∧ P 120 w120 ∧ P 121 w121 ∧ P 122 w122 ∧ P 123 w123 ∧ P 124 w124 ∧ P 125 w125 ∧ P 126 w126 ∧ P 127 w127) :
    P n (match (generalizing := false) n with | 0 => w0 | 1 => w1 | 2 => w2 | 3 => w3 | 4 => w4 | 5 => w5 | 6 => w6 | 7 => w7 | 8 => w8 | 9 => w9 | 10 => w10 | 11 => w11 | 12 => w12 | 13 => w13 | 14 => w14 | 15 => w15 | 16 => w16 | 17 => w17 | 18 => w18 | 19 => w19 | 20 => w20 | 21 => w21 | 22 => w22 | 23 => w23 | 24 => w24 | 25 => w25 | 26 => w26 | 27 => w27 | 28 => w28 | 29 => w29 | 30 => w30 | 31 => w31 | 32 => w32 | 33 => w33 | 34 => w34 | 35 => w35 | 36 => w36 | 37 => w37 | 38 => w38 | 39 => w39 | 40 => w40 | 41 => w41 | 42 => w42 | 43 => w43 | 44 => w44 | 45 => w45 | 46 => w46 | 47 => w47 | 48 => w48 | 49 => w49 | 50 => w50 | 51 => w51 | 52 => w52 | 53 => w53 | 54 => w54 | 55 => w55 | 56 => w56 | 57 => w57 | 58 => w58 | 59 => w59 | 60 => w60 | 61 => w61 | 62 => w62 | 63 => w63 | 64 => w64 | 65 => w65 | 66 => w66 | 67 => w67 | 68 => w68 | 69 => w69 | 70 => w70 | 71 => w71 | 72 => w72 | 73 => w73 | 74 => w74 | 75 => w75 | 76 => w76 | 77 => w77 | 78 => w78 | 79 => w79 | 80 => w80 | 81 => w81 | 82 => w82 | 83 => w83 | 84 => w84 | 85 => w85 | 86 => w86 | 87 => w87 | 88 => w88 | 89 => w89 | 90 => w90 | 91 => w91 | 92 => w92 | 93 => w93 | 94 => w94 | 95 => w95 | 96 => w96 | 97 => w97 | 98 => w98 | 99 => w99 | 100 => w100 | 101 => w101 | 102 => w102 | 103 => w103 | 104 => w104 | 105 => w105 | 106 => w106 | 107 => w107 | 108 => w108 | 109 => w109 | 110 => w110 | 111 => w111 | 112 => w112 | 113 => w113 | 114 => w114 | 115 => w115 | 116 => w116 | 117 => w117 | 118 => w118 | 119 => w119 | 120 => w120 | 121 => w121 | 122 => w122 | 123 => w123 | 124 => w124 | 125 => w125 | 126 => w126 | 127 => w127 | _ => z) := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127⟩ := h
  interval_cases n <;> assumption

/-- What holds of each of 32 entries with its number holds of the entry a digit selects. -/
theorem of_digit_32 {α : Type} (P : ℕ → α → Prop) {w0 w1 w2 w3 w4 w5 w6 w7 w8 w9 w10 w11 w12 w13 w14 w15 w16 w17 w18 w19 w20 w21 w22 w23 w24 w25 w26 w27 w28 w29 w30 w31 z : α} {n : ℕ} (hn : n < 32)
    (h : P 0 w0 ∧ P 1 w1 ∧ P 2 w2 ∧ P 3 w3 ∧ P 4 w4 ∧ P 5 w5 ∧ P 6 w6 ∧ P 7 w7 ∧ P 8 w8 ∧ P 9 w9 ∧ P 10 w10 ∧ P 11 w11 ∧ P 12 w12 ∧ P 13 w13 ∧ P 14 w14 ∧ P 15 w15 ∧ P 16 w16 ∧ P 17 w17 ∧ P 18 w18 ∧ P 19 w19 ∧ P 20 w20 ∧ P 21 w21 ∧ P 22 w22 ∧ P 23 w23 ∧ P 24 w24 ∧ P 25 w25 ∧ P 26 w26 ∧ P 27 w27 ∧ P 28 w28 ∧ P 29 w29 ∧ P 30 w30 ∧ P 31 w31) :
    P n (match (generalizing := false) n with | 0 => w0 | 1 => w1 | 2 => w2 | 3 => w3 | 4 => w4 | 5 => w5 | 6 => w6 | 7 => w7 | 8 => w8 | 9 => w9 | 10 => w10 | 11 => w11 | 12 => w12 | 13 => w13 | 14 => w14 | 15 => w15 | 16 => w16 | 17 => w17 | 18 => w18 | 19 => w19 | 20 => w20 | 21 => w21 | 22 => w22 | 23 => w23 | 24 => w24 | 25 => w25 | 26 => w26 | 27 => w27 | 28 => w28 | 29 => w29 | 30 => w30 | 31 => w31 | _ => z) := by
  obtain ⟨h0, h1, h2, h3, h4, h5, h6, h7, h8, h9, h10, h11, h12, h13, h14, h15, h16, h17, h18, h19, h20, h21, h22, h23, h24, h25, h26, h27, h28, h29, h30, h31⟩ := h
  interval_cases n <;> assumption

/-- Where the list of 128 words is the list of `f`'s values, the word a digit selects is `f`'s value. -/
theorem of_lane (f : ℕ → BitVec 32) {w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 w62 w63 w64 w65 w66 w67 w68 w69 w70 w71 w72 w73 w74 w75 w76 w77 w78 w79 w80 w81 w82 w83 w84 w85 w86 w87 w88 w89 w90 w91 w92 w93 w94 w95 w96 w97 w98 w99 w100 w101 w102 w103 w104 w105 w106 w107 w108 w109 w110 w111 w112 w113 w114 w115 w116 w117 w118 w119 w120 w121 w122 w123 w124 w125 w126 w127 z : BitVec 32} {n : ℕ} (hn : n < 128)
    (h : [w0, w1, w2, w3, w4, w5, w6, w7, w8, w9, w10, w11, w12, w13, w14, w15, w16, w17, w18, w19, w20, w21, w22, w23, w24, w25, w26, w27, w28, w29, w30, w31, w32, w33, w34, w35, w36, w37, w38, w39, w40, w41, w42, w43, w44, w45, w46, w47, w48, w49, w50, w51, w52, w53, w54, w55, w56, w57, w58, w59, w60, w61, w62, w63, w64, w65, w66, w67, w68, w69, w70, w71, w72, w73, w74, w75, w76, w77, w78, w79, w80, w81, w82, w83, w84, w85, w86, w87, w88, w89, w90, w91, w92, w93, w94, w95, w96, w97, w98, w99, w100, w101, w102, w103, w104, w105, w106, w107, w108, w109, w110, w111, w112, w113, w114, w115, w116, w117, w118, w119, w120, w121, w122, w123, w124, w125, w126, w127] = (List.range 128).map f) :
    (match (generalizing := false) n with | 0 => w0 | 1 => w1 | 2 => w2 | 3 => w3 | 4 => w4 | 5 => w5 | 6 => w6 | 7 => w7 | 8 => w8 | 9 => w9 | 10 => w10 | 11 => w11 | 12 => w12 | 13 => w13 | 14 => w14 | 15 => w15 | 16 => w16 | 17 => w17 | 18 => w18 | 19 => w19 | 20 => w20 | 21 => w21 | 22 => w22 | 23 => w23 | 24 => w24 | 25 => w25 | 26 => w26 | 27 => w27 | 28 => w28 | 29 => w29 | 30 => w30 | 31 => w31 | 32 => w32 | 33 => w33 | 34 => w34 | 35 => w35 | 36 => w36 | 37 => w37 | 38 => w38 | 39 => w39 | 40 => w40 | 41 => w41 | 42 => w42 | 43 => w43 | 44 => w44 | 45 => w45 | 46 => w46 | 47 => w47 | 48 => w48 | 49 => w49 | 50 => w50 | 51 => w51 | 52 => w52 | 53 => w53 | 54 => w54 | 55 => w55 | 56 => w56 | 57 => w57 | 58 => w58 | 59 => w59 | 60 => w60 | 61 => w61 | 62 => w62 | 63 => w63 | 64 => w64 | 65 => w65 | 66 => w66 | 67 => w67 | 68 => w68 | 69 => w69 | 70 => w70 | 71 => w71 | 72 => w72 | 73 => w73 | 74 => w74 | 75 => w75 | 76 => w76 | 77 => w77 | 78 => w78 | 79 => w79 | 80 => w80 | 81 => w81 | 82 => w82 | 83 => w83 | 84 => w84 | 85 => w85 | 86 => w86 | 87 => w87 | 88 => w88 | 89 => w89 | 90 => w90 | 91 => w91 | 92 => w92 | 93 => w93 | 94 => w94 | 95 => w95 | 96 => w96 | 97 => w97 | 98 => w98 | 99 => w99 | 100 => w100 | 101 => w101 | 102 => w102 | 103 => w103 | 104 => w104 | 105 => w105 | 106 => w106 | 107 => w107 | 108 => w108 | 109 => w109 | 110 => w110 | 111 => w111 | 112 => w112 | 113 => w113 | 114 => w114 | 115 => w115 | 116 => w116 | 117 => w117 | 118 => w118 | 119 => w119 | 120 => w120 | 121 => w121 | 122 => w122 | 123 => w123 | 124 => w124 | 125 => w125 | 126 => w126 | 127 => w127 | _ => z) = f n := by
  simp only [List.range, List.range.loop, List.map_cons, List.map_nil, List.cons.injEq, and_true] at h
  exact of_digit (fun l w => w = f l) hn h

/-- The value of the float32 word that encodes an integer of less than 24 bits. -/
def encode (z : ℤ) : ℕ :=
  if z = 0 then 0
  else (if z < 0 then 2 ^ 31 else 0) + (126 + Nat.log2 z.natAbs) * 2 ^ 23 + z.natAbs * 2 ^ (23 - Nat.log2 z.natAbs)

/-- The word of corner `c` (plus `d`) of the anchor in row `r` and lane `l` of a plane. -/
def word (c : ℕ) (d : ℤ) (r l : ℕ) : BitVec 32 :=
  BitVec.ofNat 32 (encode (corner ((r * 128 + l) / 4096) ((r * 128 + l) % 4096) c + d))

end Cert.Tab

end
-- ==== Proof.Tab.Anchors.lean ====
/- The words of the anchors' tables denote the corners. -/
module

public import proofs.«01_k».proof.Proof.Tab.Digit

@[expose] public section

set_option maxRecDepth 16384

noncomputable section

namespace Cert.Tab

open Idealize.ShloMosaic

/-- The words of the integers from -400 to 1400 encode them. -/
theorem encode_ok : ∀ z : Fin 1801, wordIs (BitVec.ofNat 32 (encode ((z.val : ℤ) - 400))).toNat ((z.val : ℤ) - 400) = true := by
  decide +kernel

/-- The base anchors reach from -360 to 375. -/
theorem base_range : ∀ a c : Fin 9, -360 ≤ base a.val c.val ∧ base a.val c.val ≤ 375 := by decide +kernel

/-- The corners of the anchors reach from -360 to 1383. -/
theorem corner_range (a p c : ℕ) (ha : a < 9) (hc : c < 9) (hp : p < 4096) : -360 ≤ corner a p c ∧ corner a p c ≤ 1383 := by
  have h := base_range ⟨a, ha⟩ ⟨c, hc⟩
  unfold corner
  have h1 : p % 64 < 64 := Nat.mod_lt _ (by decide)
  have h2 : p / 64 < 64 := by omega
  simp only at h
  split <;> constructor <;> omega

/-- The word of a corner denotes it. -/
theorem word_value (c : ℕ) (d : ℤ) (r l : ℕ) (hc : c < 9) (hd : 0 ≤ d ∧ d ≤ 1) (hr : r < 288) (hl : l < 128) :
    Ideal.ofBits .f32 (word c d r l) = (((corner ((r * 128 + l) / 4096) ((r * 128 + l) % 4096) c + d : ℤ) : ℝ) : EReal) := by
  have h := corner_range ((r * 128 + l) / 4096) ((r * 128 + l) % 4096) c (by omega) hc (Nat.mod_lt _ (by decide))
  unfold word
  apply ofBits_of_wordIs
  have hz : -400 ≤ corner ((r * 128 + l) / 4096) ((r * 128 + l) % 4096) c + d
      ∧ corner ((r * 128 + l) / 4096) ((r * 128 + l) % 4096) c + d ≤ 1400 := by omega
  generalize corner ((r * 128 + l) / 4096) ((r * 128 + l) % 4096) c + d = z at hz ⊢
  have e := encode_ok ⟨(z + 400).toNat, by omega⟩
  have hn : (((z + 400).toNat : ℕ) : ℤ) - 400 = z := by omega
  simp only [hn] at e
  exact e

end Cert.Tab

end
-- ==== Proof.Math.Spec.lean ====
/- The anchor targets as plain functions of the anchor's number, the boxes and the image's size. -/
module

public import proofs.«01_k».proof.Proof.Tab.Digit
public import Idealize.ShloMosaic.Lib.Pointwise

@[expose] public section

noncomputable section

namespace Cert.Spec

open Idealize.ShloMosaic Cert.Tab
open scoped Classical

/-- Corner `c` of anchor `k`: anchor `k` is base anchor `k % 9` at cell `k / 9`. -/
def anc (k c : ℕ) : EReal := (((corner (k % 9) (k / 9) c : ℤ) : ℝ) : EReal)

/-- The overlap from which an anchor is positive. -/
def hi : EReal := Ideal.ofBits .f32 1060320051#32
/-- The overlap below which an anchor is negative. -/
def lo : EReal := Ideal.ofBits .f32 1050253722#32

variable (G : Fin 100 → Fin 4 → EReal) (H W : EReal)

/-- Anchor `k` lies inside the image. -/
def Inside (k : ℕ) : Prop := 0 ≤ anc k 0 ∧ 0 ≤ anc k 1 ∧ anc k 2 < W ∧ anc k 3 < H

/-- The area anchor `k` and box `g` share. -/
def inter (k : ℕ) (g : Fin 100) : EReal :=
  max (min (anc k 2) (G g 2) - max (anc k 0) (G g 0) + 1) 0 * max (min (anc k 3) (G g 3) - max (anc k 1) (G g 1) + 1) 0

/-- The overlap of anchor `k` and box `g`; -1 for an anchor outside the image. -/
def ov (k : ℕ) (g : Fin 100) : EReal :=
  if Inside H W k then
    Ideal.div (inter G k g) ((anc k 2 - anc k 0 + 1) * (anc k 3 - anc k 1 + 1) + (G g 2 - G g 0 + 1) * (G g 3 - G g 1 + 1) - inter G k g)
  else -1

/-- The largest overlap of anchor `k`. -/
def rowMax (k : ℕ) : EReal := Finset.univ.sup (ov G H W k)
/-- The largest overlap of box `g`. -/
def colMax (g : Fin 100) : EReal := Finset.univ.sup fun k : Fin 36864 => ov G H W k.val g

/-- Box `b` is the first with anchor `k`'s largest overlap. -/
def IsBest (k : ℕ) (b : Fin 100) : Prop := ov G H W k b = rowMax G H W k ∧ ∀ b' < b, ov G H W k b' ≠ rowMax G H W k

/-- The label of anchor `k` by overlap alone. -/
def lab0 (k : ℕ) : EReal :=
  if Inside H W k then
    if hi ≤ rowMax G H W k then 1
    else if ∃ g, ov G H W k g = colMax G H W g then 1
    else if rowMax G H W k < lo then 0 else -1
  else -1

/-- How many of the anchors up to `k` have label `v`. -/
def upto (l : ℕ → EReal) (v : EReal) (k : ℕ) : ℕ := Nat.count (fun j => l j = v) (k + 1)

/-- The labels after the positive ones beyond the first 128 are dropped. -/
def lab1 (k : ℕ) : EReal :=
  if lab0 G H W k = 1 ∧ 128 < upto (lab0 G H W) 1 k then -1 else lab0 G H W k

/-- The labels after the negative ones beyond the rest of 256 are dropped. -/
def lab2 (k : ℕ) : EReal :=
  if lab1 G H W k = 0 ∧ 256 < upto (lab1 G H W) 0 k + upto (lab1 G H W) 1 36863 then -1 else lab1 G H W k

/-- How many anchors have a label that counts. -/
def counted : ℕ := Nat.count (fun j => 0 ≤ lab2 G H W j) 36864

/-- The inside weight of anchor `k`. -/
def biw (k : ℕ) : EReal := if lab2 G H W k = 1 then 1 else 0
/-- The outside weight of anchor `k`. -/
def bow (k : ℕ) : EReal := if 0 ≤ lab2 G H W k then Ideal.div 1 ((counted G H W : ℝ) : EReal) else 0

/-- One half. -/
def half : EReal := Ideal.ofBits .f32 1056964608#32

/-- Target `t` of anchor `k` with box `b`: the shift of the centre along x and y, and the logarithm of the ratio of the widths and of
    the heights. -/
def target (k : ℕ) (b : Fin 100) (t : Fin 4) : EReal :=
  let ew := anc k 2 - anc k 0 + 1
  let eh := anc k 3 - anc k 1 + 1
  let gw := G b 2 - G b 0 + 1
  let gh := G b 3 - G b 1 + 1
  if Inside H W k then
    match t with
    | 0 => Ideal.div (G b 0 + half * gw - (anc k 0 + half * ew)) ew
    | 1 => Ideal.div (G b 1 + half * gh - (anc k 1 + half * eh)) eh
    | 2 => Ideal.log (Ideal.div gw ew)
    | 3 => Ideal.log (Ideal.div gh eh)
  else 0

end Cert.Spec

end
-- ==== Proof.Math.Consts.lean ====
/- The constants of the two programs, and small facts about folds and conditions. -/
module

public import proofs.«01_k».proof.Proof.Tab.Anchors
public import proofs.«01_k».proof.Proof.Math.Spec

@[expose] public section

noncomputable section

namespace Cert.Spec

open Idealize.ShloMosaic Cert.Tab

theorem bits_sixteen : Ideal.ofBits .f32 1098907648#32 = ((16 : ℝ) : EReal) := by
  rw [ofBits_of_wordIs _ 16 (by decide +kernel)]; norm_num

theorem bits_neg_one : Ideal.ofBits .f32 3212836864#32 = -1 := by
  rw [ofBits_of_wordIs _ (-1) (by decide +kernel)]; norm_num

theorem bits_128 : Ideal.ofBits .f32 1124073472#32 = ((128 : ℝ) : EReal) := by
  rw [ofBits_of_wordIs _ 128 (by decide +kernel)]; norm_num

theorem bits_256 : Ideal.ofBits .f32 1132462080#32 = ((256 : ℝ) : EReal) := by
  rw [ofBits_of_wordIs _ 256 (by decide +kernel)]; norm_num

theorem bits_neg_inf : Ideal.ofBits .f32 4286578688#32 = ⊥ := by
  show Ideal.ieee 8 23 (4286578688#32) = _
  unfold Ideal.ieee
  simp

/-- A fold of «max» from minus infinity is the supremum. -/
theorem fold_max {ι : Type} (s : Finset ι) (f : ι → EReal) : Finset.fold max (Ideal.ofBits .f32 4286578688#32) f s = s.sup f := by
  rw [bits_neg_inf]; rfl

/-- A one-bit word is 1 exactly when its condition holds. -/
theorem ofBool_one (p : Prop) [Decidable p] : BitVec.ofBool (decide p) = 1#1 ↔ p := by
  by_cases h : p <;> simp [h]

/-- The conjunction of two one-bit words. -/
theorem andi_one (a b : BitVec 1) : IntOp.andi a b = 1#1 ↔ a = 1#1 ∧ b = 1#1 := by
  revert a b; decide

/-- The rowwise choice by a one-bit word. -/
theorem select_if {α : Type} (c : BitVec 1) (p : Prop) [Decidable p] (h : c = 1#1 ↔ p) (a b : α) : Scalar.select c a b = if p then a else b := by
  unfold Scalar.select
  exact if_congr h rfl rfl

end Cert.Spec

end
-- ==== Proof.Ref.Read.lean ====
/- The reference's named arrays, read at an index: the overlaps, their maxima and the labels by overlap. -/
module

public import proofs.«01_k».proof.Proof.Ref.Vals
public import proofs.«01_k».proof.Proof.Math.Consts
public import Idealize.ShloMosaic.Lib.Pointwise
public import Idealize.ShloMosaic.Lib.Routing.OpsOrder
public import Idealize.ShloMosaic.Lib.Tactic.CleanTypes

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.Tactic Cert.Spec Cert.Tab

variable (V0 : Valuation τ sig (Elt Ideal))

/-- The boxes' corners. -/
def boxes : Fin 100 → Fin 4 → EReal := fun g c => V0 (Proc.devRef .tc main_arg1) (ix2 g (⟨c.val, by omega⟩ : Fin 5))
/-- The image's height. -/
def imH : EReal := V0 (Proc.devRef .tc main_arg2) (ix2 (0 : Fin 1) (0 : Fin 3))
/-- The image's width. -/
def imW : EReal := V0 (Proc.devRef .tc main_arg2) (ix2 (0 : Fin 1) (1 : Fin 3))

/-- The reference's table of base anchors. -/
theorem lit0_value : ∀ (a : Fin 9) (c : Fin 4), wordIs (lit0 (S9x4.rowMajor (ix2 a c))).toNat (base a.val c.val) = true := by
  decide +kernel

/-- A small natural number as a signed word, as a real. -/
theorem sitofp_small (n : ℕ) (h : n < 2 ^ 31) : FloatOps.sitofp (F := Ideal) .f32 (BitVec.ofNat 32 n) = (((n : ℕ) : ℝ) : EReal) := by
  have e : (BitVec.ofNat 32 n).toInt = n := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e]; norm_cast

/-- The reference's anchors. -/
theorem v22_read (k : Fin 36864) (c : Fin 4) : (res_main_v22 V0 (ix2 k c) : EReal) = anc k c := by
  have h1 := sitofp_small (k.val / 9 % 64) (by omega)
  have h2 := sitofp_small (k.val / 9 / 64) (by omega)
  unfold res_main_v22 res_main_v6 res_main_v7
  clean_types
  pointwise
  rw [ofBits_of_wordIs _ _ (lit0_value _ _)]
  unfold anc corner
  fin_cases c
  all_goals
    simp [bits_sixteen, h1, h2]
    norm_cast
    simp [mul_comm]

/-- Which anchors the reference keeps. -/
theorem v46_read (k : Fin 36864) : res_main_v46 V0 (ix1 k) = 1#1 ↔ Inside (imH V0) (imW V0) k := by
  unfold res_main_v46 res_main_v23
  clean_types
  pointwise
  simp only [v22_read, andi_one, ofBool_one, and_assoc]
  exact Iff.rfl

/-- The areas anchors and boxes share. -/
theorem v124_read (k : Fin 36864) (c : Fin 100) : (res_main_v124 V0 (ix2 k c) : EReal) = inter (boxes V0) k c := by
  unfold res_main_v124 res_main_v47
  clean_types
  pointwise
  simp only [v22_read]
  rfl

/-- The overlaps. -/
theorem v133_read (k : Fin 36864) (c : Fin 100) : (res_main_v133 V0 (ix2 k c) : EReal) = ov (boxes V0) (imH V0) (imW V0) k c := by
  classical
  unfold res_main_v133 res_main_v47
  clean_types
  pointwise
  simp only [v22_read, v124_read]
  rw [select_if _ _ (v46_read V0 k)]
  unfold ov
  rw [← bits_neg_one]
  congr

/-- Each anchor's largest overlap. -/
theorem v134_read (k : Fin 36864) : (res_main_v134 V0 (ix1 k) : EReal) = rowMax (boxes V0) (imH V0) (imW V0) k := by
  unfold res_main_v134
  clean_types
  pointwise
  simp only [v133_read]
  exact fold_max _ _

/-- A column maximum. -/
theorem column_max {n b : ℕ} (v : FVec Ideal ⟨2, ![n, b]⟩ .f32) (h : (⟨2, ![n, b]⟩ : Shape).ReducesTo [0] ⟨1, ![b]⟩) (g : Fin b) :
    Host.reduce (FloatOps.maximumf (F := Ideal) (φ := .f32)) v (constant (F := Ideal) S_ .f32 0xFF800000#32) h h_S_ (ix1 g) = Finset.univ.sup fun k : Fin n => (v (ix2 k g) : EReal) := by
  pointwise
  exact fold_max _ _

/-- Each box's largest overlap. -/
theorem colMax_read (g : Fin 100) : Host.reduce (FloatOps.maximumf (F := Ideal) (φ := .f32)) (res_main_v133 V0) (constant (F := Ideal) S_ .f32 0xFF800000#32) reducesTo_S36864x100_S100_d0 h_S_ (ix1 g)
    = colMax (boxes V0) (imH V0) (imW V0) g := by
  refine (column_max _ _ g).trans ?_
  simp only [v133_read]
  rfl

/-- The labels by overlap, of the anchors kept, the overlaps and their maxima. -/
def labels (ins : IVec S36864 1) (o : FVec Ideal S36864x100 .f32) (mx : FVec Ideal S36864 .f32) (cm : FVec Ideal S100 .f32) : FVec Ideal S36864 .f32 :=
  select ins (select (cmpf .oge mx (broadcastInDim S36864 ![] bcast_S_S36864 (constant S_ .f32 0x3F333333#32))) (broadcastInDim S36864 ![] bcast_S_S36864 (id (constant S_ .f32 0x3F800000#32))) (select (Host.reduce IntOp.ori (andi (cmpf .oeq o (broadcastInDim S36864x100 ![0, 1] bcast_S1x100_S36864x100_0_1 (broadcastInDim S1x100 ![1] bcast_S100_S1x100_1 cm))) (broadcastInDim S36864x100 ![0, 1] bcast_S36864x1_S36864x100_0_1 (broadcastInDim S36864x1 ![0] bcast_S36864_S36864x1_0 ins))) (constantI S_ 1 0#1) reducesTo_S36864x100_S36864_d1 h_S_) (broadcastInDim S36864 ![] bcast_S_S36864 (id (constant S_ .f32 0x3F800000#32))) (select (cmpf .olt mx (broadcastInDim S36864 ![] bcast_S_S36864 (constant S_ .f32 0x3E99999A#32))) (broadcastInDim S36864 ![] bcast_S_S36864 (id (constant S_ .f32 0x00000000#32))) (broadcastInDim S36864 ![] bcast_S_S36864 (constant S_ .f32 0xBF800000#32))))) (broadcastInDim S36864 ![] bcast_S_S36864 (id (constant S_ .f32 0xBF800000#32)))

/-- The labels by overlap at an index. -/
theorem labels_read (ins : IVec S36864 1) (o : FVec Ideal S36864x100 .f32) (mx : FVec Ideal S36864 .f32) (cm : FVec Ideal S100 .f32) (k : Fin 36864) :
    labels ins o mx cm (ix1 k) = Scalar.select (ins (ix1 k))
      (if hi ≤ mx (ix1 k) then 1
      else Scalar.select (Finset.fold IntOp.ori (0#1) (fun x => IntOp.andi (BitVec.ofBool (decide (o (ix2 k x) = cm (ix1 x)))) (ins (ix1 k))) Finset.univ) 1
        (if mx (ix1 k) < lo then 0 else -1)) (-1) := by
  unfold labels
  pointwise
  rw [← bits_neg_one, ← Ideal.ofBits_zero_f32, ← Ideal.ofBits_one_f32]
  rfl

/-- The labels by overlap. -/
theorem v158_read (k : Fin 36864) : (res_main_v158 V0 (ix1 k) : EReal) = Cert.Spec.lab0 (boxes V0) (imH V0) (imW V0) k := by
  classical
  refine (labels_read (res_main_v46 V0) (res_main_v133 V0) (res_main_v134 V0) _ k).trans ?_
  simp only [colMax_read, v133_read, v134_read]
  rw [select_if _ _ (v46_read V0 k)]
  unfold lab0
  by_cases hin : Inside (imH V0) (imW V0) k
  · rw [if_pos hin, if_pos hin, select_if _ (∃ g, ov (boxes V0) (imH V0) (imW V0) k g = colMax (boxes V0) (imH V0) (imW V0) g)]
    rw [Routing.fold_ori]
    simp only [andi_one, ofBool_one, Finset.mem_univ, true_and]
    exact exists_congr fun x => and_iff_left ((v46_read V0 k).2 hin)
  · rw [if_neg hin, if_neg hin]

/-- A fold of the signed minimum is an entry that no other and not the start undercuts. -/
theorem fold_minsi {ι : Type} [DecidableEq ι] (s : Finset ι) (f : ι → BitVec 32) (i : BitVec 32) (b : ι) (hb : b ∈ s) (hi : (f b).toInt ≤ i.toInt)
    (h : ∀ x ∈ s, (f b).toInt ≤ (f x).toInt) : Finset.fold IntOp.minsi i f s = f b := by
  have hm : ∀ x y : BitVec 32, (IntOp.minsi x y).toInt = min x.toInt y.toInt := by
    intro x y
    unfold IntOp.minsi
    rw [BitVec.slt_eq_decide]
    by_cases e : x.toInt < y.toInt
    · simp [e, e.le]
    · simp [e, not_lt.mp e]
  apply BitVec.eq_of_toInt_eq
  rw [← Finset.fold_hom (op' := min) hm]
  apply le_antisymm
  · rw [Finset.fold_min_le]; exact Or.inr ⟨b, hb, le_rfl⟩
  · rw [Finset.le_fold_min]; exact ⟨hi, h⟩

/-- The first index of the largest overlap. -/
theorem v141_read (k : Fin 36864) (b : Fin 100) (hb : IsBest (boxes V0) (imH V0) (imW V0) k b) : res_main_v141 V0 (ix1 k) = BitVec.ofNat 32 b.val := by
  classical
  unfold res_main_v141
  clean_types
  pointwise
  simp only [v133_read, v134_read]
  have hn : ∀ n : ℕ, n ≤ 100 → (BitVec.ofNat 32 n).toInt = n := by
    intro n h
    rw [BitVec.toInt_eq_toNat_of_lt (by rw [BitVec.toNat_ofNat]; omega), BitVec.toNat_ofNat, Nat.mod_eq_of_lt (by omega)]
  refine (fold_minsi _ _ _ b (Finset.mem_univ _) ?_ fun x _ => ?_).trans (if_pos hb.1)
  · rw [if_pos hb.1, hn _ (by omega)]
    have : (2147483647#32).toInt = 2147483647 := by decide
    omega
  · rw [if_pos hb.1, hn _ (by omega)]
    by_cases e : ov (boxes V0) (imH V0) (imW V0) k x = rowMax (boxes V0) (imH V0) (imW V0) k
    · rw [if_pos e, hn _ (by omega)]
      have : ¬ x < b := fun h => hb.2 x h e
      omega
    · rw [if_neg e]
      show _ ≤ (BitVec.ofNat 32 100).toInt
      rw [hn _ le_rfl]; omega

end Cert.ReferenceIdeal.Value

end
-- ==== Proof.Ref.Counts.lean ====
/- The reference's labels after its two limits, read at an index. -/
module

public import proofs.«01_k».proof.Proof.Ref.Read
public import Idealize.ShloMosaic.Lib.Routing.Ops
public import Idealize.ShloMosaic.Lib.Routing.Count

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.Tactic Cert.Spec Cert.Tab

variable (V0 : Valuation τ sig (Elt Ideal))

/-- A mask as words of zero and one. -/
theorem extui_mask (m : IVec S36864 1) (Q : ℕ → Prop) [DecidablePred Q] (hm : ∀ k : Fin 36864, m (ix1 k) = 1#1 ↔ Q k.val) (k : Fin 36864) :
    extui 32 m natLt_1_32 (ix1 k) = BitVec.ofNat 32 (if Q k.val then 1 else 0) := by
  show BitVec.setWidth 32 (m (ix1 k)) = _
  by_cases h : Q k.val
  · rw [if_pos h, (hm k).2 h]; rfl
  · have : m (ix1 k) = 0#1 := (BitVec.eq_zero_or_eq_one _).resolve_right fun e => h ((hm k).1 e)
    rw [if_neg h, this]; rfl

/-- There is one index of rank zero. -/
theorem ix0_unique (i j : S_.Idx) : i = j := funext fun a => a.elim0

/-- The running count of a mask. -/
theorem running (m : IVec S36864 1) (Q : ℕ → Prop) [DecidablePred Q] (hm : ∀ k : Fin 36864, m (ix1 k) = 1#1 ↔ Q k.val) (k : Fin 36864) :
    Host.reduceWindow IntOp.addi ![36864] ![1] ![36863] ![0] (extui 32 m natLt_1_32) (broadcastInDim S_ ![] bcast_S_S_ (constantI S_ 32 0#32))
      reduceWindows_S36864_S36864_w36864s1p36863_0 h_S_ (ix1 k) = BitVec.ofNat 32 (Nat.count Q (k.val + 1)) := by
  rw [ix1_eq_valueIdx]
  refine (Routing.cumsum1 (by decide) _ (fun i => if Q i then 1 else 0) (fun i => ?_) _ rfl _ _ k).trans ?_
  · rw [← ix1_eq_valueIdx]; exact extui_mask m Q hm i
  · rw [Routing.sum_map_ite]

/-- The count of a mask. -/
theorem total (m : IVec S36864 1) (Q : ℕ → Prop) [DecidablePred Q] (hm : ∀ k : Fin 36864, m (ix1 k) = 1#1 ↔ Q k.val) :
    Host.reduce IntOp.addi (extui 32 m natLt_1_32) (constantI S_ 32 0#32) reducesTo_S36864_S_d0 h_S_ ix0 = BitVec.ofNat 32 (Nat.count Q 36864) := by
  rw [ix0_unique ix0 ValueIdx.ix0]
  refine (Routing.reduce_sum _ (fun i => if Q i then 1 else 0) (fun i => ?_) _ _).trans ?_
  · rw [← ix1_eq_valueIdx]; exact extui_mask m Q hm i
  · rw [Routing.sum_map_ite]

/-- A small natural number as a signed word. -/
theorem toInt_small (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- The comparison with what is left of 256. -/
theorem sgt_room (a c : ℕ) (ha : a ≤ 36864) (hc : c ≤ 36864) :
    IntOp.cmpi .sgt (BitVec.ofNat 32 a) (IntOp.subi 256#32 (BitVec.ofNat 32 c)) = 1#1 ↔ 256 < a + c := by
  have e : (IntOp.subi 256#32 (BitVec.ofNat 32 c)).toInt = 256 - c := by
    show (256#32 - BitVec.ofNat 32 c).toInt = _
    rw [BitVec.toInt_sub, toInt_small c (by omega), show (256#32).toInt = 256 from rfl, Int.bmod_eq_of_le] <;> omega
  show BitVec.ofBool (BitVec.slt (IntOp.subi 256#32 (BitVec.ofNat 32 c)) (BitVec.ofNat 32 a)) = 1#1 ↔ _
  rw [BitVec.slt_eq_decide, ofBool_one, e, toInt_small a (by omega)]
  omega

/-- The comparison with 128. -/
theorem sgt_128 (a : ℕ) (ha : a ≤ 36864) : IntOp.cmpi .sgt (BitVec.ofNat 32 a) 128#32 = 1#1 ↔ 128 < a := by
  show BitVec.ofBool (BitVec.slt 128#32 (BitVec.ofNat 32 a)) = 1#1 ↔ _
  rw [BitVec.slt_eq_decide, ofBool_one, toInt_small a (by omega), show (128#32).toInt = 128 from rfl]
  omega

/-- A mask of the entries that hold a value. -/
theorem oeq_one (x y : EReal) : FloatOps.cmpf (F := Ideal) (φ := .f32) .oeq x y = 1#1 ↔ x = y := by
  exact ofBool_one (x = y)

/-- Which labels are positive before the limit. -/
theorem v160_read (k : Fin 36864) : res_main_v160 V0 (ix1 k) = 1#1 ↔ Cert.Spec.lab0 (boxes V0) (imH V0) (imW V0) k = 1 := by
  rw [← v158_read, ← Ideal.ofBits_one_f32]
  exact oeq_one _ _

/-- The labels after the first limit. -/
theorem v166_read (k : Fin 36864) : (res_main_v166 V0 (ix1 k) : EReal) = lab1 (boxes V0) (imH V0) (imW V0) k := by
  classical
  have hr := running (res_main_v160 V0) (fun j => Cert.Spec.lab0 (boxes V0) (imH V0) (imW V0) j = 1) (v160_read V0) k
  have hu : res_main_v166 V0 (ix1 k) = Scalar.select (IntOp.andi (res_main_v160 V0 (ix1 k)) (IntOp.cmpi .sgt
      (Host.reduceWindow IntOp.addi ![36864] ![1] ![36863] ![0] (extui 32 (res_main_v160 V0) natLt_1_32) (broadcastInDim S_ ![] bcast_S_S_ (constantI S_ 32 0#32))
      reduceWindows_S36864_S36864_w36864s1p36863_0 h_S_ (ix1 k)) 128#32)) (Ideal.ofBits .f32 3212836864#32 : EReal) (res_main_v158 V0 (ix1 k) : EReal) := rfl
  rw [hu, hr, bits_neg_one, v158_read, select_if _ (Cert.Spec.lab0 (boxes V0) (imH V0) (imW V0) k = 1 ∧ 128 < upto (Cert.Spec.lab0 (boxes V0) (imH V0) (imW V0)) 1 k)]
  · unfold lab1; rfl
  · rw [andi_one, v160_read, sgt_128 _ ((Nat.count_le _).trans (by omega))]
    exact Iff.rfl

/-- Which labels are negative before the limit. -/
theorem v173_read (k : Fin 36864) : res_main_v173 V0 (ix1 k) = 1#1 ↔ lab1 (boxes V0) (imH V0) (imW V0) k = 0 := by
  rw [← v166_read, ← Ideal.ofBits_zero_f32]
  exact oeq_one _ _

/-- The mask of the positive labels that stay. -/
def staying : IVec S36864 1 := cmpf (F := Ideal) (φ := .f32) .oeq (res_main_v166 V0) (broadcastInDim S36864 ![] bcast_S_S36864 (constant S_ .f32 0x3F800000#32))

theorem staying_read (k : Fin 36864) : staying V0 (ix1 k) = 1#1 ↔ lab1 (boxes V0) (imH V0) (imW V0) k = 1 := by
  rw [← v166_read, ← Ideal.ofBits_one_f32]
  exact oeq_one _ _

/-- The labels the reference leaves. -/
theorem v179_read (k : Fin 36864) : (res_main_v179 V0 (ix1 k) : EReal) = lab2 (boxes V0) (imH V0) (imW V0) k := by
  classical
  have hr := running (res_main_v173 V0) (fun j => lab1 (boxes V0) (imH V0) (imW V0) j = 0) (v173_read V0) k
  have ht := total (staying V0) (fun j => lab1 (boxes V0) (imH V0) (imW V0) j = 1) (staying_read V0)
  have hu : res_main_v179 V0 (ix1 k) = Scalar.select (IntOp.andi (res_main_v173 V0 (ix1 k)) (IntOp.cmpi .sgt
      (Host.reduceWindow IntOp.addi ![36864] ![1] ![36863] ![0] (extui 32 (res_main_v173 V0) natLt_1_32) (broadcastInDim S_ ![] bcast_S_S_ (constantI S_ 32 0#32))
      reduceWindows_S36864_S36864_w36864s1p36863_0 h_S_ (ix1 k))
      (IntOp.subi 256#32 (Host.reduce IntOp.addi (extui 32 (staying V0) natLt_1_32) (constantI S_ 32 0#32) reducesTo_S36864_S_d0 h_S_ ix0))))
      (Ideal.ofBits .f32 3212836864#32 : EReal) (res_main_v166 V0 (ix1 k) : EReal) := by
    rfl
  rw [hu, hr, ht, bits_neg_one, v166_read, select_if _ (lab1 (boxes V0) (imH V0) (imW V0) k = 0
    ∧ 256 < upto (lab1 (boxes V0) (imH V0) (imW V0)) 0 k + upto (lab1 (boxes V0) (imH V0) (imW V0)) 1 36863)]
  · unfold lab2; rfl
  · rw [andi_one, v173_read, sgt_room _ _ ((Nat.count_le _).trans (by omega)) (Nat.count_le _)]
    exact Iff.rfl

end Cert.ReferenceIdeal.Value

end
-- ==== Proof.Ref.Gather.lean ====
/- The reference's gathered boxes, read at an index. -/
module

public import proofs.«01_k».proof.Proof.Ref.Counts

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.Tactic Cert.Spec Cert.Tab

variable (V0 : Valuation τ sig (Elt Ideal))

/-- A gather of whole boxes: row `b` of the table where the start index holds `b` and zero. -/
theorem gather_box (x : S100x5.Idx → EReal) (idx : IVec S36864x2 32) (k : Fin 36864) (c : Fin 4) (b : Fin 100)
    (hb : idx (ix2 k (0 : Fin 2)) = BitVec.ofNat 32 b.val) (h0 : idx (ix2 k (1 : Fin 2)) = 0#32) :
    Host.gather gather_S100x5_S36864x2_S36864x4_1_0_n_n_01_1_14 x idx (ix2 k c) = x (ix2 b (⟨c.val, by omega⟩ : Fin 5)) := by
  have i0 : gather_S100x5_S36864x2_S36864x4_1_0_n_n_01_1_14.siIdx (ix2 k c) (⟨0, by decide⟩ : Fin 2) = ix2 k (0 : Fin 2) := by
    funext a; match a with
    | ⟨0, _⟩ => rfl
    | ⟨1, _⟩ => rfl
  have i1 : gather_S100x5_S36864x2_S36864x4_1_0_n_n_01_1_14.siIdx (ix2 k c) (⟨1, by decide⟩ : Fin 2) = ix2 k (1 : Fin 2) := by
    funext a; match a with
    | ⟨0, _⟩ => rfl
    | ⟨1, _⟩ => rfl
  have hlt := b.isLt
  unfold Host.gather
  refine congrArg x (funext fun a => Fin.ext ?_)
  match a with
  | ⟨0, _⟩ =>
    show min (idx (gather_S100x5_S36864x2_S36864x4_1_0_n_n_01_1_14.siIdx (ix2 k c) (⟨0, by decide⟩ : Fin 2))).toInt.toNat (100 - 1) + 0 + 0 = b.val
    rw [i0, hb, toInt_small _ (by omega)]
    omega
  | ⟨1, _⟩ =>
    show min (idx (gather_S100x5_S36864x2_S36864x4_1_0_n_n_01_1_14.siIdx (ix2 k c) (⟨1, by decide⟩ : Fin 2))).toInt.toNat (5 - 4) + 0 + c.val = c.val
    rw [i1, h0]
    simp

/-- The gathered boxes: each anchor's first box with its largest overlap. -/
theorem v188_read (k : Fin 36864) (c : Fin 4) (b : Fin 100) (hb : IsBest (boxes V0) (imH V0) (imW V0) k b) :
    (res_main_v188 V0 (ix2 k c) : EReal) = boxes V0 b c := by
  have h := v141_read V0 k b hb
  have hlt := b.isLt
  unfold res_main_v188
  refine gather_box _ _ k c b ?_ ?_
  · clean_types
    pointwise
    have e : IntOp.cmpi .slt (BitVec.ofNat 32 b.val) 0#32 ≠ 1#1 := by
      show BitVec.ofBool (BitVec.slt _ _) ≠ 1#1
      rw [BitVec.slt_eq_decide, Ne, ofBool_one, toInt_small _ (by omega), show (0#32).toInt = 0 from rfl]
      omega
    simp [h, Scalar.select, e]
  · clean_types
    pointwise

end Cert.ReferenceIdeal.Value

end
-- ==== Proof.Ref.Results.lean ====
/- The reference's four results before they are laid out, read at an index. -/
module

public import proofs.«01_k».proof.Proof.Ref.Gather

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.Tactic Cert.Spec Cert.Tab

variable (V0 : Valuation τ sig (Elt Ideal))

/-- The targets, one row an anchor. -/
def tgtArr : FVec Ideal S36864x4 .f32 :=
  select (broadcastInDim S36864x4 ![0, 1] bcast_S36864x1_S36864x4_0_1 (broadcastInDim S36864x1 ![0] bcast_S36864_S36864x1_0 (res_main_v46 V0))) ((concatenate S36864x4 1 [⟨S36864x1, ((broadcastInDim S36864x1 ![0] bcast_S36864_S36864x1_0 (Host.divf (subf (addf (shapeCast _ (extractStridedSlice S36864x1 ![0, 0] (res_main_v188 V0) slices_S36864x4_S36864x1_0_0) shapeCasts_S36864x1_S36864) (mulf (broadcastInDim S36864 ![] bcast_S_S36864 (constant S_ .f32 0x3F000000#32)) (res_main_v219 V0))) (addf (shapeCast _ (extractStridedSlice S36864x1 ![0, 0] (res_main_v22 V0) slices_S36864x4_S36864x1_0_0) shapeCasts_S36864x1_S36864) (mulf (broadcastInDim S36864 ![] bcast_S_S36864 (constant S_ .f32 0x3F000000#32)) (res_main_v195 V0)))) (res_main_v195 V0))) : (⟨S36864x1, .f32⟩ : BufTy).Contents (Elt Ideal))⟩, ⟨S36864x1, ((broadcastInDim S36864x1 ![0] bcast_S36864_S36864x1_0 (Host.divf (subf (addf (shapeCast _ (extractStridedSlice S36864x1 ![0, 1] (res_main_v188 V0) slices_S36864x4_S36864x1_0_1) shapeCasts_S36864x1_S36864) (mulf (broadcastInDim S36864 ![] bcast_S_S36864 (constant S_ .f32 0x3F000000#32)) (res_main_v226 V0))) (addf (shapeCast _ (extractStridedSlice S36864x1 ![0, 1] (res_main_v22 V0) slices_S36864x4_S36864x1_0_1) shapeCasts_S36864x1_S36864) (mulf (broadcastInDim S36864 ![] bcast_S_S36864 (constant S_ .f32 0x3F000000#32)) (res_main_v202 V0)))) (res_main_v202 V0))) : (⟨S36864x1, .f32⟩ : BufTy).Contents (Elt Ideal))⟩, ⟨S36864x1, ((broadcastInDim S36864x1 ![0] bcast_S36864_S36864x1_0 (Host.log (Host.divf (res_main_v219 V0) (res_main_v195 V0)))) : (⟨S36864x1, .f32⟩ : BufTy).Contents (Elt Ideal))⟩, ⟨S36864x1, ((broadcastInDim S36864x1 ![0] bcast_S36864_S36864x1_0 (Host.log (Host.divf (res_main_v226 V0) (res_main_v202 V0)))) : (⟨S36864x1, .f32⟩ : BufTy).Contents (Elt Ideal))⟩] concatenates_S36864x1_S36864x1_S36864x1_S36864x1_S36864x4_d1 : (⟨S36864x4, .f32⟩ : BufTy).Contents (Elt Ideal))) (broadcastInDim S36864x4 ![] bcast_S_S36864x4 (id (constant S_ .f32 0x00000000#32)))

/-- The inside weights, one row an anchor. -/
def biwArr : FVec Ideal S36864x4 .f32 :=
  mulf (broadcastInDim S36864x4 ![0, 1] bcast_S36864x1_S36864x4_0_1 (id (select (broadcastInDim S36864x1 ![0] bcast_S36864_S36864x1_0 (cmpf .oeq (res_main_v179 V0) (broadcastInDim S36864 ![] bcast_S_S36864 (constant S_ .f32 0x3F800000#32)))) (broadcastInDim S36864x1 ![] bcast_S_S36864x1 (constant S_ .f32 0x3F800000#32)) (broadcastInDim S36864x1 ![] bcast_S_S36864x1 (constant S_ .f32 0x00000000#32))))) (broadcastInDim S36864x4 ![0, 1] bcast_S1x4_S36864x4_0_1 (broadcastInDim S1x4 ![] bcast_S_S1x4 (constant S_ .f32 0x3F800000#32)))

/-- The outside weights, one row an anchor. -/
def bowArr : FVec Ideal S36864x4 .f32 :=
  mulf (broadcastInDim S36864x4 ![0, 1] bcast_S36864x1_S36864x4_0_1 (select (broadcastInDim S36864x1 ![0] bcast_S36864_S36864x1_0 (cmpf .oge (res_main_v179 V0) (broadcastInDim S36864 ![] bcast_S_S36864 (constant S_ .f32 0x00000000#32)))) (broadcastInDim S36864x1 ![] bcast_S_S36864x1 (Host.divf (constant S_ .f32 0x3F800000#32) (sitofp .f32 (Host.reduce IntOp.addi (extui 32 (cmpf .oge (res_main_v179 V0) (broadcastInDim S36864 ![] bcast_S_S36864 (constant S_ .f32 0x00000000#32))) natLt_1_32) (constantI S_ 32 0#32) reducesTo_S36864_S_d0 h_S_)))) (broadcastInDim S36864x1 ![] bcast_S_S36864x1 (id (constant S_ .f32 0x00000000#32))))) (broadcastInDim S36864x4 ![0, 1] bcast_S1x4_S36864x4_0_1 (broadcastInDim S1x4 ![] bcast_S_S1x4 (constant S_ .f32 0x3F800000#32)))

/-- The inside weights. -/
theorem biwArr_read (k : Fin 36864) (t : Fin 4) : biwArr V0 (ix2 k t) = biw (boxes V0) (imH V0) (imW V0) k := by
  classical
  unfold biwArr
  simp only [id]
  clean_types
  pointwise
  simp only [v179_read]
  rfl

/-- The mask of the labels that count. -/
def counting : IVec S36864 1 := cmpf (F := Ideal) (φ := .f32) .oge (res_main_v179 V0) (broadcastInDim S36864 ![] bcast_S_S36864 (constant S_ .f32 0x00000000#32))

theorem counting_read (k : Fin 36864) : counting V0 (ix1 k) = 1#1 ↔ 0 ≤ lab2 (boxes V0) (imH V0) (imW V0) k := by
  rw [← v179_read, ← Ideal.ofBits_zero_f32]
  exact ofBool_one ((Ideal.ofBits .f32 0#32 : EReal) ≤ res_main_v179 V0 (ix1 k))

/-- The outside weights. -/
theorem bowArr_read (k : Fin 36864) (t : Fin 4) : bowArr V0 (ix2 k t) = bow (boxes V0) (imH V0) (imW V0) k := by
  classical
  have ht := total (counting V0) (fun j => 0 ≤ lab2 (boxes V0) (imH V0) (imW V0) j) (counting_read V0)
  unfold counting at ht
  unfold bowArr
  clean_types
  generalize Host.reduce IntOp.addi _ _ _ _ = cnt at ht ⊢
  pointwise
  rw [ht, sitofp_small _ (lt_of_le_of_lt (Nat.count_le _) (by norm_num))]
  simp only [v179_read, id]
  unfold bow
  refine if_congr Iff.rfl rfl Ideal.ofBits_zero_f32

/-- The targets. -/
theorem tgtArr_read (k : Fin 36864) (t : Fin 4) (b : Fin 100) (hb : IsBest (boxes V0) (imH V0) (imW V0) k b) :
    tgtArr V0 (ix2 k t) = target (boxes V0) (imH V0) (imW V0) k b t := by
  classical
  unfold tgtArr res_main_v195 res_main_v202 res_main_v219 res_main_v226
  clean_types
  pointwise
  have h := fun c => v188_read V0 k c b hb
  simp only [h, v22_read]
  rw [select_if _ _ (v46_read V0 k)]
  unfold target
  refine if_congr Iff.rfl ?_ Ideal.ofBits_zero_f32
  fin_cases t <;> rfl

end Cert.ReferenceIdeal.Value

end
-- ==== Proof.Kern.Loop.lean ====
/- The kernel's loop over the boxes, by its invariant. -/
module

public import proofs.«01_k».proof.Proof.Gen.KernelIdeal.Frame
public import proofs.«01_k».proof.Proof.Gen.KernelIdeal.Skeleton
public import Idealize.ShloMosaic.Lib.WritesUnit
public import Idealize.ShloMosaic.Lib.Pipeline.ValueKit.Tiles
public import Idealize.ShloMosaic.Lib.Exec
public import Idealize.ShloMosaic.Lib.Tactic
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The five values the loop over the boxes carries. -/
abbrev Acc (F : FTy → Type) : Type := FVec F S288x128 .f32 × FVec F S288x128 .f32 × FVec F S288x128 .f32 × FVec F S288x128 .f32 × FVec F S288x128 .f32

/-- The arrays the loop reads: the boxes' corners and areas, the image's size, and the anchors' corners. -/
structure Arrs (F : FTy → Type) where
  (x1 y1 x2 y2 ar : Vec F S100 .f32)
  (imh imw : Elt F .f32)
  (ax1 ay1 ax2 ay2 ax2p ay2p : Vec F S288x128 .f32)

/-- The overlaps of every anchor with box `k`. -/
def ovRow (X : Arrs F) (k : Fin 100) : FVec F S288x128 .f32 :=
  k0_pay7 X.ax1 X.ay1 X.ax2 X.ay2 X.ax2p X.ay2p X.imh X.imw (X.x1 (ix1 k)) (X.y1 (ix1 k)) (X.x2 (ix1 k)) (X.y2 (ix1 k)) (X.ar (ix1 k))

/-- What one trip makes of the carried values. -/
def trip (X : Arrs F) (k : Fin 100) (a : Acc F) : Acc F :=
  (select (cmpf .ogt (ovRow X k) a.1) (ovRow X k) a.1,
   select (cmpf .ogt (ovRow X k) a.1) (broadcast S288x128 (X.x1 (ix1 k))) a.2.1,
   select (cmpf .ogt (ovRow X k) a.1) (broadcast S288x128 (X.y1 (ix1 k))) a.2.2.1,
   select (cmpf .ogt (ovRow X k) a.1) (broadcast S288x128 (X.x2 (ix1 k))) a.2.2.2.1,
   select (cmpf .ogt (ovRow X k) a.1) (broadcast S288x128 (X.y2 (ix1 k))) a.2.2.2.2)

/-- The values carried before trip `k`. -/
def carry (X : Arrs F) : ℕ → Acc F
  | 0 => (k0_pay6, k0_pay5, k0_pay5, k0_pay5, k0_pay5)
  | k + 1 => if h : k < 100 then trip X ⟨k, h⟩ (carry X k) else carry X k

theorem carry_succ (X : Arrs F) (k : Fin 100) : carry X (k.val + 1) = trip X k (carry X k.val) := by
  rw [carry.eq_2]; exact dif_pos k.isLt

/-- The word a trip loads from an array of boxes is the trip's entry. -/
theorem word_read (arg : Memref sig .tc .smem S100 .f32) (h : arg.IsWhole) (x : Vec F S100 .f32) (k : Fin k0_t1_loop.trips) (hk : k.val < 100)
    (y : S1.Idx) :
    View.readAt (Elt F) arg.view (Rect.unit (s := S100) (k0_off1 k) S1.size (k0_off1_inb k)).toLoadRect (h.unread x) y = x (ix1 ⟨k.val, hk⟩) := by
  rw [View.readAt_eq_ld, h.read_unread]
  refine View.ld_unit_apply_of x _ _ _ _ _ fun a => ?_
  have e := congrFun (k0_off1_eq k) a
  refine Eq.trans ?_ (congrArg (· + (y a).val) e.symm)
  have h0 : (y a).val < S1.size a := (y a).isLt
  clear e
  match a, h0 with
  | ⟨0, _⟩, h0 =>
    have : (y ⟨0, by decide⟩).val < 1 := h0
    show k.val = k.val + (y ⟨0, _⟩).val
    omega

/-- A trip's store leaves slab `k` at the trip's overlaps and the others as they were. -/
theorem slab_write (arg : Memref sig .tc .vmem S100x288x128 .f32) (f : arg.view.ty.Contents (Elt F)) (k : Fin k0_t1_loop.trips) (hk : k.val < 100)
    (w : FVec F S288x128 .f32) (j : Fin 100) (a : Fin 288) (b : Fin 128) :
    View.read (Elt F) arg.view (arg.view.writes (Elt F) f [⟨Rect.unit (s := S100x288x128) (k0_off2 k) S1x288x128.size (k0_off2_inb k),
      shapeCast S1x288x128 w shapeCasts_S288x128_S1x288x128⟩]) (ix3 j a b)
      = if j.val = k.val then w (ix2 a b) else View.read (Elt F) arg.view f (ix3 j a b) := by
  by_cases h : j.val = k.val
  · rw [if_pos h]
    refine (View.read_writes_cons_unit_of_mem arg.view f _ _ _ (ix3 j a b) (ix3 (0 : Fin 1) a b) (k0_off2_eq k) ?_).trans ?_
    · intro t; fin_cases t
      · show j.val = k.val + 0; omega
      · show a.val = 0 + a.val; omega
      · show b.val = 0 + b.val; omega
    · pointwise
  · rw [if_neg h]
    refine (View.read_writes_cons_unit_of_not_mem arg.view f _ _ _ (ix3 j a b) (k0_off2_eq k) 0 ?_).trans ?_
    · show j.val < k.val ∨ k.val + 1 ≤ j.val; omega
    · rfl

/-- The kernel's loop over the boxes: before trip `k` the scratch's first `k` slabs hold the overlaps with the first `k`
    boxes, and the carried values are `carry X k`. -/
@[sl_loop] def loopBoxes (𝒱 : Variants) (c : Dev nD) (bd : Option 𝒱.V) (E : Set ℕ) (arg0 : Memref sig .tc .smem S100 .f32) (harg0 : arg0.IsWhole) (arg1 : Memref sig .tc .smem S100 .f32) (harg1 : arg1.IsWhole) (arg2 : Memref sig .tc .smem S100 .f32) (harg2 : arg2.IsWhole) (arg3 : Memref sig .tc .smem S100 .f32) (harg3 : arg3.IsWhole) (arg4 : Memref sig .tc .smem S100 .f32) (harg4 : arg4.IsWhole) (arg5 : Memref sig .tc .smem S2 .f32) (harg5 : arg5.IsWhole) (arg6 : Memref sig .tc .vmem S288x128 .f32) (harg6 : arg6.IsWhole) (arg7 : Memref sig .tc .vmem S288x128 .f32) (harg7 : arg7.IsWhole) (arg8 : Memref sig .tc .vmem S288x128 .f32) (harg8 : arg8.IsWhole) (arg9 : Memref sig .tc .vmem S288x128 .f32) (harg9 : arg9.IsWhole) (arg10 : Memref sig .tc .vmem S288x128 .f32) (harg10 : arg10.IsWhole) (arg11 : Memref sig .tc .vmem S288x128 .f32) (harg11 : arg11.IsWhole) (arg12 : Memref sig .tc .vmem S288x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S288x128 .f32) (harg17 : arg17.IsWhole) (arg18 : Memref sig .tc .vmem S288x128 .f32) (harg18 : arg18.IsWhole) (arg19 : Memref sig .tc .vmem S100x288x128 .f32) (harg19 : arg19.IsWhole)
    (x1 y1 x2 y2 ar : Vec F S100 .f32) (v0 v1 v2 v3 v4 v5 : Vec F S288x128 .f32) (v6 v7 : Elt F .f32) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok ((k0_pay6, k0_pay5, k0_pay5, k0_pay5, k0_pay5) : Acc F)
      (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v2 v3 v4 v5 v6 v7) where
  inv k acc := iprop((arg0.view.loc (c : Thread nD τ) ↦[arg0.view.set]{fullShare} harg0.unread x1)
    ∗ (arg1.view.loc (c : Thread nD τ) ↦[arg1.view.set]{fullShare} harg1.unread y1)
    ∗ (arg2.view.loc (c : Thread nD τ) ↦[arg2.view.set]{fullShare} harg2.unread x2)
    ∗ (arg3.view.loc (c : Thread nD τ) ↦[arg3.view.set]{fullShare} harg3.unread y2)
    ∗ (arg4.view.loc (c : Thread nD τ) ↦[arg4.view.set]{fullShare} harg4.unread ar)
    ∗ (∃ f, (arg19.view.loc (c : Thread nD τ) ↦[arg19.view.set]{fullShare} f) ∗ ⌜∀ j : Fin 100, j.val < k → ∀ (a : Fin 288) (b : Fin 128), arg19.view.read (Elt F) f (ix3 j a b) = ovRow (⟨x1, y1, x2, y2, ar, v6, v7, v0, v1, v2, v3, v4, v5⟩ : Arrs F) j (ix2 a b)⌝)
    ∗ ⌜acc = carry (⟨x1, y1, x2, y2, ar, v6, v7, v0, v1, v2, v3, v4, v5⟩ : Arrs F) k⌝)
  step k acc := by
    have hk : k.val < 100 := Nat.lt_of_lt_of_le k.isLt k0_t1_abs.2.1
    iintro ⟨H0, H1, H2, H3, H4, ⟨%f, Hs, %hf⟩, %hacc⟩
    subst hacc
    unfold k0_t1_body
    sl_exec
    sl_step
    isplitl [H0]; · iexact H0
    isplitl [H1]; · iexact H1
    isplitl [H2]; · iexact H2
    isplitl [H3]; · iexact H3
    isplitl [H4]; · iexact H4
    isplitl [Hs]
    · iexists _; isplitl [Hs]; · iexact Hs
      ipureintro
      intro j hj a b
      refine (slab_write arg19 f k hk _ j a b).trans ?_
      split
      next h =>
        obtain rfl : j = ⟨k.val, hk⟩ := Fin.ext h
        refine congrFun ?_ (ix2 a b)
        unfold ovRow
        dsimp only
        rw [← word_read arg0 harg0 x1 k hk (Shape.Idx.first Nat.one_pos), ← word_read arg1 harg1 y1 k hk (Shape.Idx.first Nat.one_pos), ← word_read arg2 harg2 x2 k hk (Shape.Idx.first Nat.one_pos), ← word_read arg3 harg3 y2 k hk (Shape.Idx.first Nat.one_pos), ← word_read arg4 harg4 ar k hk (Shape.Idx.first Nat.one_pos)]
        rfl
      next h => exact hf j (by omega) a b
    ipureintro
    refine Eq.trans ?_ (carry_succ (⟨x1, y1, x2, y2, ar, v6, v7, v0, v1, v2, v3, v4, v5⟩ : Arrs F) ⟨k.val, hk⟩).symm
    unfold trip ovRow
    dsimp only
    rw [← word_read arg0 harg0 x1 k hk (Shape.Idx.first Nat.one_pos), ← word_read arg1 harg1 y1 k hk (Shape.Idx.first Nat.one_pos), ← word_read arg2 harg2 x2 k hk (Shape.Idx.first Nat.one_pos), ← word_read arg3 harg3 y2 k hk (Shape.Idx.first Nat.one_pos), ← word_read arg4 harg4 ar k hk (Shape.Idx.first Nat.one_pos)]
    rfl

end Cert.KernelIdeal.Body

end
-- ==== Proof.Kern.Body.lean ====
/- The kernel's body: from the arrays it reads it leaves seven named arrays. -/
module

public import proofs.«01_k».proof.Proof.Kern.Loop
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The overlaps of every anchor with every box. -/
def ovAll (X : Arrs F) : FVec F S100x288x128 .f32 := fun i => ovRow X (i 0) (ix2 (i 1) (i 2))
/-- Which anchors lie inside the image. -/
def insideV (X : Arrs F) : IVec S288x128 1 := k0_pay4 X.ax1 X.ay1 X.ax2 X.ay2 X.imh X.imw
/-- The row numbers of the two 288 by 288 triangles. -/
def rowsV : IVec S288x288 32 := iota .tc S288x288 32 [0] iota_S288x288_d0_w32
/-- The labels by overlap alone. -/
def lab0 (X : Arrs F) : FVec F S288x128 .f32 :=
  k0_pay17 (insideV X) (carry X 100).1 (k0_pay15 (ovAll X)) (Scalar.ofBits .f32 0x00000000#32) k0_pay16
/-- The labels after the positive ones beyond the first 128 are dropped. -/
def fgLimit (l : FVec F S288x128 .f32) : FVec F S288x128 .f32 :=
  k0_pay29 l (k0_pay24 l) (k0_pay25 l) (k0_pay26 l k0_pay18 rowsV k0_pay19 k0_pay20 k0_pay21 k0_pay22 0#32)
    (k0_pay27 l k0_pay18 rowsV k0_pay19 k0_pay20 k0_pay21 k0_pay22 0#32) (k0_pay28 l k0_pay18 rowsV k0_pay19 k0_pay20 k0_pay21 k0_pay22 0#32)
/-- How many negative labels may stay. -/
def bgRoom (l : FVec F S288x128 .f32) : F .f32 :=
  k0_pay30 l (k0_pay24 l) (k0_pay25 l) (k0_pay26 l k0_pay18 rowsV k0_pay19 k0_pay20 k0_pay21 k0_pay22 0#32)
    (k0_pay27 l k0_pay18 rowsV k0_pay19 k0_pay20 k0_pay21 k0_pay22 0#32) (k0_pay28 l k0_pay18 rowsV k0_pay19 k0_pay20 k0_pay21 k0_pay22 0#32)
/-- The negative labels to drop. -/
def bgDrop (l : FVec F S288x128 .f32) (room : F .f32) : IVec S288x128 1 :=
  k0_pay32 k0_pay18 (k0_pay23 rowsV k0_pay19 k0_pay20 k0_pay21 k0_pay22 0#32) l room k0_pay31
/-- The labels the kernel leaves. -/
def labOut (X : Arrs F) : FVec F S288x128 .f32 :=
  k0_pay34 (fgLimit (lab0 X)) (bgDrop (fgLimit (lab0 X)) (bgRoom (lab0 X))) k0_pay33
/-- The first target plane. -/
def dxOut (X : Arrs F) : FVec F S288x128 .f32 := k0_pay39 X.ax1 X.ax2p (insideV X) (carry X 100).2.1 (carry X 100).2.2.2.1
/-- The second target plane. -/
def dyOut (X : Arrs F) : FVec F S288x128 .f32 := k0_pay40 X.ay1 X.ay2p (insideV X) (carry X 100).2.2.1 (carry X 100).2.2.2.2
/-- The third target plane. -/
def dwOut (X : Arrs F) : FVec F S288x128 .f32 := k0_pay41 X.ax1 X.ax2p (insideV X) (carry X 100).2.1 (carry X 100).2.2.2.1
/-- The fourth target plane. -/
def dhOut (X : Arrs F) : FVec F S288x128 .f32 :=
  k0_pay1 (insideV X) (k0_pay42 X.ay1 X.ay2p (carry X 100).2.2.1 (carry X 100).2.2.2.2)
/-- The inside weights. -/
def biwOut (X : Arrs F) : FVec F S288x128 .f32 := k0_pay2 (labOut X)
/-- The outside weights. -/
def bowOut (X : Arrs F) : FVec F S288x128 .f32 := k0_pay3 (labOut X)

/-- A load of a whole plane reads the plane. -/
theorem plane_read (arg : Memref sig .tc .vmem S288x128 .f32) (h : arg.IsWhole) (x : Vec F S288x128 .f32) :
    View.readAt (Elt F) arg.view (Rect.unit (s := S288x128) ![0, 0] S288x128.size inb_S288x128_S288x128_0_0).toLoadRect (h.unread x) = x := by
  rw [View.readAt_full]; exact h.read_unread x

/-- A load of a word of the image's size. -/
theorem size_read (arg : Memref sig .tc .smem S2 .f32) (h : arg.IsWhole) (x : Vec F S2 .f32) (k : Fin 2) (inb) (y : S1.Idx) :
    View.readAt (Elt F) arg.view (Rect.unit (s := S2) ![k.val] S1.size inb).toLoadRect (h.unread x) y = x (ix1 k) := by
  rw [View.readAt_eq_ld, h.read_unread]
  refine View.ld_unit_apply_of x _ _ _ _ _ fun a => ?_
  have h0 : (y a).val < S1.size a := (y a).isLt
  match a, h0 with
  | ⟨0, _⟩, h0 =>
    have : (y ⟨0, by decide⟩).val < 1 := h0
    show k.val = k.val + (y ⟨0, _⟩).val
    omega

set_option maxHeartbeats 8000000 in
/-- The body's triple: holding the arrays it reads, and the outputs and the scratch at anything, it runs to its end with the
    arrays it reads as they were and the outputs at the named arrays. -/
theorem body_run (c : Dev nD) (arg0 : Memref sig .tc .smem S100 .f32) (harg0 : arg0.IsWhole) (arg1 : Memref sig .tc .smem S100 .f32) (harg1 : arg1.IsWhole) (arg2 : Memref sig .tc .smem S100 .f32) (harg2 : arg2.IsWhole) (arg3 : Memref sig .tc .smem S100 .f32) (harg3 : arg3.IsWhole) (arg4 : Memref sig .tc .smem S100 .f32) (harg4 : arg4.IsWhole) (arg5 : Memref sig .tc .smem S2 .f32) (harg5 : arg5.IsWhole) (arg6 : Memref sig .tc .vmem S288x128 .f32) (harg6 : arg6.IsWhole) (arg7 : Memref sig .tc .vmem S288x128 .f32) (harg7 : arg7.IsWhole) (arg8 : Memref sig .tc .vmem S288x128 .f32) (harg8 : arg8.IsWhole) (arg9 : Memref sig .tc .vmem S288x128 .f32) (harg9 : arg9.IsWhole) (arg10 : Memref sig .tc .vmem S288x128 .f32) (harg10 : arg10.IsWhole) (arg11 : Memref sig .tc .vmem S288x128 .f32) (harg11 : arg11.IsWhole) (arg12 : Memref sig .tc .vmem S288x128 .f32) (harg12 : arg12.IsWhole) (arg13 : Memref sig .tc .vmem S288x128 .f32) (harg13 : arg13.IsWhole) (arg14 : Memref sig .tc .vmem S288x128 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S288x128 .f32) (harg17 : arg17.IsWhole) (arg18 : Memref sig .tc .vmem S288x128 .f32) (harg18 : arg18.IsWhole) (arg19 : Memref sig .tc .vmem S100x288x128 .f32) (harg19 : arg19.IsWhole) (X : Arrs F) (im : Vec F S2 .f32) (h0 : im (ix1 0) = X.imh) (h1 : im (ix1 1) = X.imw) :
    ∀ (E : Set ℕ) (K : PUnit → sProp 𝕄),
      iprop(owns (c : Thread nD τ) arg0 fullShare X.x1 ∗ owns (c : Thread nD τ) arg1 fullShare X.y1 ∗ owns (c : Thread nD τ) arg2 fullShare X.x2 ∗ owns (c : Thread nD τ) arg3 fullShare X.y2 ∗ owns (c : Thread nD τ) arg4 fullShare X.ar ∗ owns (c : Thread nD τ) arg5 fullShare im ∗ owns (c : Thread nD τ) arg6 fullShare X.ax1 ∗ owns (c : Thread nD τ) arg7 fullShare X.ay1 ∗ owns (c : Thread nD τ) arg8 fullShare X.ax2 ∗ owns (c : Thread nD τ) arg9 fullShare X.ay2 ∗ owns (c : Thread nD τ) arg10 fullShare X.ax2p ∗ owns (c : Thread nD τ) arg11 fullShare X.ay2p ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
          ∗ (iprop(owns (c : Thread nD τ) arg0 fullShare X.x1 ∗ owns (c : Thread nD τ) arg1 fullShare X.y1 ∗ owns (c : Thread nD τ) arg2 fullShare X.x2 ∗ owns (c : Thread nD τ) arg3 fullShare X.y2 ∗ owns (c : Thread nD τ) arg4 fullShare X.ar ∗ owns (c : Thread nD τ) arg5 fullShare im ∗ owns (c : Thread nD τ) arg6 fullShare X.ax1 ∗ owns (c : Thread nD τ) arg7 fullShare X.ay1 ∗ owns (c : Thread nD τ) arg8 fullShare X.ax2 ∗ owns (c : Thread nD τ) arg9 fullShare X.ay2 ∗ owns (c : Thread nD τ) arg10 fullShare X.ax2p ∗ owns (c : Thread nD τ) arg11 fullShare X.ay2p ∗ owns (c : Thread nD τ) arg12 fullShare (labOut X) ∗ owns (c : Thread nD τ) arg13 fullShare (dxOut X) ∗ owns (c : Thread nD τ) arg14 fullShare (dyOut X) ∗ owns (c : Thread nD τ) arg15 fullShare (dwOut X) ∗ owns (c : Thread nD τ) arg16 fullShare (dhOut X) ∗ owns (c : Thread nD τ) arg17 fullShare (biwOut X) ∗ owns (c : Thread nD τ) arg18 fullShare (bowOut X) ∗ (∃ d, owns (c : Thread nD τ) arg19 fullShare d)) -∗ K ⟨⟩))
        ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  intro E K
  simp only [cc0__body_eq_skeleton]; unfold cc0__body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg0.eq_unread hf0
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  have e6 := plane_read arg6 harg6 X.ax1
  have e7 := plane_read arg7 harg7 X.ay1
  have e8 := plane_read arg8 harg8 X.ax2
  have e9 := plane_read arg9 harg9 X.ay2
  have e10 := plane_read arg10 harg10 X.ax2p
  have e11 := plane_read arg11 harg11 X.ay2p
  have ew0 : ∀ y : S1.Idx, View.readAt (Elt F) arg5.view (Rect.unit (s := S2) ![0] ![1] inb_S2_S1_0).toLoadRect (harg5.unread im) y = X.imh :=
    fun y => (size_read arg5 harg5 im 0 inb_S2_S1_0 y).trans h0
  have ew1 : ∀ y : S1.Idx, View.readAt (Elt F) arg5.view (Rect.unit (s := S2) ![1] ![1] inb_S2_S1_1).toLoadRect (harg5.unread im) y = X.imw :=
    fun y => (size_read arg5 harg5 im 1 inb_S2_S1_1 y).trans h1
  sl_exec
  sl_step
  have hov : View.readAt (Elt F) arg19.view (Rect.unit (s := S100x288x128) ![0, 0, 0] S100x288x128.size inb_S100x288x128_S100x288x128_0_0_0).toLoadRect fL0
      = ovAll ⟨X.x1, X.y1, X.x2, X.y2, X.ar, X.imh, X.imw, X.ax1, X.ay1, X.ax2, X.ay2, X.ax2p, X.ay2p⟩ := by
    rw [View.readAt_full]
    funext i
    rw [eq_ix3 i]
    have hfin := ‹∀ j : Fin 100, j.val < _ → ∀ (a : Fin 288) (b : Fin 128), arg19.view.read (Elt F) fL0 (ix3 j a b) = _› (i 0) ((i 0).isLt.trans_le (by decide +kernel)) (i 1) (i 2)
    refine hfin.trans ?_
    sl_unfold_words
    simp only [e6, e7, e8, e9, e10, e11, ew0, ew1]
    rfl
  iapply Hk
  isplitl [H0]
  · iexists _; isplitr
    · ipureintro; exact harg0.read_unread _
    · iexact H0
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr
    · ipureintro; exact harg6.read_unread _
    · iexact H6
  isplitl [H7]
  · iexists _; isplitr
    · ipureintro; exact harg7.read_unread _
    · iexact H7
  isplitl [H8]
  · iexists _; isplitr
    · ipureintro; exact harg8.read_unread _
    · iexact H8
  isplitl [H9]
  · iexists _; isplitr
    · ipureintro; exact harg9.read_unread _
    · iexact H9
  isplitl [H10]
  · iexists _; isplitr
    · ipureintro; exact harg10.read_unread _
    · iexact H10
  isplitl [H11]
  · iexists _; isplitr
    · ipureintro; exact harg11.read_unread _
    · iexact H11
  isplitl [H12]
  · iexists _; isplitr
    swap
    · iexact H12
    · ipureintro
      refine (View.read_writes_full _ _ _ _ _).trans ?_
      sl_unfold_words
      simp only [e6, e7, e8, e9, e10, e11, ew0, ew1, hov]
      rfl
  isplitl [H13]
  · iexists _; isplitr
    swap
    · iexact H13
    · ipureintro
      refine (View.read_writes_full _ _ _ _ _).trans ?_
      sl_unfold_words
      simp only [e6, e7, e8, e9, e10, e11, ew0, ew1, hov]
      rfl
  isplitl [H14]
  · iexists _; isplitr
    swap
    · iexact H14
    · ipureintro
      refine (View.read_writes_full _ _ _ _ _).trans ?_
      sl_unfold_words
      simp only [e6, e7, e8, e9, e10, e11, ew0, ew1, hov]
      rfl
  isplitl [H15]
  · iexists _; isplitr
    swap
    · iexact H15
    · ipureintro
      refine (View.read_writes_full _ _ _ _ _).trans ?_
      sl_unfold_words
      simp only [e6, e7, e8, e9, e10, e11, ew0, ew1, hov]
      rfl
  isplitl [H16]
  · iexists _; isplitr
    swap
    · iexact H16
    · ipureintro
      refine (View.read_writes_full _ _ _ _ _).trans ?_
      sl_unfold_words
      simp only [e6, e7, e8, e9, e10, e11, ew0, ew1, hov]
      rfl
  isplitl [H17]
  · iexists _; isplitr
    swap
    · iexact H17
    · ipureintro
      refine (View.read_writes_full _ _ _ _ _).trans ?_
      sl_unfold_words
      simp only [e6, e7, e8, e9, e10, e11, ew0, ew1, hov]
      rfl
  isplitl [H18]
  · iexists _; isplitr
    swap
    · iexact H18
    · ipureintro
      refine (View.read_writes_full _ _ _ _ _).trans ?_
      sl_unfold_words
      simp only [e6, e7, e8, e9, e10, e11, ew0, ew1, hov]
      rfl
  iexists _, _; isplitr
  swap
  · iexact H19
  · ipureintro; rfl

end Cert.KernelIdeal.Body

end
-- ==== Proof.Kern.Run.lean ====
/- The kernel's run: its launch, with the result arrays at the body's named arrays. -/
module

public import proofs.«01_k».proof.Proof.Kern.Body
public import proofs.«01_k».proof.Proof.Gen.KernelIdeal.Frame
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays the body reads, as the host lines before the launch leave them. -/
def arrs (c : Dev nD) (t : Fin cfg0.N) : Arrs F where
  x1 := iblk m c 0 t
  y1 := iblk m c 1 t
  x2 := iblk m c 2 t
  y2 := iblk m c 3 t
  ar := iblk m c 4 t
  imh := iblk m c 5 t (ix1 0)
  imw := iblk m c 5 t (ix1 1)
  ax1 := iblk m c 6 t
  ay1 := iblk m c 7 t
  ax2 := iblk m c 8 t
  ay2 := iblk m c 9 t
  ax2p := iblk m c 10 t
  ay2p := iblk m c 11 t

/-- The launch's data: each staged input stays at its block, each output is left at its named array. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => labOut (arrs m c t)
    | ⟨13, _⟩ => dxOut (arrs m c t)
    | ⟨14, _⟩ => dyOut (arrs m c t)
    | ⟨15, _⟩ => dwOut (arrs m c t)
    | ⟨16, _⟩ => dhOut (arrs m c t)
    | ⟨17, _⟩ => biwOut (arrs m c t)
    | ⟨18, _⟩ => bowOut (arrs m c t)
    | ⟨_ + 19, h⟩ => absurd h (Nat.not_lt.2 (Nat.le_add_left _ _))
  Φ _ := Pipeline.ΦA spec0 c
  q _ := fullShare
  owed _ := 0

/-- The launch's arrays are those the host lines leave. -/
theorem arr_eq (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (arr_eq m c 0) (left_0 m c) t d
theorem left_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (arr_eq m c 1) (left_1 m c) t d
theorem left_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (arr_eq m c 2) (left_2 m c) t d
theorem left_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (arr_eq m c 3) (left_3 m c) t d
theorem left_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (arr_eq m c 4) (left_4 m c) t d
theorem left_5 (c : Dev nD) (t : Fin cfg0.N) : (dats m 0 c).after 5 t = iblk m c 5 t := by dsimp only [dats]
theorem found_5 (c : Dev nD) (t : Fin cfg0.N) (d) : (dats m 0 c).before 5 t d = iblk m c 5 t :=
  before0_5_of m (dats m 0 c) (arr_eq m c 5) (left_5 m c) t d
theorem left_6 (c : Dev nD) (t : Fin cfg0.N) : (dats m 0 c).after 6 t = iblk m c 6 t := by dsimp only [dats]
theorem found_6 (c : Dev nD) (t : Fin cfg0.N) (d) : (dats m 0 c).before 6 t d = iblk m c 6 t :=
  before0_6_of m (dats m 0 c) (arr_eq m c 6) (left_6 m c) t d
theorem left_7 (c : Dev nD) (t : Fin cfg0.N) : (dats m 0 c).after 7 t = iblk m c 7 t := by dsimp only [dats]
theorem found_7 (c : Dev nD) (t : Fin cfg0.N) (d) : (dats m 0 c).before 7 t d = iblk m c 7 t :=
  before0_7_of m (dats m 0 c) (arr_eq m c 7) (left_7 m c) t d
theorem left_8 (c : Dev nD) (t : Fin cfg0.N) : (dats m 0 c).after 8 t = iblk m c 8 t := by dsimp only [dats]
theorem found_8 (c : Dev nD) (t : Fin cfg0.N) (d) : (dats m 0 c).before 8 t d = iblk m c 8 t :=
  before0_8_of m (dats m 0 c) (arr_eq m c 8) (left_8 m c) t d
theorem left_9 (c : Dev nD) (t : Fin cfg0.N) : (dats m 0 c).after 9 t = iblk m c 9 t := by dsimp only [dats]
theorem found_9 (c : Dev nD) (t : Fin cfg0.N) (d) : (dats m 0 c).before 9 t d = iblk m c 9 t :=
  before0_9_of m (dats m 0 c) (arr_eq m c 9) (left_9 m c) t d
theorem left_10 (c : Dev nD) (t : Fin cfg0.N) : (dats m 0 c).after 10 t = iblk m c 10 t := by dsimp only [dats]
theorem found_10 (c : Dev nD) (t : Fin cfg0.N) (d) : (dats m 0 c).before 10 t d = iblk m c 10 t :=
  before0_10_of m (dats m 0 c) (arr_eq m c 10) (left_10 m c) t d
theorem left_11 (c : Dev nD) (t : Fin cfg0.N) : (dats m 0 c).after 11 t = iblk m c 11 t := by dsimp only [dats]
theorem found_11 (c : Dev nD) (t : Fin cfg0.N) (d) : (dats m 0 c).before 11 t d = iblk m c 11 t :=
  before0_11_of m (dats m 0 c) (arr_eq m c 11) (left_11 m c) t d
theorem left_12 (c : Dev nD) (t : Fin cfg0.N) : (dats m 0 c).after 12 t = labOut (arrs m c t) := by dsimp only [dats]
theorem left_13 (c : Dev nD) (t : Fin cfg0.N) : (dats m 0 c).after 13 t = dxOut (arrs m c t) := by dsimp only [dats]
theorem left_14 (c : Dev nD) (t : Fin cfg0.N) : (dats m 0 c).after 14 t = dyOut (arrs m c t) := by dsimp only [dats]
theorem left_15 (c : Dev nD) (t : Fin cfg0.N) : (dats m 0 c).after 15 t = dwOut (arrs m c t) := by dsimp only [dats]
theorem left_16 (c : Dev nD) (t : Fin cfg0.N) : (dats m 0 c).after 16 t = dhOut (arrs m c t) := by dsimp only [dats]
theorem left_17 (c : Dev nD) (t : Fin cfg0.N) : (dats m 0 c).after 17 t = biwOut (arrs m c t) := by dsimp only [dats]
theorem left_18 (c : Dev nD) (t : Fin cfg0.N) : (dats m 0 c).after 18 t = bowOut (arrs m c t) := by dsimp only [dats]

/-- The region's invariant is the scratch buffer at some contents and the generator register. -/
theorem inv_eq (c : Dev nD) :
    (Pipeline.ΦA spec0 c : sProp 𝕄)
      = iprop((∃ d, owns (c : Thread nD τ) (Memref.whole cc0_scratch0) fullShare d) ∗ ∃ r, prngReg c r) := by
  unfold Pipeline.ΦA
  rw [scopedRest0_eq, (Memref.isWhole_whole cc0_scratch0).exists_owns_eq (c := (c : Thread nD τ)) fullShare]

/-- What the body is called with at a point: the invariant and every window's staging buffer, -/
def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it gives back. -/
def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 2000000 in
/-- The body at a point, between the two. -/
theorem body_call (c : Dev nD) (t : Fin cfg0.N) :
    callPre m c t ⊢ wp frame (wpE (defs₀ (F := F)) Variants.none c none) Set.univ (bodyAt0 t) (fun _ => callPost m c t) := by
  unfold callPre callPost bodyAt0
  simp only [found_0, found_1, found_2, found_3, found_4, found_5, found_6, found_7, found_8, found_9, found_10, found_11]
  rw [show (dats m 0 c).Φ t.succ = (dats m 0 c).Φ t.castSucc from rfl,
    show (dats m 0 c).owesAt () t.succ = (dats m 0 c).owesAt () t.castSucc from rfl,
    left_0, left_1, left_2, left_3, left_4, left_5, left_6, left_7, left_8, left_9, left_10, left_11, left_12, left_13, left_14, left_15, left_16, left_17, left_18]
  rw [show (dats m 0 c).Φ t.castSucc = Pipeline.ΦA spec0 c from rfl, inv_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_run c _ _ _ _ _ _ _ _ _ _ _ _ _ _ _ _ _ _ _ _ _ _ _ _ _ _ _ _ _ _ _ _ _ _ _ _ _ _ _ _ (arrs m c t) (iblk m c 5 t) rfl rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS]; · iexact HS
  iintro ⟨H0, H1, H2, H3, H4, H5, H6, H7, H8, H9, H10, H11, H12, H13, H14, H15, H16, H17, H18, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The launch's body at a point's slots. -/
theorem row_eq (t : Fin cfg0.N) :
    defs₀ (F := F) .tc cfg0.body (cfg0.bodyArgs t (cfg0.slots t)) = bodyAt0 t := by
  unfold defs₀; rw [Defs.onTc_tc]

/-- The launch's body obligation. -/
theorem obligation (c : Dev nD) : BodyObligation (dats (F := F) m 0 c) (defs₀ (F := F)) Variants.none () Set.univ := fun t => by
  rw [bigSep_W0, bigSep_W0, row_eq]
  exact triple_restated (body_call m c t) rfl .rfl fun _ => .rfl

set_option backward.isDefEq.respectTransparency.types false in
set_option maxHeartbeats 800000 in
/-- The run: every array of the launch ends at what its data say, every other buffer at what the host lines after the launch
    leave there, and every semaphore at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arr_eq m) (hΦ := fun _ _ => rfl)

/-- The run leaves the arguments as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arr_eq m) ((θ_run defs _ _).mono (fun _ h => h.1) (run_all m ρ)))
    ((θ_run defs _ _).mono (fun _ h => h.2) (run_all m ρ))

end Cert.KernelIdeal.Body

end
-- ==== Proof.Kern.Value.lean ====
/- The kernel's results: the arrays the body reads in terms of the arguments, and each result in terms of the body's arrays. -/
module

public import proofs.«01_k».proof.Proof.Kern.Run
public import Idealize.ShloMosaic.Lib.Pipeline.ValueKit
public import Idealize.ShloMosaic.Lib.StableHlo.RunRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

variable (m : (ℓ : Loc nD τ sig) → Buf (Elt F) ℓ) (ρ : Dev nD → PrngReg)

/-! ## The windows' blocks are their whole arrays -/

theorem blk_0 (c : Dev nD) (t : Fin cfg0.N) : iblk m c 0 t = V m c main_v1 := by
  blk_ext! [iblk, (by decide +kernel : ∀ t : Fin grid0.N, win0_0.index t = ![0]) t]
theorem blk_1 (c : Dev nD) (t : Fin cfg0.N) : iblk m c 1 t = V m c main_v3 := by
  blk_ext! [iblk, (by decide +kernel : ∀ t : Fin grid0.N, win0_1.index t = ![0]) t]
theorem blk_2 (c : Dev nD) (t : Fin cfg0.N) : iblk m c 2 t = V m c main_v5 := by
  blk_ext! [iblk, (by decide +kernel : ∀ t : Fin grid0.N, win0_2.index t = ![0]) t]
theorem blk_3 (c : Dev nD) (t : Fin cfg0.N) : iblk m c 3 t = V m c main_v7 := by
  blk_ext! [iblk, (by decide +kernel : ∀ t : Fin grid0.N, win0_3.index t = ![0]) t]
theorem blk_4 (c : Dev nD) (t : Fin cfg0.N) : iblk m c 4 t = V m c main_v14 := by
  blk_ext! [iblk, (by decide +kernel : ∀ t : Fin grid0.N, win0_4.index t = ![0]) t]
theorem blk_5 (c : Dev nD) (t : Fin cfg0.N) : iblk m c 5 t = V m c main_v16 := by
  blk_ext! [iblk, (by decide +kernel : ∀ t : Fin grid0.N, win0_5.index t = ![0]) t]
theorem blk_6 (c : Dev nD) (t : Fin cfg0.N) : iblk m c 6 t = V m c main_cst := by
  blk_ext! [iblk, (by decide +kernel : ∀ t : Fin grid0.N, win0_6.index t = ![0, 0]) t]
theorem blk_7 (c : Dev nD) (t : Fin cfg0.N) : iblk m c 7 t = V m c main_cst_0 := by
  blk_ext! [iblk, (by decide +kernel : ∀ t : Fin grid0.N, win0_7.index t = ![0, 0]) t]
theorem blk_8 (c : Dev nD) (t : Fin cfg0.N) : iblk m c 8 t = V m c main_cst_1 := by
  blk_ext! [iblk, (by decide +kernel : ∀ t : Fin grid0.N, win0_8.index t = ![0, 0]) t]
theorem blk_9 (c : Dev nD) (t : Fin cfg0.N) : iblk m c 9 t = V m c main_cst_2 := by
  blk_ext! [iblk, (by decide +kernel : ∀ t : Fin grid0.N, win0_9.index t = ![0, 0]) t]
theorem blk_10 (c : Dev nD) (t : Fin cfg0.N) : iblk m c 10 t = V m c main_cst_3 := by
  blk_ext! [iblk, (by decide +kernel : ∀ t : Fin grid0.N, win0_10.index t = ![0, 0]) t]
theorem blk_11 (c : Dev nD) (t : Fin cfg0.N) : iblk m c 11 t = V m c main_cst_4 := by
  blk_ext! [iblk, (by decide +kernel : ∀ t : Fin grid0.N, win0_11.index t = ![0, 0]) t]

/-! ## The launch's results are the body's arrays -/

theorem res_0 (c : Dev nD) : (dats m 0 c).arrAt 12 cfg0.N = labOut (arrs m c t0_0) := by
  refine (dats m 0 c).arrAt_eq_of_after_last 12 t0_0 (by decide +kernel) _ fun j => ?_
  blk_simp
  rw [left_12]
theorem res_1 (c : Dev nD) : (dats m 0 c).arrAt 13 cfg0.N = dxOut (arrs m c t0_0) := by
  refine (dats m 0 c).arrAt_eq_of_after_last 13 t0_0 (by decide +kernel) _ fun j => ?_
  blk_simp
  rw [left_13]
theorem res_2 (c : Dev nD) : (dats m 0 c).arrAt 14 cfg0.N = dyOut (arrs m c t0_0) := by
  refine (dats m 0 c).arrAt_eq_of_after_last 14 t0_0 (by decide +kernel) _ fun j => ?_
  blk_simp
  rw [left_14]
theorem res_3 (c : Dev nD) : (dats m 0 c).arrAt 15 cfg0.N = dwOut (arrs m c t0_0) := by
  refine (dats m 0 c).arrAt_eq_of_after_last 15 t0_0 (by decide +kernel) _ fun j => ?_
  blk_simp
  rw [left_15]
theorem res_4 (c : Dev nD) : (dats m 0 c).arrAt 16 cfg0.N = dhOut (arrs m c t0_0) := by
  refine (dats m 0 c).arrAt_eq_of_after_last 16 t0_0 (by decide +kernel) _ fun j => ?_
  blk_simp
  rw [left_16]
theorem res_5 (c : Dev nD) : (dats m 0 c).arrAt 17 cfg0.N = biwOut (arrs m c t0_0) := by
  refine (dats m 0 c).arrAt_eq_of_after_last 17 t0_0 (by decide +kernel) _ fun j => ?_
  blk_simp
  rw [left_17]
theorem res_6 (c : Dev nD) : (dats m 0 c).arrAt 18 cfg0.N = bowOut (arrs m c t0_0) := by
  refine (dats m 0 c).arrAt_eq_of_after_last 18 t0_0 (by decide +kernel) _ fun j => ?_
  blk_simp
  rw [left_18]

/-! ## The host lines after the launch -/

/-- Four planes stacked: the plane of each anchor's four targets. -/
def stack4 (p q r s : FVec F S288x128 .f32) : FVec F S1x36x64x64 .f32 :=
  shapeCast S1x36x64x64
    (concatenate S9x4x4096 1
      [⟨S9x1x4096, broadcastInDim S9x1x4096 ![0, 2] bcast_S9x4096_S9x1x4096_0_2 (shapeCast S9x4096 p shapeCasts_S288x128_S9x4096)⟩,
        ⟨S9x1x4096, broadcastInDim S9x1x4096 ![0, 2] bcast_S9x4096_S9x1x4096_0_2 (shapeCast S9x4096 q shapeCasts_S288x128_S9x4096)⟩,
        ⟨S9x1x4096, broadcastInDim S9x1x4096 ![0, 2] bcast_S9x4096_S9x1x4096_0_2 (shapeCast S9x4096 r shapeCasts_S288x128_S9x4096)⟩,
        ⟨S9x1x4096, broadcastInDim S9x1x4096 ![0, 2] bcast_S9x4096_S9x1x4096_0_2 (shapeCast S9x4096 s shapeCasts_S288x128_S9x4096)⟩]
      concatenates_S9x1x4096_S9x1x4096_S9x1x4096_S9x1x4096_S9x4x4096_d1)
    shapeCasts_S9x4x4096_S1x36x64x64

/-- One plane four times: the weight of each anchor's four targets. -/
def same4 (p : FVec F S288x128 .f32) : FVec F S1x36x64x64 .f32 :=
  shapeCast S1x36x64x64
    (broadcastInDim S9x4x4096 ![0, 1, 2] bcast_S9x1x4096_S9x4x4096_0_1_2 (shapeCast S9x1x4096 p shapeCasts_S288x128_S9x1x4096))
    shapeCasts_S9x4x4096_S1x36x64x64

theorem line_23 (W : Valuation τ sig (Elt F)) : StableHlo.upto [hostOps1].flatten W 9 (Proc.devRef .tc main_v23)
    = broadcastInDim S9x1x4096 ![0, 2] bcast_S9x4096_S9x1x4096_0_2 (shapeCast S9x4096 (W (Proc.devRef .tc main_v17_1)) shapeCasts_S288x128_S9x4096) := by
  after_reads_simp
  rfl
theorem line_24 (W : Valuation τ sig (Elt F)) : StableHlo.upto [hostOps1].flatten W 9 (Proc.devRef .tc main_v24)
    = broadcastInDim S9x1x4096 ![0, 2] bcast_S9x4096_S9x1x4096_0_2 (shapeCast S9x4096 (W (Proc.devRef .tc main_v17_2)) shapeCasts_S288x128_S9x4096) := by
  after_reads_simp
  rfl
theorem line_25 (W : Valuation τ sig (Elt F)) : StableHlo.upto [hostOps1].flatten W 9 (Proc.devRef .tc main_v25)
    = broadcastInDim S9x1x4096 ![0, 2] bcast_S9x4096_S9x1x4096_0_2 (shapeCast S9x4096 (W (Proc.devRef .tc main_v17_3)) shapeCasts_S288x128_S9x4096) := by
  after_reads_simp
  rfl
theorem line_26 (W : Valuation τ sig (Elt F)) : StableHlo.upto [hostOps1].flatten W 9 (Proc.devRef .tc main_v26)
    = broadcastInDim S9x1x4096 ![0, 2] bcast_S9x4096_S9x1x4096_0_2 (shapeCast S9x4096 (W (Proc.devRef .tc main_v17_4)) shapeCasts_S288x128_S9x4096) := by
  after_reads_simp
  rfl
theorem line_28 (W : Valuation τ sig (Elt F)) : StableHlo.after [hostOps1].flatten W (Proc.devRef .tc main_v28)
    = stack4 (W (Proc.devRef .tc main_v17_1)) (W (Proc.devRef .tc main_v17_2)) (W (Proc.devRef .tc main_v17_3)) (W (Proc.devRef .tc main_v17_4)) := by
  after_reads_simp
  simp only [Matrix.cons_val_zero, Matrix.cons_val_one, Matrix.cons_val]
  rw [line_23, line_24, line_25, line_26]
  rfl
theorem line_18 (W : Valuation τ sig (Elt F)) : StableHlo.after [hostOps1].flatten W (Proc.devRef .tc main_v18)
    = shapeCast S1x1x576x64 (W (Proc.devRef .tc main_v17_0)) shapeCasts_S288x128_S1x1x576x64 := by
  after_reads_simp
  rfl
theorem line_31 (W : Valuation τ sig (Elt F)) : StableHlo.after [hostOps1].flatten W (Proc.devRef .tc main_v31)
    = same4 (W (Proc.devRef .tc main_v17_5)) := by
  after_reads_simp
  rfl
theorem line_34 (W : Valuation τ sig (Elt F)) : StableHlo.after [hostOps1].flatten W (Proc.devRef .tc main_v34)
    = same4 (W (Proc.devRef .tc main_v17_6)) := by
  after_reads_simp
  rfl

/-- The contents after the launch, as the host lines after it find them. -/
def out (c : Dev nD) : Valuation τ sig (Elt F) :=
  Pipeline.withArrays (cfgs 0).spec c (V0 m c) fun w => (dats m 0 c).arrAt w (cfgs 0).N

theorem out_0 (c : Dev nD) : out m c (Proc.devRef .tc main_v17_0) = labOut (arrs m c t0_0) :=
  (Pipeline.withArrays_arr spec0 launch0.win.arr_inj c _ _ 12).trans (res_0 m c)
theorem out_1 (c : Dev nD) : out m c (Proc.devRef .tc main_v17_1) = dxOut (arrs m c t0_0) :=
  (Pipeline.withArrays_arr spec0 launch0.win.arr_inj c _ _ 13).trans (res_1 m c)
theorem out_2 (c : Dev nD) : out m c (Proc.devRef .tc main_v17_2) = dyOut (arrs m c t0_0) :=
  (Pipeline.withArrays_arr spec0 launch0.win.arr_inj c _ _ 14).trans (res_2 m c)
theorem out_3 (c : Dev nD) : out m c (Proc.devRef .tc main_v17_3) = dwOut (arrs m c t0_0) :=
  (Pipeline.withArrays_arr spec0 launch0.win.arr_inj c _ _ 15).trans (res_3 m c)
theorem out_4 (c : Dev nD) : out m c (Proc.devRef .tc main_v17_4) = dhOut (arrs m c t0_0) :=
  (Pipeline.withArrays_arr spec0 launch0.win.arr_inj c _ _ 16).trans (res_4 m c)
theorem out_5 (c : Dev nD) : out m c (Proc.devRef .tc main_v17_5) = biwOut (arrs m c t0_0) :=
  (Pipeline.withArrays_arr spec0 launch0.win.arr_inj c _ _ 17).trans (res_5 m c)
theorem out_6 (c : Dev nD) : out m c (Proc.devRef .tc main_v17_6) = bowOut (arrs m c t0_0) :=
  (Pipeline.withArrays_arr spec0 launch0.win.arr_inj c _ _ 18).trans (res_6 m c)

/-- The run: each result of the program in terms of the body's arrays, the arguments as they were. -/
theorem run_values : θ_run defs (onTc (τ := τ) (main (F := F))) ⟨m, fun _ => 0, ρ⟩ (fun r => ∀ c : Dev nD,
      r.2.mem ((c.tc : Thread nD τ).loc main_v18) = shapeCast S1x1x576x64 (labOut (arrs m c t0_0)) shapeCasts_S288x128_S1x1x576x64
      ∧ r.2.mem ((c.tc : Thread nD τ).loc main_v28)
        = stack4 (dxOut (arrs m c t0_0)) (dyOut (arrs m c t0_0)) (dwOut (arrs m c t0_0)) (dhOut (arrs m c t0_0))
      ∧ r.2.mem ((c.tc : Thread nD τ).loc main_v31) = same4 (biwOut (arrs m c t0_0))
      ∧ r.2.mem ((c.tc : Thread nD τ).loc main_v34) = same4 (bowOut (arrs m c t0_0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_all m ρ) (run_frame m ρ))
  obtain ⟨⟨hp, -⟩, ha, -⟩ := h
  have hr := (hp c).2
  refine ⟨(hr main_v18 (Pipeline.mem_restRefs_of main_v18 (by decide) (by decide))).trans ?_,
    (hr main_v28 (Pipeline.mem_restRefs_of main_v28 (by decide) (by decide))).trans ?_,
    (hr main_v31 (Pipeline.mem_restRefs_of main_v31 (by decide) (by decide))).trans ?_,
    (hr main_v34 (Pipeline.mem_restRefs_of main_v34 (by decide) (by decide))).trans ?_, ha c⟩
  · refine (line_18 (out m c)).trans ?_
    rw [out_0]
  · refine (line_28 (out m c)).trans ?_
    rw [out_1, out_2, out_3, out_4]
  · refine (line_31 (out m c)).trans ?_
    rw [out_5]
  · refine (line_34 (out m c)).trans ?_
    rw [out_6]

/-! ## The arrays the body reads -/

theorem arrs_x1 (c : Dev nD) (t : Fin cfg0.N) : (arrs m c t).x1
    = shapeCast S100 (extractStridedSlice S100x1 ![0, 0] (m ((c.tc : Thread nD τ).loc main_arg1)) slices_S100x5_S100x1_0_0) shapeCasts_S100x1_S100 := by
  show iblk m c 0 t = _
  rw [blk_0]
  unfold V V0
  after_reads_simp
  rfl
theorem arrs_y1 (c : Dev nD) (t : Fin cfg0.N) : (arrs m c t).y1
    = shapeCast S100 (extractStridedSlice S100x1 ![0, 1] (m ((c.tc : Thread nD τ).loc main_arg1)) slices_S100x5_S100x1_0_1) shapeCasts_S100x1_S100 := by
  show iblk m c 1 t = _
  rw [blk_1]
  unfold V V0
  after_reads_simp
  rfl
theorem arrs_x2 (c : Dev nD) (t : Fin cfg0.N) : (arrs m c t).x2
    = shapeCast S100 (extractStridedSlice S100x1 ![0, 2] (m ((c.tc : Thread nD τ).loc main_arg1)) slices_S100x5_S100x1_0_2) shapeCasts_S100x1_S100 := by
  show iblk m c 2 t = _
  rw [blk_2]
  unfold V V0
  after_reads_simp
  rfl
theorem arrs_y2 (c : Dev nD) (t : Fin cfg0.N) : (arrs m c t).y2
    = shapeCast S100 (extractStridedSlice S100x1 ![0, 3] (m ((c.tc : Thread nD τ).loc main_arg1)) slices_S100x5_S100x1_0_3) shapeCasts_S100x1_S100 := by
  show iblk m c 3 t = _
  rw [blk_3]
  unfold V V0
  after_reads_simp
  rfl
theorem arrs_ar (c : Dev nD) (t : Fin cfg0.N) : (arrs m c t).ar
    = mulf (addf (subf (arrs m c t).x2 (arrs m c t).x1) (broadcastInDim S100 ![] bcast_S_S100 (constant S_ .f32 0x3F800000#32)))
        (addf (subf (arrs m c t).y2 (arrs m c t).y1) (broadcastInDim S100 ![] bcast_S_S100 (constant S_ .f32 0x3F800000#32))) := by
  rw [arrs_x1, arrs_y1, arrs_x2, arrs_y2]
  show iblk m c 4 t = _
  rw [blk_4]
  unfold V V0
  after_reads_simp
  rfl
/-- The image's height and width. -/
theorem arrs_im (c : Dev nD) (t : Fin cfg0.N) : iblk m c 5 t
    = shapeCast S2 (extractStridedSlice S1x2 ![0, 0] (m ((c.tc : Thread nD τ).loc main_arg2)) slices_S1x3_S1x2_0_0) shapeCasts_S1x2_S2 := by
  rw [blk_5]
  unfold V V0
  after_reads_simp
  rfl
set_option maxHeartbeats 4000000 in
theorem arrs_ax1 (c : Dev nD) (t : Fin cfg0.N) : (arrs m c t).ax1 = fun i => FloatOps.ofBits .f32 (lit0 (S288x128.rowMajor i)) := by
  show iblk m c 6 t = _
  rw [blk_6]
  unfold V V0
  after_reads_simp
  rfl
set_option maxHeartbeats 4000000 in
theorem arrs_ay1 (c : Dev nD) (t : Fin cfg0.N) : (arrs m c t).ay1 = fun i => FloatOps.ofBits .f32 (lit1 (S288x128.rowMajor i)) := by
  show iblk m c 7 t = _
  rw [blk_7]
  unfold V V0
  after_reads_simp
  rfl
set_option maxHeartbeats 4000000 in
theorem arrs_ax2 (c : Dev nD) (t : Fin cfg0.N) : (arrs m c t).ax2 = fun i => FloatOps.ofBits .f32 (lit2 (S288x128.rowMajor i)) := by
  show iblk m c 8 t = _
  rw [blk_8]
  unfold V V0
  after_reads_simp
  rfl
set_option maxHeartbeats 4000000 in
theorem arrs_ay2 (c : Dev nD) (t : Fin cfg0.N) : (arrs m c t).ay2 = fun i => FloatOps.ofBits .f32 (lit3 (S288x128.rowMajor i)) := by
  show iblk m c 9 t = _
  rw [blk_9]
  unfold V V0
  after_reads_simp
  rfl
set_option maxHeartbeats 4000000 in
theorem arrs_ax2p (c : Dev nD) (t : Fin cfg0.N) : (arrs m c t).ax2p = fun i => FloatOps.ofBits .f32 (lit4 (S288x128.rowMajor i)) := by
  show iblk m c 10 t = _
  rw [blk_10]
  unfold V V0
  after_reads_simp
  rfl
set_option maxHeartbeats 4000000 in
theorem arrs_ay2p (c : Dev nD) (t : Fin cfg0.N) : (arrs m c t).ay2p = fun i => FloatOps.ofBits .f32 (lit5 (S288x128.rowMajor i)) := by
  show iblk m c 11 t = _
  rw [blk_11]
  unfold V V0
  after_reads_simp
  rfl

end Cert.KernelIdeal.Body

end
-- ==== Proof.Math.Layout.lean ====
/- Planes and rows of anchors, laid out as results, agree where plane and rows do. -/
module

public import proofs.«01_k».proof.Proof.Ref.Results
public import proofs.«01_k».proof.Proof.Kern.Value

@[expose] public section

set_option maxRecDepth 8192

noncomputable section

namespace Cert.Spec

open Idealize.ShloMosaic Idealize.ShloMosaic.TcCoe Idealize.ShloMosaic.StableHlo Idealize.ShloMosaic.Tactic

/-- The anchor in row `r` and lane `l` of a plane. -/
def num (r l : ℕ) : ℕ := (r * 128 + l) % 4096 * 9 + (r * 128 + l) / 4096

theorem num_lt (r : Fin 288) (l : Fin 128) : num r l < 36864 := by
  unfold num; omega

/-- The anchor in row `r` and lane `l` of a plane. -/
def numF (r : Fin 288) (l : Fin 128) : Fin 36864 := ⟨num r l, num_lt r l⟩

section Labels
open Cert.ReferenceIdeal Cert.ReferenceIdeal.Gen

/-- A vector over the anchors, laid out as the labels. -/
def lay1 (x : FVec Ideal S36864 .f32) : FVec Ideal S1x1x576x64 .f32 :=
  shapeCast _ (transpose S1x9x64x64 [0, 3, 1, 2] (shapeCast _ x shapeCasts_S36864_S1x64x64x9) transposes_S1x64x64x9_S1x9x64x64_0_3_1_2) shapeCasts_S1x9x64x64_S1x1x576x64

/-- Rows of four over the anchors, laid out as the targets. -/
def lay4 (x : FVec Ideal S36864x4 .f32) : FVec Ideal S1x36x64x64 .f32 :=
  transpose S1x36x64x64 [0, 3, 1, 2] (shapeCast _ x shapeCasts_S36864x4_S1x64x64x36) transposes_S1x64x64x36_S1x36x64x64_0_3_1_2

end Labels

section Planes
open Cert.KernelIdeal Cert.KernelIdeal.Gen Cert.KernelIdeal.Body

/-- A plane laid out as the labels. -/
theorem plane_lay1 (p : FVec Ideal S288x128 .f32) (x : FVec Ideal Cert.ReferenceIdeal.S36864 .f32) (h : ∀ r l, p (ix2 r l) = x (ix1 (numF r l))) :
    shapeCast S1x1x576x64 p shapeCasts_S288x128_S1x1x576x64 = lay1 x := by
  funext i
  idx_vars i
  unfold lay1
  pointwise
  rw [h]
  refine congrArg x (congrArg ix1 (Fin.ext ?_))
  simp only [numF, num]
  omega

/-- One plane four times, laid out as the targets. -/
theorem same4_lay4 (p : FVec Ideal S288x128 .f32) (x : FVec Ideal Cert.ReferenceIdeal.S36864x4 .f32) (h : ∀ r l t, p (ix2 r l) = x (ix2 (numF r l) t)) :
    same4 p = lay4 x := by
  funext i
  idx_vars i
  unfold same4 lay4
  pointwise
  rw [h _ _ ⟨i1.val % 4, by omega⟩]
  refine congrArg x (congrArg (fun k => ix2 k _) (Fin.ext ?_))
  simp only [numF, num]
  omega

/-- Four planes, laid out as the targets. -/
theorem stack4_lay4 (p q r s : FVec Ideal S288x128 .f32) (x : FVec Ideal Cert.ReferenceIdeal.S36864x4 .f32)
    (hp : ∀ a l, p (ix2 a l) = x (ix2 (numF a l) 0)) (hq : ∀ a l, q (ix2 a l) = x (ix2 (numF a l) 1))
    (hr : ∀ a l, r (ix2 a l) = x (ix2 (numF a l) 2)) (hs : ∀ a l, s (ix2 a l) = x (ix2 (numF a l) 3)) :
    stack4 p q r s = lay4 x := by
  funext i
  idx_vars i
  unfold stack4 lay4
  pointwise
  have hm : i1.val % 4 < 4 := Nat.mod_lt _ (by decide)
  have e : ∀ (h1) (h2) (h3) (h4) (t : Fin 4), i1.val % 4 = t.val →
      x (ix2 (numF ⟨i1.val / 4 * 32 + (i2.val * 64 + i3.val) / 128, h1⟩ ⟨(i2.val * 64 + i3.val) % 128, h2⟩) t)
      = x (ix2 (⟨i2.val * 576 + i3.val * 9 + i1.val / 4, h3⟩ : Fin 36864) ⟨i1.val % 4, h4⟩) := by
    intro h1 h2 h3 h4 t ht
    have e1 : numF ⟨i1.val / 4 * 32 + (i2.val * 64 + i3.val) / 128, h1⟩ ⟨(i2.val * 64 + i3.val) % 128, h2⟩
        = (⟨i2.val * 576 + i3.val * 9 + i1.val / 4, h3⟩ : Fin 36864) := by
      apply Fin.ext
      simp only [numF, num]
      omega
    have e2 : t = ⟨i1.val % 4, h4⟩ := Fin.ext ht.symm
    rw [e1, e2]
  have a1 : i1.val / 4 * 32 + (i2.val * 64 + i3.val) / 128 < 288 := by omega
  have a2 : (i2.val * 64 + i3.val) % 128 < 128 := by omega
  show (if h : i1.val % 4 < 1 then p (ix2 ⟨_, a1⟩ ⟨_, a2⟩) else if h : i1.val % 4 - 1 < 1 then q (ix2 ⟨_, a1⟩ ⟨_, a2⟩)
    else if h : i1.val % 4 - 1 - 1 < 1 then r (ix2 ⟨_, a1⟩ ⟨_, a2⟩) else s (ix2 ⟨_, a1⟩ ⟨_, a2⟩)) = _
  split_ifs with c1 c2 c3
  · exact (hp _ _).trans (e _ _ _ _ 0 (by show _ = 0; omega))
  · exact (hq _ _).trans (e _ _ _ _ 1 (by show _ = 1; omega))
  · exact (hr _ _).trans (e _ _ _ _ 2 (by show _ = 2; omega))
  · exact (hs _ _).trans (e _ _ _ _ 3 (by show _ = 3; omega))

end Planes

end Cert.Spec

end
-- ==== Proof.Kern.Read.lean ====
/- The kernel's overlaps, running maxima and labels by overlap, read at an index. -/
module

public import proofs.«01_k».proof.Proof.Math.Layout
public import Idealize.ShloMosaic.Lib.Pointwise
public import Idealize.ShloMosaic.Lib.Routing.OpsOrder

@[expose] public section

set_option maxRecDepth 8192

noncomputable section

namespace Cert.KernelIdeal.Body

open Cert.KernelIdeal Cert.KernelIdeal.Gen
open Idealize.ShloMosaic Idealize.ShloMosaic.TcCoe Idealize.ShloMosaic.Tactic
open Cert.Spec Cert.Tab

/-- The body's arrays hold the anchors, the boxes `G`, and the image's size. -/
structure Reads (X : Arrs Ideal) (G : Fin 100 → Fin 4 → EReal) (H W : EReal) : Prop where
  ax1 : ∀ r l, X.ax1 (ix2 r l) = anc (num r.val l.val) 0
  ay1 : ∀ r l, X.ay1 (ix2 r l) = anc (num r.val l.val) 1
  ax2 : ∀ r l, X.ax2 (ix2 r l) = anc (num r.val l.val) 2
  ay2 : ∀ r l, X.ay2 (ix2 r l) = anc (num r.val l.val) 3
  ew : ∀ r l, (X.ax2p (ix2 r l) - X.ax1 (ix2 r l) : EReal) = anc (num r.val l.val) 2 - anc (num r.val l.val) 0 + 1
  eh : ∀ r l, (X.ay2p (ix2 r l) - X.ay1 (ix2 r l) : EReal) = anc (num r.val l.val) 3 - anc (num r.val l.val) 1 + 1
  x1 : ∀ g, X.x1 (ix1 g) = G g 0
  y1 : ∀ g, X.y1 (ix1 g) = G g 1
  x2 : ∀ g, X.x2 (ix1 g) = G g 2
  y2 : ∀ g, X.y2 (ix1 g) = G g 3
  ar : ∀ g, X.ar (ix1 g) = (G g 2 - G g 0 + 1) * (G g 3 - G g 1 + 1)
  imh : X.imh = H
  imw : X.imw = W

variable {X : Arrs Ideal} {G : Fin 100 → Fin 4 → EReal} {H W : EReal} (h : Reads X G H W)
include h

/-- Which anchors the kernel keeps. -/
theorem inside_read (r : Fin 288) (l : Fin 128) : insideV X (ix2 r l) = 1#1 ↔ Inside H W (num r.val l.val) := by
  unfold insideV k0_pay4
  pointwise
  simp only [h.ax1, h.ay1, h.ax2, h.ay2, h.imh, h.imw, andi_one, ofBool_one, and_assoc]
  exact Iff.rfl

/-- The overlaps. -/
theorem ovRow_read (g : Fin 100) (r : Fin 288) (l : Fin 128) : (ovRow X g (ix2 r l) : EReal) = ov G H W (num r.val l.val) g := by
  classical
  have hi := inside_read h r l
  unfold insideV at hi
  unfold ovRow k0_pay7
  pointwise
  rw [select_if _ _ hi, h.ew, h.eh, h.ar]
  simp only [h.ax1, h.ay1, h.ax2, h.ay2, h.x1, h.y1, h.x2, h.y2, bits_neg_one]
  rfl

omit h in
/-- The anchors' numbers run over all anchors. -/
theorem num_surj (k : ℕ) (hk : k < 36864) : ∃ (r : Fin 288) (l : Fin 128), num r.val l.val = k := by
  refine ⟨⟨(k % 9 * 4096 + k / 9) / 128, by omega⟩, ⟨(k % 9 * 4096 + k / 9) % 128, by omega⟩, ?_⟩
  simp only [num]
  omega

omit h in
/-- The largest entry of each slice of a stack of planes. -/
theorem pay15_read (v : FVec Ideal S100x288x128 .f32) (g : Fin 100) (r : Fin 288) (l : Fin 128) :
    k0_pay15 (F := Ideal) v (ix3 g r l) = 1#1 ↔ (v (ix3 g r l) : EReal) = Finset.univ.sup fun x : Fin 288 × Fin 128 => (v (ix3 g x.1 x.2) : EReal) := by
  unfold k0_pay15
  pointwise
  rw [ofBool_one, fold_max]

omit h in
/-- A supremum over the places of an onto map. -/
theorem sup_onto {ι κ : Type} [Fintype ι] [Fintype κ] (f : κ → EReal) (g : ι → κ) (hg : Function.Surjective g) :
    (Finset.univ.sup fun x => f (g x)) = Finset.univ.sup f := by
  apply le_antisymm
  · exact Finset.sup_le fun x _ => Finset.le_sup (Finset.mem_univ (g x))
  · refine Finset.sup_le fun k _ => ?_
    obtain ⟨x, rfl⟩ := hg k
    exact Finset.le_sup (f := fun x => f (g x)) (Finset.mem_univ x)

/-- Where an anchor has a box's largest overlap. -/
theorem colMax_read (g : Fin 100) (r : Fin 288) (l : Fin 128) :
    k0_pay15 (ovAll X) (ix3 g r l) = 1#1 ↔ ov G H W (num r.val l.val) g = colMax G H W g := by
  have e : ∀ r l, (ovAll X (ix3 g r l) : EReal) = ov G H W (num r.val l.val) g := fun r l => ovRow_read h g r l
  rw [pay15_read]
  simp only [e]
  have hs : Function.Surjective fun x : Fin 288 × Fin 128 => numF x.1 x.2 := fun k => by
    obtain ⟨r, l, e⟩ := num_surj k.val k.isLt
    exact ⟨(r, l), Fin.ext e⟩
  unfold colMax
  rw [← sup_onto (fun k : Fin 36864 => ov G H W k.val g) _ hs]
  exact Iff.rfl

omit h in
/-- The largest entry of a stack of planes at each place. -/
theorem stack_max {n0 n1 n2 : ℕ} (v : FVec Ideal ⟨3, ![n0, n1, n2]⟩ .f32) (hr : (⟨3, ![n0, n1, n2]⟩ : Shape).Reduces [0] ⟨2, ![n1, n2]⟩)
    (hp) (hq) (r : Fin n1) (l : Fin n2) :
    (multiReduction (F := Ideal) .maximumf [0] ⟨2, ![n1, n2]⟩ v 0xFF800000#32 hr hp hq (ix2 r l) : EReal) = Finset.univ.sup fun x : Fin n0 => (v (ix3 x r l) : EReal) := by
  pointwise
  exact fold_max _ _

/-- One where a stack of conditions holds at some place of the stack, zero elsewhere. -/
def someOf (e : IVec S100x288x128 1) : FVec Ideal S288x128 .f32 :=
  multiReduction (F := Ideal) .maximumf [0] S288x128 (select e (k0_pay16 (F := Ideal)) (broadcast S100x288x128 (Scalar.ofBits (F := Ideal) .f32 0x00000000#32)))
    0xFF800000#32 reduces_S100x288x128_S288x128 (.inl rfl) rfl

omit h in
theorem someOf_read (e : IVec S100x288x128 1) (r : Fin 288) (l : Fin 128) :
    (someOf e (ix2 r l) : EReal) = Finset.univ.sup fun x : Fin 100 => Scalar.select (e (ix3 x r l)) (1 : EReal) 0 := by
  refine (stack_max _ _ _ _ r l).trans ?_
  rw [← Ideal.ofBits_zero_f32, ← Ideal.ofBits_one_f32]
  rfl

/-- The labels by overlap, of the anchors kept, the largest overlaps and where a box's largest is. -/
def labels (i : IVec S288x128 1) (mx o : FVec Ideal S288x128 .f32) : FVec Ideal S288x128 .f32 :=
  select i (select (cmpf (F := Ideal) .oge mx (broadcast S288x128 (Scalar.ofBits (F := Ideal) .f32 0x3F333333#32))) (broadcast S288x128 (Scalar.ofBits (F := Ideal) .f32 0x3F800000#32))
    (select (andi (cmpf (F := Ideal) .ogt o (broadcast S288x128 (Scalar.ofBits (F := Ideal) .f32 0x00000000#32))) i) (broadcast S288x128 (Scalar.ofBits (F := Ideal) .f32 0x3F800000#32))
      (select (cmpf (F := Ideal) .olt mx (broadcast S288x128 (Scalar.ofBits (F := Ideal) .f32 0x3E99999A#32))) (broadcast S288x128 (Scalar.ofBits (F := Ideal) .f32 0x00000000#32))
        (broadcast S288x128 (Scalar.ofBits (F := Ideal) .f32 0xBF800000#32)))))
    (broadcast S288x128 (Scalar.ofBits (F := Ideal) .f32 0xBF800000#32))

omit h in
theorem pay17_eq (i : IVec S288x128 1) (mx : FVec Ideal S288x128 .f32) (e : IVec S100x288x128 1) :
    k0_pay17 i mx e (Scalar.ofBits .f32 0x00000000#32) k0_pay16 = labels i mx (someOf e) := by
  unfold k0_pay17 labels someOf
  rfl

omit h in
theorem labels_read (i : IVec S288x128 1) (mx o : FVec Ideal S288x128 .f32) (r : Fin 288) (l : Fin 128) :
    (labels i mx o (ix2 r l) : EReal) = Scalar.select (i (ix2 r l))
      (if hi ≤ mx (ix2 r l) then 1
      else Scalar.select (IntOp.andi (BitVec.ofBool (decide ((0 : EReal) < o (ix2 r l))))
          (i (ix2 r l))) 1 (if mx (ix2 r l) < lo then 0 else -1)) (-1) := by
  unfold labels
  pointwise
  simp only [bits_neg_one]
  rfl

/-- The labels by overlap. -/
theorem lab0_read (r : Fin 288) (l : Fin 128) (hm : ((carry X 100).1 (ix2 r l) : EReal) = rowMax G H W (num r.val l.val)) :
    (lab0 X (ix2 r l) : EReal) = Cert.Spec.lab0 G H W (num r.val l.val) := by
  classical
  unfold lab0
  rw [pay17_eq, labels_read]
  rw [select_if _ _ (inside_read h r l), hm]
  unfold Cert.Spec.lab0
  by_cases hin : Inside H W (num r.val l.val)
  · rw [if_pos hin, if_pos hin, select_if _ (∃ g, ov G H W (num r.val l.val) g = colMax G H W g)]
    rw [andi_one, ofBool_one, and_iff_left ((inside_read h r l).2 hin), someOf_read, Finset.lt_sup_iff]
    refine exists_congr fun g => ?_
    rw [and_iff_right (Finset.mem_univ g), ← colMax_read h g r l]
    unfold Scalar.select
    by_cases e : k0_pay15 (ovAll X) (ix3 g r l) = 1
    · rw [if_pos e]; exact ⟨fun _ => e, fun _ => one_pos⟩
    · rw [if_neg e]; exact ⟨fun hl => absurd hl (lt_irrefl _), fun he => absurd he e⟩
  · rw [if_neg hin, if_neg hin]

/-- Before trip `n`: either nothing has been seen but minus infinity, or the carried values are the largest overlap seen and the corners of
    the first box that has it. -/
theorem carry_read (r : Fin 288) (l : Fin 128) (n : ℕ) (hn : n ≤ 100) :
    (((carry X n).1 (ix2 r l) : EReal) = ⊥ ∧ ∀ g : Fin 100, g.val < n → ov G H W (num r.val l.val) g = ⊥)
    ∨ ∃ b : Fin 100, b.val < n ∧ ((carry X n).1 (ix2 r l) : EReal) = ov G H W (num r.val l.val) b
      ∧ (∀ g : Fin 100, g.val < n → ov G H W (num r.val l.val) g ≤ ov G H W (num r.val l.val) b)
      ∧ (∀ g < b, ov G H W (num r.val l.val) g < ov G H W (num r.val l.val) b)
      ∧ ((carry X n).2.1 (ix2 r l) : EReal) = G b 0 ∧ ((carry X n).2.2.1 (ix2 r l) : EReal) = G b 1
      ∧ ((carry X n).2.2.2.1 (ix2 r l) : EReal) = G b 2 ∧ ((carry X n).2.2.2.2 (ix2 r l) : EReal) = G b 3 := by
  induction n with
  | zero =>
    left
    refine ⟨?_, fun g hg => absurd hg (Nat.not_lt_zero _)⟩
    show Ideal.ofBits .f32 4286578688#32 = ⊥
    exact bits_neg_inf
  | succ n ih =>
    have hk : n < 100 := hn
    have hs := carry_succ X ⟨n, hk⟩
    simp only at hs
    have hc : cmpf (F := Ideal) (φ := .f32) .ogt (ovRow X ⟨n, hk⟩) (carry X n).1 (ix2 r l) = 1#1
        ↔ ((carry X n).1 (ix2 r l) : EReal) < ov G H W (num r.val l.val) ⟨n, hk⟩ := by
      rw [← ovRow_read h ⟨n, hk⟩ r l]
      exact ofBool_one (((carry X n).1 (ix2 r l) : EReal) < ovRow X ⟨n, hk⟩ (ix2 r l))
    have s1 : ∀ (x y : FVec Ideal S288x128 .f32), (select (cmpf (F := Ideal) (φ := .f32) .ogt (ovRow X ⟨n, hk⟩) (carry X n).1) x y (ix2 r l) : EReal)
        = if ((carry X n).1 (ix2 r l) : EReal) < ov G H W (num r.val l.val) ⟨n, hk⟩ then x (ix2 r l) else y (ix2 r l) :=
      fun x y => by classical exact select_if _ _ hc _ _
    rw [hs]
    unfold trip
    simp only [s1, ovRow_read h]
    have hlast : ∀ g : Fin 100, g.val < n + 1 → g.val < n ∨ g = ⟨n, hk⟩ := fun g hg => by
      rcases Nat.lt_succ_iff_lt_or_eq.mp hg with e | e
      · exact Or.inl e
      · exact Or.inr (Fin.ext e)
    by_cases hlt : ((carry X n).1 (ix2 r l) : EReal) < ov G H W (num r.val l.val) ⟨n, hk⟩
    · simp only [if_pos hlt]
      right
      refine ⟨⟨n, hk⟩, Nat.lt_succ_self n, rfl, ?_, ?_, h.x1 _, h.y1 _, h.x2 _, h.y2 _⟩
      · intro g hg
        rcases hlast g hg with e | rfl
        · rcases ih hk.le with ⟨h0, h1⟩ | ⟨b, _, h0, h1, _⟩
          · rw [h1 g e]; exact bot_le
          · exact (h1 g e).trans (h0 ▸ hlt.le)
        · exact le_rfl
      · intro g hg
        rcases ih hk.le with ⟨h0, h1⟩ | ⟨b, _, h0, h1, _⟩
        · rw [h1 g hg]; rw [h0] at hlt; exact hlt
        · exact (h1 g hg).trans_lt (h0 ▸ hlt)
    · simp only [if_neg hlt]
      rcases ih hk.le with ⟨h0, h1⟩ | ⟨b, hb, h0, h1, h2, h3⟩
      · left
        refine ⟨h0, fun g hg => ?_⟩
        rcases hlast g hg with e | rfl
        · exact h1 g e
        · rw [h0] at hlt; exact not_bot_lt_iff.mp hlt
      · right
        refine ⟨b, hb.trans (Nat.lt_succ_self n), h0, fun g hg => ?_, h2, h3⟩
        rcases hlast g hg with e | rfl
        · exact h1 g e
        · rw [← h0]; exact not_lt.mp hlt

/-- After the last trip, where some overlap is not minus infinity. -/
theorem carry_best (r : Fin 288) (l : Fin 128) (hd : ∃ g, ov G H W (num r.val l.val) g ≠ ⊥) :
    ((carry X 100).1 (ix2 r l) : EReal) = rowMax G H W (num r.val l.val) ∧ ∃ b : Fin 100, IsBest G H W (num r.val l.val) b
      ∧ ((carry X 100).2.1 (ix2 r l) : EReal) = G b 0 ∧ ((carry X 100).2.2.1 (ix2 r l) : EReal) = G b 1
      ∧ ((carry X 100).2.2.2.1 (ix2 r l) : EReal) = G b 2 ∧ ((carry X 100).2.2.2.2 (ix2 r l) : EReal) = G b 3 := by
  rcases carry_read h r l 100 le_rfl with ⟨_, h1⟩ | ⟨b, _, h0, h1, h2, h3⟩
  · obtain ⟨g, hg⟩ := hd
    exact absurd (h1 g g.isLt) hg
  · have e : ov G H W (num r.val l.val) b = rowMax G H W (num r.val l.val) :=
      le_antisymm (Finset.le_sup (Finset.mem_univ b)) (Finset.sup_le fun g _ => h1 g g.isLt)
    exact ⟨h0.trans e, b, ⟨e, fun g hg => e ▸ (h2 g hg).ne⟩, h3⟩

end Cert.KernelIdeal.Body

end
-- ==== Proof.Math.Count.lean ====
/- Counting over all anchors by base anchors, and sums of natural numbers among the extended reals. -/
module

public import proofs.«01_k».proof.Proof.Math.Spec

@[expose] public section

noncomputable section

namespace Cert.Spec

/-- A sum of natural numbers, among the extended reals. -/
theorem sum_cast {ι : Type} [Fintype ι] (f : ι → ℕ) : (∑ x, (((f x : ℕ) : ℝ) : EReal)) = (((∑ x, f x : ℕ) : ℝ) : EReal) := by
  classical
  refine Finset.induction_on (Finset.univ : Finset ι) (by simp) fun a s ha ih => ?_
  rw [Finset.sum_insert ha, Finset.sum_insert ha, ih, Nat.cast_add, EReal.coe_add]

/-- One or zero, as a natural number among the extended reals. -/
theorem ite_cast (p : Prop) [Decidable p] : (if p then (1 : EReal) else 0) = (((if p then 1 else 0 : ℕ) : ℝ) : EReal) := by
  split_ifs <;> simp

/-- A running count along a row, as a sum over the row. -/
theorem count_row (P : ℕ → Prop) [DecidablePred P] (n l : ℕ) (h : l < n) :
    (∑ x : Fin n, if P x.val ∧ x.val ≤ l then 1 else 0) = Nat.count P (l + 1) := by
  rw [Fin.sum_univ_eq_sum_range (fun x => if P x ∧ x ≤ l then 1 else 0) n, Finset.sum_boole, Nat.count_eq_card_filter_range, Nat.cast_id]
  congr 1
  ext x
  simp only [Finset.mem_filter, Finset.mem_range]
  constructor
  · rintro ⟨_, hp, hl⟩; exact ⟨by omega, hp⟩
  · rintro ⟨hl, hp⟩; exact ⟨by omega, hp, by omega⟩

/-- A sum over the earlier rows of the same block of 32. -/
theorem sum_earlier (f : ℕ → ℕ) (a q : ℕ) (ha : a < 9) (hq : q < 32) :
    (∑ x : Fin 288, if x.val < a * 32 + q ∧ x.val / 32 = a then f x.val else 0) = ∑ y ∈ Finset.range q, f (a * 32 + y) := by
  rw [Fin.sum_univ_eq_sum_range (fun x => if x < a * 32 + q ∧ x / 32 = a then f x else 0) 288, ← Finset.sum_filter]
  refine Finset.sum_nbij' (fun x => x - a * 32) (fun y => a * 32 + y) ?_ ?_ ?_ ?_ ?_
  · intro x hx
    simp only [Finset.mem_filter, Finset.mem_range] at hx ⊢
    omega
  · intro y hy
    simp only [Finset.mem_filter, Finset.mem_range] at hy ⊢
    omega
  · intro x hx
    simp only [Finset.mem_filter, Finset.mem_range] at hx
    omega
  · intro y _
    omega
  · intro x hx
    simp only [Finset.mem_filter, Finset.mem_range] at hx
    congr 1
    omega

/-- A count over rows of 128, row by row. -/
theorem count_rows (P : ℕ → Prop) [DecidablePred P] (q : ℕ) :
    (∑ y ∈ Finset.range q, Nat.count (fun x => P (y * 128 + x)) 128) = Nat.count P (q * 128) := by
  induction q with
  | zero => simp
  | succ q ih => rw [Finset.sum_range_succ, ih, Nat.add_mul, Nat.one_mul, Nat.count_add]

/-- A count over the cells' anchors, base anchor by base anchor. -/
theorem count_cells (P : ℕ → Prop) [DecidablePred P] (n : ℕ) :
    (∑ a : Fin 9, Nat.count (fun p => P (p * 9 + a.val)) n) = Nat.count P (n * 9) := by
  induction n with
  | zero => simp
  | succ n ih =>
    rw [Finset.sum_congr rfl fun a _ => Nat.count_succ _ _, Finset.sum_add_distrib, ih, Nat.add_mul, Nat.one_mul, Nat.count_add P (n * 9) 9]
    congr 1
    simp only [Fin.sum_univ_eq_sum_range (fun a => if P (n * 9 + a) then 1 else 0) 9, Finset.sum_boole, Nat.cast_id, Nat.count_eq_card_filter_range]

/-- A count less what its last places hold. -/
theorem count_less (P : ℕ → Prop) [DecidablePred P] (p n : ℕ) (hn : n ≤ 9) :
    Nat.count P (p * 9 + (9 - n)) + Nat.count (fun i => P (p * 9 + (8 - i))) n = Nat.count P (p * 9 + 9) := by
  induction n with
  | zero => simp
  | succ n ih =>
    rw [← ih (by omega), Nat.count_succ, show 9 - n = 8 - n + 1 by omega, ← Nat.add_assoc (p * 9) (8 - n) 1, Nat.count_succ,
      show 9 - (n + 1) = 8 - n by omega]
    omega

end Cert.Spec

end
-- ==== Proof.Kern.Cum.lean ====
/- The kernel's running counts, read at an index. -/
module

public import proofs.«01_k».proof.Proof.Kern.Read
public import proofs.«01_k».proof.Proof.Math.Count

@[expose] public section

set_option maxRecDepth 8192

noncomputable section

namespace Cert.KernelIdeal.Body

open Cert.KernelIdeal Cert.KernelIdeal.Gen
open Idealize.ShloMosaic Idealize.ShloMosaic.TcCoe Idealize.ShloMosaic.Tactic
open Cert.Spec Cert.Tab

/-- The mask of earlier rows of the same block of 32 rows. -/
def lower : FVec Ideal S288x288 .f32 := k0_pay23 rowsV k0_pay19 k0_pay20 k0_pay21 k0_pay22 0#32

/-- The running counts along each row. -/
def along (m : FVec Ideal S288x128 .f32) : FVec Ideal S288x128 .f32 :=
  matmul dot_S288x128_S128x128_S288x128_1_0_0_1_n_n none m k0_pay18 (constant S288x128 .f32 0x00000000#32)

/-- The running counts by block, of the running counts along each row. -/
def byBlock (c : FVec Ideal S288x128 .f32) : FVec Ideal S288x128 .f32 :=
  addf c (broadcastTo S288x128 (matmul dot_S288x288_S288x1_S288x1_1_0_0_1_n_n none lower
    (extractStridedSlice S288x1 ![0, 127] c slices_S288x128_o0_127_S288x1) (constant S288x1 .f32 0x00000000#32)) broadcasts_S288x1_S288x128)

/-- The sum of the nine blocks of rows. -/
def blocks (s : FVec Ideal S288x128 .f32) : FVec Ideal S32x128 .f32 :=
  addf (addf (addf (addf (addf (addf (addf (addf (extractStridedSlice S32x128 ![0, 0] s slices_S288x128_o0_0_S32x128) (extractStridedSlice S32x128 ![32, 0] s slices_S288x128_o32_0_S32x128)) (extractStridedSlice S32x128 ![64, 0] s slices_S288x128_o64_0_S32x128)) (extractStridedSlice S32x128 ![96, 0] s slices_S288x128_o96_0_S32x128)) (extractStridedSlice S32x128 ![128, 0] s slices_S288x128_o128_0_S32x128)) (extractStridedSlice S32x128 ![160, 0] s slices_S288x128_o160_0_S32x128)) (extractStridedSlice S32x128 ![192, 0] s slices_S288x128_o192_0_S32x128)) (extractStridedSlice S32x128 ![224, 0] s slices_S288x128_o224_0_S32x128)) (extractStridedSlice S32x128 ![256, 0] s slices_S288x128_o256_0_S32x128)

/-- The sum of the last `n` blocks of rows, from the last one down. -/
def tail (m : FVec Ideal S288x128 .f32) (n : ℕ) : FVec Ideal S32x128 .f32 :=
  match n with
  | 0 => broadcast S32x128 (Scalar.ofBits (F := Ideal) .f32 0x00000000#32)
  | 1 => addf (broadcast S32x128 (Scalar.ofBits (F := Ideal) .f32 0x00000000#32)) (extractStridedSlice S32x128 ![256, 0] m slices_S288x128_o256_0_S32x128)
  | 2 => addf (addf (broadcast S32x128 (Scalar.ofBits (F := Ideal) .f32 0x00000000#32)) (extractStridedSlice S32x128 ![256, 0] m slices_S288x128_o256_0_S32x128)) (extractStridedSlice S32x128 ![224, 0] m slices_S288x128_o224_0_S32x128)
  | 3 => addf (addf (addf (broadcast S32x128 (Scalar.ofBits (F := Ideal) .f32 0x00000000#32)) (extractStridedSlice S32x128 ![256, 0] m slices_S288x128_o256_0_S32x128)) (extractStridedSlice S32x128 ![224, 0] m slices_S288x128_o224_0_S32x128)) (extractStridedSlice S32x128 ![192, 0] m slices_S288x128_o192_0_S32x128)
  | 4 => addf (addf (addf (addf (broadcast S32x128 (Scalar.ofBits (F := Ideal) .f32 0x00000000#32)) (extractStridedSlice S32x128 ![256, 0] m slices_S288x128_o256_0_S32x128)) (extractStridedSlice S32x128 ![224, 0] m slices_S288x128_o224_0_S32x128)) (extractStridedSlice S32x128 ![192, 0] m slices_S288x128_o192_0_S32x128)) (extractStridedSlice S32x128 ![160, 0] m slices_S288x128_o160_0_S32x128)
  | 5 => addf (addf (addf (addf (addf (broadcast S32x128 (Scalar.ofBits (F := Ideal) .f32 0x00000000#32)) (extractStridedSlice S32x128 ![256, 0] m slices_S288x128_o256_0_S32x128)) (extractStridedSlice S32x128 ![224, 0] m slices_S288x128_o224_0_S32x128)) (extractStridedSlice S32x128 ![192, 0] m slices_S288x128_o192_0_S32x128)) (extractStridedSlice S32x128 ![160, 0] m slices_S288x128_o160_0_S32x128)) (extractStridedSlice S32x128 ![128, 0] m slices_S288x128_o128_0_S32x128)
  | 6 => addf (addf (addf (addf (addf (addf (broadcast S32x128 (Scalar.ofBits (F := Ideal) .f32 0x00000000#32)) (extractStridedSlice S32x128 ![256, 0] m slices_S288x128_o256_0_S32x128)) (extractStridedSlice S32x128 ![224, 0] m slices_S288x128_o224_0_S32x128)) (extractStridedSlice S32x128 ![192, 0] m slices_S288x128_o192_0_S32x128)) (extractStridedSlice S32x128 ![160, 0] m slices_S288x128_o160_0_S32x128)) (extractStridedSlice S32x128 ![128, 0] m slices_S288x128_o128_0_S32x128)) (extractStridedSlice S32x128 ![96, 0] m slices_S288x128_o96_0_S32x128)
  | 7 => addf (addf (addf (addf (addf (addf (addf (broadcast S32x128 (Scalar.ofBits (F := Ideal) .f32 0x00000000#32)) (extractStridedSlice S32x128 ![256, 0] m slices_S288x128_o256_0_S32x128)) (extractStridedSlice S32x128 ![224, 0] m slices_S288x128_o224_0_S32x128)) (extractStridedSlice S32x128 ![192, 0] m slices_S288x128_o192_0_S32x128)) (extractStridedSlice S32x128 ![160, 0] m slices_S288x128_o160_0_S32x128)) (extractStridedSlice S32x128 ![128, 0] m slices_S288x128_o128_0_S32x128)) (extractStridedSlice S32x128 ![96, 0] m slices_S288x128_o96_0_S32x128)) (extractStridedSlice S32x128 ![64, 0] m slices_S288x128_o64_0_S32x128)
  | 8 => addf (addf (addf (addf (addf (addf (addf (addf (broadcast S32x128 (Scalar.ofBits (F := Ideal) .f32 0x00000000#32)) (extractStridedSlice S32x128 ![256, 0] m slices_S288x128_o256_0_S32x128)) (extractStridedSlice S32x128 ![224, 0] m slices_S288x128_o224_0_S32x128)) (extractStridedSlice S32x128 ![192, 0] m slices_S288x128_o192_0_S32x128)) (extractStridedSlice S32x128 ![160, 0] m slices_S288x128_o160_0_S32x128)) (extractStridedSlice S32x128 ![128, 0] m slices_S288x128_o128_0_S32x128)) (extractStridedSlice S32x128 ![96, 0] m slices_S288x128_o96_0_S32x128)) (extractStridedSlice S32x128 ![64, 0] m slices_S288x128_o64_0_S32x128)) (extractStridedSlice S32x128 ![32, 0] m slices_S288x128_o32_0_S32x128)
  | _ => broadcast S32x128 (Scalar.ofBits (F := Ideal) .f32 0x00000000#32)

/-- The running counts, of the running counts by block and of the mask. -/
def cumOf (s m : FVec Ideal S288x128 .f32) : FVec Ideal S288x128 .f32 :=
  concatenate S288x128 0 [⟨S32x128, subf (blocks s) (tail m 8)⟩, ⟨S32x128, subf (blocks s) (tail m 7)⟩, ⟨S32x128, subf (blocks s) (tail m 6)⟩, ⟨S32x128, subf (blocks s) (tail m 5)⟩, ⟨S32x128, subf (blocks s) (tail m 4)⟩, ⟨S32x128, subf (blocks s) (tail m 3)⟩, ⟨S32x128, subf (blocks s) (tail m 2)⟩, ⟨S32x128, subf (blocks s) (tail m 1)⟩, ⟨S32x128, subf (blocks s) (tail m 0)⟩] concatenates_S32x128_S32x128_S32x128_S32x128_S32x128_S32x128_S32x128_S32x128_S32x128_S288x128_d0

/-- The running counts of a mask in the anchors' order. -/
def cum (m : FVec Ideal S288x128 .f32) : FVec Ideal S288x128 .f32 := cumOf (byBlock (along m)) m

/-- The mask of the ones beyond the limit, of the running counts by block. -/
theorem pay29_eq (l : FVec Ideal S288x128 .f32) (c : IVec S288x128 1) (m s : FVec Ideal S288x128 .f32) :
    k0_pay29 l c m s (addf (addf (extractStridedSlice S32x128 ![0, 0] s slices_S288x128_o0_0_S32x128) (extractStridedSlice S32x128 ![32, 0] s slices_S288x128_o32_0_S32x128))
      (extractStridedSlice S32x128 ![64, 0] s slices_S288x128_o64_0_S32x128)) (extractStridedSlice S32x128 ![96, 0] s slices_S288x128_o96_0_S32x128)
    = select (andi c (cmpf (F := Ideal) .ogt (cumOf s m) (broadcast S288x128 (Scalar.ofBits (F := Ideal) .f32 0x43000000#32))))
      (broadcast S288x128 (Scalar.ofBits (F := Ideal) .f32 0xBF800000#32)) l := by
  unfold k0_pay29 cumOf blocks
  simp only [tail]
  rfl

/-- The first limit. -/
theorem fgLimit_eq (l : FVec Ideal S288x128 .f32) :
    fgLimit l = select (andi (k0_pay24 l) (cmpf (F := Ideal) .ogt (cum (k0_pay25 l)) (broadcast S288x128 (Scalar.ofBits (F := Ideal) .f32 0x43000000#32))))
      (broadcast S288x128 (Scalar.ofBits (F := Ideal) .f32 0xBF800000#32)) l :=
  pay29_eq l (k0_pay24 l) (k0_pay25 l) (byBlock (along (k0_pay25 l)))

/-- A mask of the zeros of a plane, as numbers. -/
def zeros (l : FVec Ideal S288x128 .f32) : FVec Ideal S288x128 .f32 :=
  sitofp .f32 (extui 32 (cmpf (F := Ideal) .oeq l k0_pay31) natLt_1_32)

/-- The second limit. -/
theorem bgDrop_eq (l : FVec Ideal S288x128 .f32) (room : Ideal .f32) :
    bgDrop l room = andi (cmpf (F := Ideal) .oeq l k0_pay31) (cmpf (F := Ideal) .ogt (cum (zeros l)) (broadcast S288x128 room)) := by
  unfold bgDrop k0_pay32 cum cumOf blocks byBlock along zeros lower
  simp only [tail]
  rfl

/-- A word of zero or one as a number. -/
theorem bit_value (b : BitVec 1) : (FloatOps.sitofp (F := Ideal) .f32 (BitVec.setWidth 32 b) : EReal) = if b = 1#1 then 1 else 0 := by
  rcases BitVec.eq_zero_or_eq_one b with rfl | rfl
  · show (((BitVec.setWidth 32 0#1).toInt : ℝ) : EReal) = _
    rw [if_neg (by decide), show (BitVec.setWidth 32 0#1).toInt = 0 from rfl]; simp
  · show (((BitVec.setWidth 32 1#1).toInt : ℝ) : EReal) = _
    rw [if_pos rfl, show (BitVec.setWidth 32 1#1).toInt = 1 from rfl]; simp

/-- The words of small numbers compare as the numbers do. -/
theorem sle_small (x y : ℕ) (hx : x < 2 ^ 31) (hy : y < 2 ^ 31) : IntOp.cmpi .sle (BitVec.ofNat 32 x) (BitVec.ofNat 32 y) = 1#1 ↔ x ≤ y := by
  show BitVec.ofBool (BitVec.sle _ _) = 1#1 ↔ _
  rw [BitVec.sle_eq_decide, ofBool_one, Cert.ReferenceIdeal.Value.toInt_small x hx, Cert.ReferenceIdeal.Value.toInt_small y hy]
  omega

theorem slt_small (x y : ℕ) (hx : x < 2 ^ 31) (hy : y < 2 ^ 31) : IntOp.cmpi .slt (BitVec.ofNat 32 x) (BitVec.ofNat 32 y) = 1#1 ↔ x < y := by
  show BitVec.ofBool (BitVec.slt _ _) = 1#1 ↔ _
  rw [BitVec.slt_eq_decide, ofBool_one, Cert.ReferenceIdeal.Value.toInt_small x hx, Cert.ReferenceIdeal.Value.toInt_small y hy]
  omega

theorem eq_small (x y : ℕ) (hx : x < 2 ^ 31) (hy : y < 2 ^ 31) : IntOp.cmpi .eq (BitVec.ofNat 32 x) (BitVec.ofNat 32 y) = 1#1 ↔ x = y := by
  show BitVec.ofBool (BitVec.ofNat 32 x == BitVec.ofNat 32 y) = 1#1 ↔ _
  rw [show (BitVec.ofNat 32 x == BitVec.ofNat 32 y) = decide (BitVec.ofNat 32 x = BitVec.ofNat 32 y) from rfl, ofBool_one]
  constructor
  · intro h
    have := congrArg BitVec.toInt h
    rw [Cert.ReferenceIdeal.Value.toInt_small x hx, Cert.ReferenceIdeal.Value.toInt_small y hy] at this
    omega
  · rintro rfl; rfl

/-- The mask of earlier lanes. -/
theorem up_read (x l : Fin 128) : (k0_pay18 (F := Ideal) (ix2 x l) : EReal) = if x.val ≤ l.val then 1 else 0 := by
  unfold k0_pay18
  pointwise
  rw [bit_value]
  simp only [sle_small x.val l.val (by omega) (by omega)]

/-- The quotient by 32, rounded down, in words. -/
def block (x : BitVec 32) : BitVec 32 :=
  Scalar.select
    (IntOp.andi (IntOp.cmpi .ne (IntOp.subi (BitVec.setWidth 32 (IntOp.cmpi .sgt x 0#32)) (BitVec.setWidth 32 (IntOp.cmpi .slt x 0#32)))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32) (IntOp.divsi .vector x 32#32)

theorem block_word : ∀ x : Fin 288, block (BitVec.ofNat 32 x.val) = BitVec.ofNat 32 (x.val / 32) := by
  decide

/-- The mask of earlier rows of the same block of 32 rows. -/
theorem lower_read (r x : Fin 288) : (lower (ix2 r x) : EReal) = if x.val < r.val ∧ x.val / 32 = r.val / 32 then 1 else 0 := by
  have e : (lower (ix2 r x) : EReal) = FloatOps.sitofp (F := Ideal) .f32 (BitVec.setWidth 32 (IntOp.andi (IntOp.cmpi .slt (BitVec.ofNat 32 x.val) (BitVec.ofNat 32 r.val))
      (IntOp.cmpi .eq (block (BitVec.ofNat 32 x.val)) (block (BitVec.ofNat 32 r.val))))) := by
    unfold lower k0_pay23 k0_pay22 k0_pay21 k0_pay20 k0_pay19 rowsV block
    pointwise
  rw [e, bit_value, block_word, block_word]
  simp only [andi_one, slt_small x.val r.val (by omega) (by omega), eq_small (x.val / 32) (r.val / 32) (by omega) (by omega)]

theorem along_sum (m : FVec Ideal S288x128 .f32) (r : Fin 288) (l : Fin 128) :
    (along m (ix2 r l) : EReal) = ∑ x : Fin 128, (m (ix2 r x) : EReal) * k0_pay18 (F := Ideal) (ix2 x l) := by
  unfold along
  pointwise

theorem byBlock_sum (c : FVec Ideal S288x128 .f32) (r : Fin 288) (l : Fin 128) :
    (byBlock c (ix2 r l) : EReal) = c (ix2 r l) + ∑ x : Fin 288, (lower (ix2 r x) : EReal) * c (ix2 x 127) := by
  unfold byBlock
  pointwise

theorem blocks_sum (s : FVec Ideal S288x128 .f32) (q : Fin 32) (l : Fin 128) :
    (blocks s (ix2 q l) : EReal) = ∑ a : Fin 9, (s (ix2 ⟨a.val * 32 + q.val, by omega⟩ l) : EReal) := by
  rw [Fin.sum_univ_castSucc, Fin.sum_univ_eight]
  unfold blocks
  pointwise
  simp

theorem tail_succ (m : FVec Ideal S288x128 .f32) (n : ℕ) (hn : n < 8) (q : Fin 32) (l : Fin 128) :
    (tail m (n + 1) (ix2 q l) : EReal) = tail m n (ix2 q l) + m (ix2 ⟨(8 - n) * 32 + q.val, by omega⟩ l) := by
  interval_cases n <;> unfold tail <;> pointwise
  all_goals first | rfl | exact (zero_add _).symm | simp

theorem cumOf_cell (s m : FVec Ideal S288x128 .f32) (r : Fin 288) (l : Fin 128) :
    (cumOf s m (ix2 r l) : EReal) = blocks s (ix2 ⟨r.val % 32, by omega⟩ l) - tail m (8 - r.val / 32) (ix2 ⟨r.val % 32, by omega⟩ l) := by
  have key : ∀ (q : Fin 32) (n : ℕ), q.val = r.val % 32 → n = 8 - r.val / 32 →
      (blocks s (ix2 q l) - tail m n (ix2 q l) : EReal) = blocks s (ix2 ⟨r.val % 32, by omega⟩ l) - tail m (8 - r.val / 32) (ix2 ⟨r.val % 32, by omega⟩ l) := by
    rintro q n h rfl
    rw [show q = ⟨r.val % 32, by omega⟩ from Fin.ext h]
  unfold cumOf
  pointwise
  split_ifs <;> exact key _ _ (by simp only; omega) (by omega)

section Counts
variable {m : FVec Ideal S288x128 .f32} {Q : ℕ → Prop} [DecidablePred Q]
  (hm : ∀ (r : Fin 288) (l : Fin 128), (m (ix2 r l) : EReal) = if Q (num r.val l.val) then 1 else 0)
include hm

theorem along_read (r : Fin 288) (l : Fin 128) : (along m (ix2 r l) : EReal) = ((Nat.count (fun x => Q (num r.val x)) (l.val + 1) : ℝ) : EReal) := by
  rw [along_sum, ← count_row (fun x => Q (num r.val x)) 128 l.val l.isLt, ← sum_cast]
  refine Finset.sum_congr rfl fun x _ => ?_
  rw [hm, up_read, ite_and]
  split_ifs <;> simp

theorem byBlock_read (r : Fin 288) (l : Fin 128) :
    (byBlock (along m) (ix2 r l) : EReal) = ((Nat.count (fun p => Q (p * 9 + r.val / 32)) (r.val % 32 * 128 + l.val + 1) : ℝ) : EReal) := by
  have hn : ∀ y x, y < 32 → x < 128 → num (r.val / 32 * 32 + y) x = (y * 128 + x) * 9 + r.val / 32 := by
    intro y x hy hx; unfold num; omega
  have hc : ∀ y < 32, ∀ n ≤ 128, Nat.count (fun x => Q (num (r.val / 32 * 32 + y) x)) n
      = Nat.count (fun x => Q ((y * 128 + x) * 9 + r.val / 32)) n := by
    intro y hy n hle
    rw [Nat.count_eq_card_filter_range, Nat.count_eq_card_filter_range]
    congr 1
    refine Finset.filter_congr fun x hx => ?_
    rw [hn y x hy (by have := Finset.mem_range.mp hx; omega)]
  have hs : (∑ x : Fin 288, (lower (ix2 r x) : EReal) * along m (ix2 x 127))
      = (((∑ x : Fin 288, if x.val < r.val / 32 * 32 + r.val % 32 ∧ x.val / 32 = r.val / 32 then Nat.count (fun y => Q (num x.val y)) 128 else 0 : ℕ) : ℝ) : EReal) := by
    rw [← sum_cast]
    refine Finset.sum_congr rfl fun x _ => ?_
    rw [lower_read, along_read hm, show r.val / 32 * 32 + r.val % 32 = r.val by omega]
    split_ifs <;> simp
  rw [byBlock_sum, hs, along_read hm, ← EReal.coe_add, ← Nat.cast_add,
    sum_earlier (fun x => Nat.count (fun y => Q (num x y)) 128) (r.val / 32) (r.val % 32) (by omega) (by omega)]
  congr 2
  have e1 : (∑ y ∈ Finset.range (r.val % 32), Nat.count (fun x => Q (num (r.val / 32 * 32 + y) x)) 128)
      = ∑ y ∈ Finset.range (r.val % 32), Nat.count (fun x => Q ((y * 128 + x) * 9 + r.val / 32)) 128 :=
    Finset.sum_congr rfl fun y hy => hc y (by have := Finset.mem_range.mp hy; omega) 128 le_rfl
  have e2 := hc (r.val % 32) (by omega) (l.val + 1) (by omega)
  rw [show r.val / 32 * 32 + r.val % 32 = r.val by omega] at e2
  rw [e1, e2, count_rows (fun p => Q (p * 9 + r.val / 32)), Nat.add_assoc, Nat.count_add _ (r.val % 32 * 128) (l.val + 1), Nat.add_comm]

theorem tail_read (n : ℕ) (hn : n ≤ 8) (q : Fin 32) (l : Fin 128) :
    (tail m n (ix2 q l) : EReal) = ((Nat.count (fun i => Q ((q.val * 128 + l.val) * 9 + (8 - i))) n : ℝ) : EReal) := by
  induction n with
  | zero =>
    rw [Nat.count_zero]
    show Ideal.ofBits .f32 0#32 = _
    rw [Ideal.ofBits_zero_f32]; simp
  | succ n ih =>
    rw [tail_succ m n (by omega), ih (by omega), hm, Nat.count_succ, Nat.cast_add, EReal.coe_add]
    simp only
    rw [show num ((8 - n) * 32 + q.val) l.val = (q.val * 128 + l.val) * 9 + (8 - n) by unfold num; omega]
    rw [ite_cast]

/-- The running counts of a mask in the anchors' order. -/
theorem cum_read (r : Fin 288) (l : Fin 128) : (cum m (ix2 r l) : EReal) = ((Nat.count Q (num r.val l.val + 1) : ℝ) : EReal) := by
  unfold cum
  rw [cumOf_cell, tail_read hm _ (by omega), blocks_sum]
  simp only [byBlock_read hm]
  rw [sum_cast (fun a : Fin 9 => Nat.count (fun p => Q (p * 9 + (a.val * 32 + r.val % 32) / 32)) ((a.val * 32 + r.val % 32) % 32 * 128 + l.val + 1))]
  have e : ∀ a : Fin 9, Nat.count (fun p => Q (p * 9 + (a.val * 32 + r.val % 32) / 32)) ((a.val * 32 + r.val % 32) % 32 * 128 + l.val + 1)
      = Nat.count (fun p => Q (p * 9 + a.val)) (r.val % 32 * 128 + l.val + 1) := by
    intro a
    rw [show (a.val * 32 + r.val % 32) / 32 = a.val by omega, show (a.val * 32 + r.val % 32) % 32 = r.val % 32 by omega]
  rw [Finset.sum_congr rfl fun a _ => e a, count_cells]
  have c := count_less Q (r.val % 32 * 128 + l.val) (8 - r.val / 32) (by omega)
  rw [show (r.val % 32 * 128 + l.val) * 9 + (9 - (8 - r.val / 32)) = num r.val l.val + 1 by unfold num; omega] at c
  rw [show (r.val % 32 * 128 + l.val + 1) * 9 = (r.val % 32 * 128 + l.val) * 9 + 9 by omega, ← c, Nat.cast_add, ← EReal.coe_sub, add_sub_cancel_right]

end Counts

end Cert.KernelIdeal.Body

end
-- ==== Proof.Kern.Labels.lean ====
/- The kernel's labels after its two limits, its weights and its targets, read at an index. -/
module

public import proofs.«01_k».proof.Proof.Kern.Cum

@[expose] public section

set_option maxRecDepth 8192

noncomputable section

namespace Cert.KernelIdeal.Body

open Cert.KernelIdeal Cert.KernelIdeal.Gen
open Idealize.ShloMosaic Idealize.ShloMosaic.TcCoe Idealize.ShloMosaic.Tactic
open Cert.Spec Cert.Tab

/-! ## Counting over a plane -/

/-- Each anchor has one place in a plane. -/
theorem numF_bijective : Function.Bijective fun x : Fin 288 × Fin 128 => numF x.1 x.2 := by
  constructor
  · rintro ⟨r, l⟩ ⟨r', l'⟩ h
    have e : num r.val l.val = num r'.val l'.val := congrArg Fin.val h
    clear h
    unfold num at e
    have key : ∀ A : ℕ, A < 36864 → (A % 4096 * 9 + A / 4096) % 9 = A / 4096 ∧ (A % 4096 * 9 + A / 4096) / 9 = A % 4096 := by
      intro A hA; omega
    obtain ⟨p, q⟩ := key (r.val * 128 + l.val) (by omega)
    obtain ⟨p', q'⟩ := key (r'.val * 128 + l'.val) (by omega)
    rw [e] at p q
    have p2 := p.symm.trans p'
    have q2 := q.symm.trans q'
    clear p q p' q' e key
    have s : r.val * 128 + l.val = r'.val * 128 + l'.val := by
      rw [← Nat.div_add_mod (r.val * 128 + l.val) 4096, p2, q2, Nat.div_add_mod]
    clear p2 q2
    exact Prod.ext (Fin.ext (by simp only; omega)) (Fin.ext (by simp only; omega))
  · intro k
    obtain ⟨r, l, e⟩ := num_surj k.val k.isLt
    exact ⟨(r, l), Fin.ext e⟩

/-- A count over all numbers below a bound, as a sum. -/
theorem count_all (Q : ℕ → Prop) [DecidablePred Q] (n : ℕ) : (∑ k : Fin n, if Q k.val then 1 else 0) = Nat.count Q n := by
  rw [Fin.sum_univ_eq_sum_range (fun k => if Q k then 1 else 0) n, Finset.sum_boole, Nat.count_eq_card_filter_range, Nat.cast_id]

/-- The sum of a mask over a plane counts the anchors. -/
theorem plane_count (Q : ℕ → Prop) [DecidablePred Q] :
    (∑ r : Fin 288, ∑ l : Fin 128, if Q (num r.val l.val) then (1 : EReal) else 0) = ((Nat.count Q 36864 : ℝ) : EReal) := by
  rw [← count_all Q 36864, ← numF_bijective.sum_comp (fun k : Fin 36864 => if Q k.val then 1 else 0), ← sum_cast, Fintype.sum_prod_type]
  simp only [ite_cast]
  rfl

/-! ## The two limits -/

theorem pay24_read (l : FVec Ideal S288x128 .f32) (i : S288x128.Idx) : k0_pay24 l i = 1#1 ↔ (l i : EReal) = 1 := by
  rw [← Ideal.ofBits_one_f32]
  exact ofBool_one ((l i : EReal) = Ideal.ofBits .f32 1065353216#32)

theorem pay25_read (l : FVec Ideal S288x128 .f32) (i : S288x128.Idx) [Decidable ((l i : EReal) = 1)] : (k0_pay25 l i : EReal) = if (l i : EReal) = 1 then 1 else 0 := by
  refine (bit_value (k0_pay24 l i)).trans ?_
  simp only [pay24_read]

theorem oeq_zero (l : FVec Ideal S288x128 .f32) (i : S288x128.Idx) : cmpf (F := Ideal) .oeq l k0_pay31 i = 1#1 ↔ (l i : EReal) = 0 := by
  rw [← Ideal.ofBits_zero_f32]
  exact ofBool_one ((l i : EReal) = Ideal.ofBits .f32 0#32)

theorem zeros_read (l : FVec Ideal S288x128 .f32) (i : S288x128.Idx) [Decidable ((l i : EReal) = 0)] : (zeros l i : EReal) = if (l i : EReal) = 0 then 1 else 0 := by
  refine (bit_value (cmpf (F := Ideal) .oeq l k0_pay31 i)).trans ?_
  simp only [oeq_zero]

/-- The sum of a plane. -/
def planeSum (x : FVec Ideal S288x128 .f32) : Ideal .f32 :=
  extractAt ![0, 0, 0] (shapeCast S1x1x1 (multiReduction (F := Ideal) .add [1, 2] S1 (shapeCast S1x288x128 x shapeCasts_S288x128_S1x288x128) 0x00000000#32
    reduces_S1x288x128_S1 (.inl rfl) rfl) shapeCasts_S1_S1x1x1) inpos_S1x1x1_p0_0_0

theorem planeSum_read (x : FVec Ideal S288x128 .f32) : (planeSum x : EReal) = ∑ r : Fin 288, ∑ l : Fin 128, (x (ix2 r l) : EReal) := by
  unfold planeSum
  pointwise

theorem bgRoom_eq (l : FVec Ideal S288x128 .f32) :
    (bgRoom l : EReal) = Ideal.ofBits .f32 1132462080#32 - planeSum (k0_pay25 (fgLimit l)) := by
  rfl

/-- The comparison of a count with what is left of 256. -/
theorem room_lt (a c : ℕ) : (((256 : ℝ) : EReal) - ((c : ℝ) : EReal) < ((a : ℝ) : EReal)) ↔ 256 < a + c := by
  rw [← EReal.coe_sub, EReal.coe_lt_coe_iff, sub_lt_iff_lt_add, ← Nat.cast_add]
  exact_mod_cast Iff.rfl

theorem lt_128 (a : ℕ) : (((128 : ℝ) : EReal) < ((a : ℝ) : EReal)) ↔ 128 < a := by
  rw [EReal.coe_lt_coe_iff]
  exact_mod_cast Iff.rfl

variable {X : Arrs Ideal} {G : Fin 100 → Fin 4 → EReal} {H W : EReal} (h : Reads X G H W) (hd : ∀ k, ∃ g, ov G H W k g ≠ ⊥)
include h hd

/-- The labels by overlap. -/
theorem lab0_at (r : Fin 288) (l : Fin 128) : (lab0 X (ix2 r l) : EReal) = Cert.Spec.lab0 G H W (num r.val l.val) :=
  lab0_read h r l (carry_best h r l (hd _)).1

/-- The labels after the first limit. -/
theorem lab1_at (r : Fin 288) (l : Fin 128) : (fgLimit (lab0 X) (ix2 r l) : EReal) = lab1 G H W (num r.val l.val) := by
  classical
  have hc : (cum (k0_pay25 (lab0 X)) (ix2 r l) : EReal) = ((Nat.count (fun j => Cert.Spec.lab0 G H W j = 1) (num r.val l.val + 1) : ℝ) : EReal) :=
    cum_read (fun r l => by rw [pay25_read, lab0_at h hd r l]) r l
  have hu : fgLimit (lab0 X) (ix2 r l) = Scalar.select (IntOp.andi (k0_pay24 (lab0 X) (ix2 r l))
      (FloatOps.cmpf (F := Ideal) (φ := .f32) .ogt (cum (k0_pay25 (lab0 X)) (ix2 r l)) (Ideal.ofBits .f32 1124073472#32 : EReal)))
      (Ideal.ofBits .f32 3212836864#32 : EReal) (lab0 X (ix2 r l) : EReal) := by
    rw [fgLimit_eq]; rfl
  have hp : IntOp.andi (k0_pay24 (lab0 X) (ix2 r l))
      (FloatOps.cmpf (F := Ideal) (φ := .f32) .ogt (cum (k0_pay25 (lab0 X)) (ix2 r l)) (Ideal.ofBits .f32 1124073472#32 : EReal)) = 1#1
      ↔ Cert.Spec.lab0 G H W (num r.val l.val) = 1 ∧ 128 < upto (Cert.Spec.lab0 G H W) 1 (num r.val l.val) := by
    rw [andi_one, pay24_read, lab0_at h hd r l, hc, bits_128]
    exact and_congr_right fun _ => (ofBool_one _).trans (lt_128 _)
  rw [hu, select_if _ _ hp, bits_neg_one, lab0_at h hd r l]
  rfl

/-- How many negative labels may stay. -/
theorem room_at : (bgRoom (lab0 X) : EReal) = ((256 : ℝ) : EReal) - ((upto (lab1 G H W) 1 36863 : ℝ) : EReal) := by
  classical
  rw [bgRoom_eq, planeSum_read, bits_256]
  simp only [pay25_read, lab1_at h hd]
  rw [plane_count (fun k => lab1 G H W k = 1)]
  rfl

/-- The labels the kernel leaves. -/
theorem lab2_at (r : Fin 288) (l : Fin 128) : (labOut X (ix2 r l) : EReal) = lab2 G H W (num r.val l.val) := by
  classical
  have hc : (cum (zeros (fgLimit (lab0 X))) (ix2 r l) : EReal) = ((Nat.count (fun j => lab1 G H W j = 0) (num r.val l.val + 1) : ℝ) : EReal) :=
    cum_read (fun r l => by rw [zeros_read, lab1_at h hd r l]) r l
  have hu : labOut X (ix2 r l) = Scalar.select (bgDrop (fgLimit (lab0 X)) (bgRoom (lab0 X)) (ix2 r l))
      (Ideal.ofBits .f32 3212836864#32 : EReal) (fgLimit (lab0 X) (ix2 r l) : EReal) := rfl
  have hp : bgDrop (fgLimit (lab0 X)) (bgRoom (lab0 X)) (ix2 r l) = 1#1 ↔ lab1 G H W (num r.val l.val) = 0
      ∧ 256 < upto (lab1 G H W) 0 (num r.val l.val) + upto (lab1 G H W) 1 36863 := by
    have hb : bgDrop (fgLimit (lab0 X)) (bgRoom (lab0 X)) (ix2 r l) = IntOp.andi (cmpf (F := Ideal) .oeq (fgLimit (lab0 X)) k0_pay31 (ix2 r l))
        (FloatOps.cmpf (F := Ideal) (φ := .f32) .ogt (cum (zeros (fgLimit (lab0 X))) (ix2 r l)) (bgRoom (lab0 X))) := by
      rw [bgDrop_eq]; rfl
    rw [hb, andi_one, oeq_zero, lab1_at h hd r l, hc, room_at h hd]
    exact and_congr_right fun _ => (ofBool_one _).trans (room_lt _ _)
  rw [hu, select_if _ _ hp, bits_neg_one, lab1_at h hd r l]
  rfl

/-! ## The weights and the targets -/

/-- The inside weights. -/
theorem biw_at (r : Fin 288) (l : Fin 128) : (biwOut X (ix2 r l) : EReal) = biw G H W (num r.val l.val) := by
  classical
  unfold biwOut k0_pay2
  pointwise
  rw [lab2_at h hd]
  rfl

/-- The outside weights. -/
theorem bow_at (r : Fin 288) (l : Fin 128) : (bowOut X (ix2 r l) : EReal) = bow G H W (num r.val l.val) := by
  classical
  unfold bowOut k0_pay3
  pointwise
  simp only [lab2_at h hd, bit_value, ofBool_one]
  rw [plane_count (fun k => 0 ≤ lab2 G H W k)]
  rfl

theorem target_at (r : Fin 288) (l : Fin 128) : ∃ b, IsBest G H W (num r.val l.val) b
    ∧ (dxOut X (ix2 r l) : EReal) = target G H W (num r.val l.val) b 0 ∧ (dyOut X (ix2 r l) : EReal) = target G H W (num r.val l.val) b 1
    ∧ (dwOut X (ix2 r l) : EReal) = target G H W (num r.val l.val) b 2 ∧ (dhOut X (ix2 r l) : EReal) = target G H W (num r.val l.val) b 3 := by
  classical
  obtain ⟨b, hb, e0, e1, e2, e3⟩ := (carry_best h r l (hd _)).2
  have hi := inside_read h r l
  refine ⟨b, hb, ?_, ?_, ?_, ?_⟩
  · unfold dxOut k0_pay39 k0_pay37 k0_pay35
    pointwise
    rw [select_if _ _ hi, e0, e2, h.ew, h.ax1]
    rfl
  · unfold dyOut k0_pay40 k0_pay38 k0_pay36
    pointwise
    rw [select_if _ _ hi, e1, e3, h.eh, h.ay1]
    rfl
  · unfold dwOut k0_pay41 k0_pay37 k0_pay35
    pointwise
    rw [select_if _ _ hi, e0, e2, h.ew]
    rfl
  · unfold dhOut k0_pay1 k0_pay42 k0_pay38 k0_pay36
    pointwise
    rw [select_if _ _ hi, e1, e3, h.eh]
    rfl

end Cert.KernelIdeal.Body

end
-- ==== Proof.Tab.T0.lean ====
/- The words of the kernel's table 0. -/
module

public import proofs.«01_k».proof.KernelIdeal
public import proofs.«01_k».proof.Proof.Tab.Digit

@[expose] public section

set_option maxRecDepth 16384

noncomputable section

namespace Cert.Tab

open Cert.KernelIdeal

set_option maxHeartbeats 4000000 in
/-- Table 0 at `i` is the word of corner 0 of anchor `i`. -/
theorem table0 (i : ℕ) (hi : i < 36864) : lit0t i = word 0 0 (i / 128) (i % 128) := by
  have hl : i % 128 < 128 := Nat.mod_lt _ (by decide)
  have hr : i / 128 % 128 < 128 := Nat.mod_lt _ (by decide)
  have e0 : i / 128 = i / 16384 * 128 + i / 128 % 128 := by omega
  have hq : i / 16384 < 3 := by omega
  rw [e0]
  unfold lit0t
  have h2 : i / 16384 = 2 → i / 128 % 128 < 32 := by omega
  generalize i / 16384 = q at *
  interval_cases q
  · show lit0t1_0 i = _
    refine of_digit (fun r w => w = word 0 0 (0 * 128 + r) (i % 128)) hr ?_
    and_intros <;> exact of_lane (word 0 0 _) hl (by decide +kernel)
  · show lit0t1_1 i = _
    refine of_digit (fun r w => w = word 0 0 (1 * 128 + r) (i % 128)) hr ?_
    and_intros <;> exact of_lane (word 0 0 _) hl (by decide +kernel)
  · show lit0t1_2 i = _
    refine of_digit_32 (fun r w => w = word 0 0 (2 * 128 + r) (i % 128)) (h2 rfl) ?_
    and_intros <;> exact of_lane (word 0 0 _) hl (by decide +kernel)

end Cert.Tab

end
-- ==== Proof.Tab.T1.lean ====
/- The words of the kernel's table 1. -/
module

public import proofs.«01_k».proof.KernelIdeal
public import proofs.«01_k».proof.Proof.Tab.Digit

@[expose] public section

set_option maxRecDepth 16384

noncomputable section

namespace Cert.Tab

open Cert.KernelIdeal

set_option maxHeartbeats 4000000 in
/-- Table 1 at `i` is the word of corner 1 of anchor `i`. -/
theorem table1 (i : ℕ) (hi : i < 36864) : lit1t i = word 1 0 (i / 128) (i % 128) := by
  have hl : i % 128 < 128 := Nat.mod_lt _ (by decide)
  have hr : i / 128 % 128 < 128 := Nat.mod_lt _ (by decide)
  have e0 : i / 128 = i / 16384 * 128 + i / 128 % 128 := by omega
  have hq : i / 16384 < 3 := by omega
  rw [e0]
  unfold lit1t
  have h2 : i / 16384 = 2 → i / 128 % 128 < 32 := by omega
  generalize i / 16384 = q at *
  interval_cases q
  · show lit1t1_0 i = _
    refine of_digit (fun r w => w = word 1 0 (0 * 128 + r) (i % 128)) hr ?_
    and_intros <;> exact of_lane (word 1 0 _) hl (by decide +kernel)
  · show lit1t1_1 i = _
    refine of_digit (fun r w => w = word 1 0 (1 * 128 + r) (i % 128)) hr ?_
    and_intros <;> exact of_lane (word 1 0 _) hl (by decide +kernel)
  · show lit1t1_2 i = _
    refine of_digit_32 (fun r w => w = word 1 0 (2 * 128 + r) (i % 128)) (h2 rfl) ?_
    and_intros <;> exact of_lane (word 1 0 _) hl (by decide +kernel)

end Cert.Tab

end
-- ==== Proof.Tab.T2.lean ====
/- The words of the kernel's table 2. -/
module

public import proofs.«01_k».proof.KernelIdeal
public import proofs.«01_k».proof.Proof.Tab.Digit

@[expose] public section

set_option maxRecDepth 16384

noncomputable section

namespace Cert.Tab

open Cert.KernelIdeal

set_option maxHeartbeats 4000000 in
/-- Table 2 at `i` is the word of corner 2 of anchor `i`. -/
theorem table2 (i : ℕ) (hi : i < 36864) : lit2t i = word 2 0 (i / 128) (i % 128) := by
  have hl : i % 128 < 128 := Nat.mod_lt _ (by decide)
  have hr : i / 128 % 128 < 128 := Nat.mod_lt _ (by decide)
  have e0 : i / 128 = i / 16384 * 128 + i / 128 % 128 := by omega
  have hq : i / 16384 < 3 := by omega
  rw [e0]
  unfold lit2t
  have h2 : i / 16384 = 2 → i / 128 % 128 < 32 := by omega
  generalize i / 16384 = q at *
  interval_cases q
  · show lit2t1_0 i = _
    refine of_digit (fun r w => w = word 2 0 (0 * 128 + r) (i % 128)) hr ?_
    and_intros <;> exact of_lane (word 2 0 _) hl (by decide +kernel)
  · show lit2t1_1 i = _
    refine of_digit (fun r w => w = word 2 0 (1 * 128 + r) (i % 128)) hr ?_
    and_intros <;> exact of_lane (word 2 0 _) hl (by decide +kernel)
  · show lit2t1_2 i = _
    refine of_digit_32 (fun r w => w = word 2 0 (2 * 128 + r) (i % 128)) (h2 rfl) ?_
    and_intros <;> exact of_lane (word 2 0 _) hl (by decide +kernel)

end Cert.Tab

end
-- ==== Proof.Tab.T3.lean ====
/- The words of the kernel's table 3. -/
module

public import proofs.«01_k».proof.KernelIdeal
public import proofs.«01_k».proof.Proof.Tab.Digit

@[expose] public section

set_option maxRecDepth 16384

noncomputable section

namespace Cert.Tab

open Cert.KernelIdeal

set_option maxHeartbeats 4000000 in
/-- Table 3 at `i` is the word of corner 3 of anchor `i`. -/
theorem table3 (i : ℕ) (hi : i < 36864) : lit3t i = word 3 0 (i / 128) (i % 128) := by
  have hl : i % 128 < 128 := Nat.mod_lt _ (by decide)
  have hr : i / 128 % 128 < 128 := Nat.mod_lt _ (by decide)
  have e0 : i / 128 = i / 16384 * 128 + i / 128 % 128 := by omega
  have hq : i / 16384 < 3 := by omega
  rw [e0]
  unfold lit3t
  have h2 : i / 16384 = 2 → i / 128 % 128 < 32 := by omega
  generalize i / 16384 = q at *
  interval_cases q
  · show lit3t1_0 i = _
    refine of_digit (fun r w => w = word 3 0 (0 * 128 + r) (i % 128)) hr ?_
    and_intros <;> exact of_lane (word 3 0 _) hl (by decide +kernel)
  · show lit3t1_1 i = _
    refine of_digit (fun r w => w = word 3 0 (1 * 128 + r) (i % 128)) hr ?_
    and_intros <;> exact of_lane (word 3 0 _) hl (by decide +kernel)
  · show lit3t1_2 i = _
    refine of_digit_32 (fun r w => w = word 3 0 (2 * 128 + r) (i % 128)) (h2 rfl) ?_
    and_intros <;> exact of_lane (word 3 0 _) hl (by decide +kernel)

end Cert.Tab

end
-- ==== Proof.Tab.T4.lean ====
/- The words of the kernel's table 4. -/
module

public import proofs.«01_k».proof.KernelIdeal
public import proofs.«01_k».proof.Proof.Tab.Digit

@[expose] public section

set_option maxRecDepth 16384

noncomputable section

namespace Cert.Tab

open Cert.KernelIdeal

set_option maxHeartbeats 4000000 in
/-- Table 4 at `i` is the word of corner 2 plus one of anchor `i`. -/
theorem table4 (i : ℕ) (hi : i < 36864) : lit4t i = word 2 1 (i / 128) (i % 128) := by
  have hl : i % 128 < 128 := Nat.mod_lt _ (by decide)
  have hr : i / 128 % 128 < 128 := Nat.mod_lt _ (by decide)
  have e0 : i / 128 = i / 16384 * 128 + i / 128 % 128 := by omega
  have hq : i / 16384 < 3 := by omega
  rw [e0]
  unfold lit4t
  have h2 : i / 16384 = 2 → i / 128 % 128 < 32 := by omega
  generalize i / 16384 = q at *
  interval_cases q
  · show lit4t1_0 i = _
    refine of_digit (fun r w => w = word 2 1 (0 * 128 + r) (i % 128)) hr ?_
    and_intros <;> exact of_lane (word 2 1 _) hl (by decide +kernel)
  · show lit4t1_1 i = _
    refine of_digit (fun r w => w = word 2 1 (1 * 128 + r) (i % 128)) hr ?_
    and_intros <;> exact of_lane (word 2 1 _) hl (by decide +kernel)
  · show lit4t1_2 i = _
    refine of_digit_32 (fun r w => w = word 2 1 (2 * 128 + r) (i % 128)) (h2 rfl) ?_
    and_intros <;> exact of_lane (word 2 1 _) hl (by decide +kernel)

end Cert.Tab

end
-- ==== Proof.Tab.T5.lean ====
/- The words of the kernel's table 5. -/
module

public import proofs.«01_k».proof.KernelIdeal
public import proofs.«01_k».proof.Proof.Tab.Digit

@[expose] public section

set_option maxRecDepth 16384

noncomputable section

namespace Cert.Tab

open Cert.KernelIdeal

set_option maxHeartbeats 4000000 in
/-- Table 5 at `i` is the word of corner 3 plus one of anchor `i`. -/
theorem table5 (i : ℕ) (hi : i < 36864) : lit5t i = word 3 1 (i / 128) (i % 128) := by
  have hl : i % 128 < 128 := Nat.mod_lt _ (by decide)
  have hr : i / 128 % 128 < 128 := Nat.mod_lt _ (by decide)
  have e0 : i / 128 = i / 16384 * 128 + i / 128 % 128 := by omega
  have hq : i / 16384 < 3 := by omega
  rw [e0]
  unfold lit5t
  have h2 : i / 16384 = 2 → i / 128 % 128 < 32 := by omega
  generalize i / 16384 = q at *
  interval_cases q
  · show lit5t1_0 i = _
    refine of_digit (fun r w => w = word 3 1 (0 * 128 + r) (i % 128)) hr ?_
    and_intros <;> exact of_lane (word 3 1 _) hl (by decide +kernel)
  · show lit5t1_1 i = _
    refine of_digit (fun r w => w = word 3 1 (1 * 128 + r) (i % 128)) hr ?_
    and_intros <;> exact of_lane (word 3 1 _) hl (by decide +kernel)
  · show lit5t1_2 i = _
    refine of_digit_32 (fun r w => w = word 3 1 (2 * 128 + r) (i % 128)) (h2 rfl) ?_
    and_intros <;> exact of_lane (word 3 1 _) hl (by decide +kernel)

end Cert.Tab

end
-- ==== Proof.Kern.Arrays.lean ====
/- The arrays the kernel's body reads: the anchors' tables, the boxes' corners and areas, the image's size. -/
module

public import proofs.«01_k».proof.Proof.Kern.Read
public import proofs.«01_k».proof.Proof.Tab.Anchors
public import proofs.«01_k».proof.Proof.Tab.T0
public import proofs.«01_k».proof.Proof.Tab.T1
public import proofs.«01_k».proof.Proof.Tab.T2
public import proofs.«01_k».proof.Proof.Tab.T3
public import proofs.«01_k».proof.Proof.Tab.T4
public import proofs.«01_k».proof.Proof.Tab.T5

@[expose] public section

set_option maxRecDepth 8192

noncomputable section

namespace Cert.KernelIdeal.Body

open Cert.KernelIdeal Cert.KernelIdeal.Gen
open Idealize.ShloMosaic Idealize.ShloMosaic.TcCoe Idealize.ShloMosaic.Tactic
open Cert.Spec Cert.Tab

/-- A table read at a place of a plane. -/
theorem table_plane (lit : Fin 36864 → BitVec 32) (t : ℕ → BitVec 32) (hl : ∀ i : Fin 36864, lit i = t i.val) (c : ℕ) (d : ℤ) (hc : c < 9) (hd : 0 ≤ d ∧ d ≤ 1)
    (ht : ∀ i < 36864, t i = word c d (i / 128) (i % 128)) (r : Fin 288) (l : Fin 128) :
    Ideal.ofBits .f32 (lit (S288x128.rowMajor (ix2 r l))) = (((corner (num r.val l.val % 9) (num r.val l.val / 9) c + d : ℤ) : ℝ) : EReal) := by
  have e : (S288x128.rowMajor (ix2 r l)).val = r.val * 128 + l.val := by
    exact Shape.rowMajor_val_two _
  have hlt : r.val * 128 + l.val < 36864 := by omega
  have hv : lit (S288x128.rowMajor (ix2 r l)) = t (r.val * 128 + l.val) := (hl _).trans (congrArg t e)
  rw [hv, ht _ hlt, show (r.val * 128 + l.val) / 128 = r.val by omega, show (r.val * 128 + l.val) % 128 = l.val by omega,
    word_value c d r.val l.val hc hd r.isLt l.isLt]
  have a : num r.val l.val % 9 = (r.val * 128 + l.val) / 4096 := by unfold num; omega
  have b : num r.val l.val / 9 = (r.val * 128 + l.val) % 4096 := by unfold num; omega
  rw [a, b]

/-- A side of an anchor, from the corner plus one. -/
theorem side_eq (x y : ℤ) : (((((y + 1 : ℤ) : ℝ) : EReal) - (((x + 0 : ℤ) : ℝ) : EReal))) = ((y : ℝ) : EReal) - ((x : ℝ) : EReal) + 1 := by
  rw [← EReal.coe_sub, ← EReal.coe_sub, ← EReal.coe_one, ← EReal.coe_add]
  congr 1
  push_cast
  ring

theorem anc_of (r : Fin 288) (l : Fin 128) (c : ℕ) :
    (((corner (num r.val l.val % 9) (num r.val l.val / 9) c + 0 : ℤ) : ℝ) : EReal) = anc (num r.val l.val) c := by
  rw [add_zero]; rfl

variable (m : (ℓ : Loc nD τ sig) → Buf (Elt Ideal) ℓ) (c : Dev nD)

/-- What the body reads. -/
theorem arrs_reads : Reads (arrs m c t0_0)
    (fun g k => (m ((c.tc : Thread nD τ).loc main_arg1) : FVec Ideal S100x5 .f32) (ix2 g (⟨k.val, by omega⟩ : Fin 5)))
    ((m ((c.tc : Thread nD τ).loc main_arg2) : FVec Ideal S1x3 .f32) (ix2 (0 : Fin 1) (0 : Fin 3)))
    ((m ((c.tc : Thread nD τ).loc main_arg2) : FVec Ideal S1x3 .f32) (ix2 (0 : Fin 1) (1 : Fin 3))) := by
  have t0 := table_plane lit0 lit0t (fun _ => rfl) 0 0 (by decide) (by decide) table0
  have t1 := table_plane lit1 lit1t (fun _ => rfl) 1 0 (by decide) (by decide) table1
  have t2 := table_plane lit2 lit2t (fun _ => rfl) 2 0 (by decide) (by decide) table2
  have t3 := table_plane lit3 lit3t (fun _ => rfl) 3 0 (by decide) (by decide) table3
  have t4 := table_plane lit4 lit4t (fun _ => rfl) 2 1 (by decide) (by decide) table4
  have t5 := table_plane lit5 lit5t (fun _ => rfl) 3 1 (by decide) (by decide) table5
  have x1 : ∀ g : Fin 100, (arrs m c t0_0).x1 (ix1 g) = (m ((c.tc : Thread nD τ).loc main_arg1) : FVec Ideal S100x5 .f32) (ix2 g 0) := fun g => by
    rw [arrs_x1]; pointwise
  have y1 : ∀ g : Fin 100, (arrs m c t0_0).y1 (ix1 g) = (m ((c.tc : Thread nD τ).loc main_arg1) : FVec Ideal S100x5 .f32) (ix2 g 1) := fun g => by
    rw [arrs_y1]; pointwise
  have x2 : ∀ g : Fin 100, (arrs m c t0_0).x2 (ix1 g) = (m ((c.tc : Thread nD τ).loc main_arg1) : FVec Ideal S100x5 .f32) (ix2 g 2) := fun g => by
    rw [arrs_x2]; pointwise
  have y2 : ∀ g : Fin 100, (arrs m c t0_0).y2 (ix1 g) = (m ((c.tc : Thread nD τ).loc main_arg1) : FVec Ideal S100x5 .f32) (ix2 g 3) := fun g => by
    rw [arrs_y2]; pointwise
  refine ⟨fun r l => ?_, fun r l => ?_, fun r l => ?_, fun r l => ?_, fun r l => ?_, fun r l => ?_, x1, y1, x2, y2, fun g => ?_, ?_, ?_⟩
  · rw [arrs_ax1]; exact (t0 r l).trans (anc_of r l 0)
  · rw [arrs_ay1]; exact (t1 r l).trans (anc_of r l 1)
  · rw [arrs_ax2]; exact (t2 r l).trans (anc_of r l 2)
  · rw [arrs_ay2]; exact (t3 r l).trans (anc_of r l 3)
  · rw [arrs_ax2p, arrs_ax1]
    exact (congrArg₂ (fun x y : EReal => x - y) (t4 r l) (t0 r l)).trans (side_eq _ _)
  · rw [arrs_ay2p, arrs_ay1]
    exact (congrArg₂ (fun x y : EReal => x - y) (t5 r l) (t1 r l)).trans (side_eq _ _)
  · rw [arrs_ar]
    generalize (arrs m c t0_0).x1 = a at x1 ⊢
    generalize (arrs m c t0_0).x2 = b at x2 ⊢
    generalize (arrs m c t0_0).y1 = a' at y1 ⊢
    generalize (arrs m c t0_0).y2 = b' at y2 ⊢
    pointwise
    rw [x1, x2, y1, y2]
  · show iblk m c 5 t0_0 (ix1 0) = _
    rw [arrs_im]; pointwise
  · show iblk m c 5 t0_0 (ix1 1) = _
    rw [arrs_im]; pointwise

end Cert.KernelIdeal.Body

end
-- ==== Proof.Math.Box.lean ====
/- What the precondition says of the boxes. -/
module

public import proofs.«01_k».proof.Pre_some_box
public import proofs.«01_k».proof.Proof.Math.Consts
public import Idealize.ShloMosaic.Lib.Pointwise
public import Idealize.ShloMosaic.Lib.Routing.OpsOrder

@[expose] public section

noncomputable section

namespace Cert.Pre_some_box

open Idealize.ShloMosaic Idealize.ShloMosaic.Tactic Cert.Spec Cert.Tab

/-- The shapes the precondition's operations take. -/
theorem facts : Facts where
  slices_S100x5_S100x1_0_0 := by decide
  shapeCasts_S100x1_S100 := by decide
  slices_S100x5_S100x1_0_2 := by decide
  slices_S100x5_S100x1_0_1 := by decide
  slices_S100x5_S100x1_0_3 := by decide
  reducesTo_S100_S_d0 := by decide
  h_S_ := by decide

/-- Some box has its corners in order. -/
theorem some_box [Facts] (a0 : FVec Ideal S1x18x64x64 .f32) (a1 : FVec Ideal S100x5 .f32) (a2 : FVec Ideal S1x3 .f32)
    (h : fn (F := Ideal) a0 a1 a2 = fun _ => 1#1) :
    ∃ g : Fin 100, (a1 (ix2 g 0) : EReal) ≤ a1 (ix2 g 2) ∧ (a1 (ix2 g 1) : EReal) ≤ a1 (ix2 g 3) := by
  have e := congrFun h ix0
  unfold fn at e
  simp only at e
  revert e
  pointwise
  rw [Routing.fold_ori]
  rintro ⟨g, _, hg⟩
  rw [andi_one] at hg
  exact ⟨g, (ofBool_one _).1 hg.1, (ofBool_one _).1 hg.2⟩

end Cert.Pre_some_box

end
-- ==== Proof.Math.Defined.lean ====
/- With one box whose corners are in order no anchor has all its overlaps minus infinity. -/
module

public import proofs.«01_k».proof.Proof.Math.Consts

@[expose] public section

noncomputable section

namespace Cert.Spec

open Idealize.ShloMosaic Cert.Tab

/-- A side of an anchor is at least 1. -/
theorem base_side : ∀ a : Fin 9, base a.val 0 ≤ base a.val 2 ∧ base a.val 1 ≤ base a.val 3 := by decide +kernel

theorem anc_side (k : ℕ) : anc k 0 ≤ anc k 2 ∧ anc k 1 ≤ anc k 3 := by
  have h := base_side ⟨k % 9, Nat.mod_lt _ (by decide)⟩
  simp only at h
  constructor
  · show (((_ : ℤ) : ℝ) : EReal) ≤ (((_ : ℤ) : ℝ) : EReal)
    rw [EReal.coe_le_coe_iff, Int.cast_le]
    exact add_le_add h.1 le_rfl
  · show (((_ : ℤ) : ℝ) : EReal) ≤ (((_ : ℤ) : ℝ) : EReal)
    rw [EReal.coe_le_coe_iff, Int.cast_le]
    exact add_le_add h.2 le_rfl

/-- An anchor's corners are real numbers. -/
theorem anc_real (k c : ℕ) : ∃ x : ℝ, anc k c = (x : EReal) := ⟨_, rfl⟩

/-- What one axis shares is a real number that is not negative. -/
theorem side_real (a0 a2 : ℝ) (g0 g2 : EReal) : ∃ x : ℝ, 0 ≤ x ∧ max (min (a2 : EReal) g2 - max (a0 : EReal) g0 + 1) 0 = (x : EReal) := by
  have h0 : (0 : EReal) ≤ max (min (a2 : EReal) g2 - max (a0 : EReal) g0 + 1) 0 := le_max_right _ _
  have h1 : max (min (a2 : EReal) g2 - max (a0 : EReal) g0 + 1) 0 ≤ (((max (a2 - a0 + 1) 0 : ℝ)) : EReal) := by
    have : min (a2 : EReal) g2 - max (a0 : EReal) g0 ≤ ((a2 - a0 : ℝ) : EReal) := by
      rw [EReal.coe_sub]
      exact EReal.sub_le_sub (min_le_left _ _) (le_max_left _ _)
    refine max_le ?_ (by exact_mod_cast le_max_right _ _)
    refine (add_le_add_left this 1).trans ?_
    exact_mod_cast le_max_left _ _
  refine ⟨(max (min (a2 : EReal) g2 - max (a0 : EReal) g0 + 1) 0).toReal, EReal.toReal_nonneg h0, ?_⟩
  rw [EReal.coe_toReal]
  · intro e; rw [e] at h1; exact (EReal.coe_lt_top _).not_ge h1
  · intro e; rw [e] at h0; exact EReal.bot_lt_zero.not_ge h0

/-- The inverse of an extended real is a real number. -/
theorem inv_real (y : EReal) : ∃ x : ℝ, y⁻¹ = (x : EReal) := by
  induction y with
  | bot => exact ⟨0, by simp⟩
  | top => exact ⟨0, by simp⟩
  | coe y => exact ⟨y⁻¹, rfl⟩

/-- A quotient of a real number that is not negative is minus infinity only as zero by zero. -/
theorem div_bot (x : ℝ) (hx : 0 ≤ x) (y : EReal) (h : Ideal.div (x : EReal) y = ⊥) : x = 0 ∧ y = 0 := by
  unfold Ideal.div at h
  split at h
  · rename_i hy
    split at h
    · exact absurd h (by simp)
    · rename_i hn
      refine ⟨le_antisymm ?_ hx, hy⟩
      have := not_lt.mp hn
      exact_mod_cast this
  · obtain ⟨z, hz⟩ := inv_real y
    rw [hz, ← EReal.coe_mul] at h
    exact absurd h (EReal.coe_ne_bot _)

theorem one_le_top_add_one : (1 : EReal) ≤ ⊤ + 1 := by
  show (1 : EReal) ≤ ⊤ + ((1 : ℝ) : EReal)
  rw [EReal.top_add_coe]
  exact le_top

/-- A side of a box with its corners in order is minus infinity or at least 1. -/
theorem box_side (a b : EReal) (h : a ≤ b) : b - a + 1 = ⊥ ∨ 1 ≤ b - a + 1 := by
  induction a with
  | bot =>
    induction b with
    | bot => left; simp
    | top => right; simpa using one_le_top_add_one
    | coe b => right; simpa using one_le_top_add_one
  | top =>
    have : b = ⊤ := top_le_iff.mp h
    subst this; left; simp
  | coe a =>
    induction b with
    | bot => exact absurd h (by simp)
    | top => right; simpa using one_le_top_add_one
    | coe b =>
      right
      have h' : a ≤ b := by exact_mod_cast h
      have : (1 : ℝ) ≤ b - a + 1 := by linarith
      exact_mod_cast this

/-- A product of sides is infinite or positive. -/
theorem box_area (x y : EReal) (hx : x = ⊥ ∨ 1 ≤ x) (hy : y = ⊥ ∨ 1 ≤ y) : x * y = ⊥ ∨ 0 < x * y := by
  rcases hx with rfl | hx <;> rcases hy with rfl | hy
  · right; simp
  · left; exact EReal.bot_mul_of_pos (lt_of_lt_of_le one_pos hy)
  · left; exact EReal.mul_bot_of_pos (lt_of_lt_of_le one_pos hx)
  · right; exact EReal.mul_pos (lt_of_lt_of_le one_pos hx) (lt_of_lt_of_le one_pos hy)

/-- With a box whose corners are in order every anchor has an overlap that is not minus infinity. -/
theorem defined (G : Fin 100 → Fin 4 → EReal) (H W : EReal) (g : Fin 100) (hx : G g 0 ≤ G g 2) (hy : G g 1 ≤ G g 3) (k : ℕ) :
    ∃ g, ov G H W k g ≠ ⊥ := by
  refine ⟨g, fun e => ?_⟩
  unfold ov at e
  split at e
  · obtain ⟨a, ha, ea⟩ := side_real (corner (k % 9) (k / 9) 0 : ℤ) (corner (k % 9) (k / 9) 2 : ℤ) (G g 0) (G g 2)
    obtain ⟨b, hb, eb⟩ := side_real (corner (k % 9) (k / 9) 1 : ℤ) (corner (k % 9) (k / 9) 3 : ℤ) (G g 1) (G g 3)
    have ei : inter G k g = ((a * b : ℝ) : EReal) := by
      rw [EReal.coe_mul, ← ea, ← eb]; rfl
    rw [ei] at e
    obtain ⟨h0, hu⟩ := div_bot _ (mul_nonneg ha hb) _ e
    rw [h0] at hu
    have hs := anc_side k
    have ho : 0 < (anc k 2 - anc k 0 + 1) * (anc k 3 - anc k 1 + 1) := by
      obtain ⟨x0, e0⟩ := anc_real k 0
      obtain ⟨x1, e1⟩ := anc_real k 1
      obtain ⟨x2, e2⟩ := anc_real k 2
      obtain ⟨x3, e3⟩ := anc_real k 3
      rw [e0, e1, e2, e3] at hs ⊢
      have s1 : x0 ≤ x2 := by exact_mod_cast hs.1
      have s2 : x1 ≤ x3 := by exact_mod_cast hs.2
      have : (0 : ℝ) < (x2 - x0 + 1) * (x3 - x1 + 1) := mul_pos (by linarith) (by linarith)
      exact_mod_cast this
    simp only [EReal.coe_zero, sub_zero] at hu
    rcases box_area _ _ (box_side _ _ hx) (box_side _ _ hy) with hA | hA
    · rw [hA, EReal.add_bot] at hu
      exact absurd hu (by simp)
    · exact absurd hu (lt_of_lt_of_le ho (le_add_of_nonneg_right hA.le)).ne'
  · exact absurd e (by decide)

end Cert.Spec

end
-- ==== Proof.Ref.Run.lean ====
/- The rest of the operations, and the reference's run: each result at its term, the arguments unchanged. -/
module

public import proofs.«01_k».proof.Proof.Ref.Vals

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v191, main_v192, main_v193, main_cst_35, main_v194, main_v195, main_v196, main_v197, main_v198, main_v199, main_v200, main_cst_36]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_arg2 (V0 : Valuation τ sig (Elt F)) : val4 V0 (no_index (Proc.devRef .tc main_arg2)) = V0 (Proc.devRef .tc main_arg2) :=
  (val4_keep V0 main_arg2 (by decide)).trans (val3_2_main_arg2 V0)
theorem val4_main_v22 (V0 : Valuation τ sig (Elt F)) : val4 V0 (no_index (Proc.devRef .tc main_v22)) = res_main_v22 V0 :=
  (val4_keep V0 main_v22 (by decide)).trans (val3_2_main_v22 V0)
theorem val4_main_v46 (V0 : Valuation τ sig (Elt F)) : val4 V0 (no_index (Proc.devRef .tc main_v46)) = res_main_v46 V0 :=
  (val4_keep V0 main_v46 (by decide)).trans (val3_2_main_v46 V0)
theorem val4_main_v179 (V0 : Valuation τ sig (Elt F)) : val4 V0 (no_index (Proc.devRef .tc main_v179)) = res_main_v179 V0 :=
  (val4_keep V0 main_v179 (by decide)).trans (val3_2_main_v179 V0)
theorem val4_main_v188 (V0 : Valuation τ sig (Elt F)) : val4 V0 (no_index (Proc.devRef .tc main_v188)) = res_main_v188 V0 :=
  (val4_keep V0 main_v188 (by decide)).trans (val3_2_main_v188 V0)
set_option maxRecDepth 8192 in
set_option maxHeartbeats 1200000 in
theorem val4_main_v195 (V0 : Valuation τ sig (Elt F)) : val4 V0 (no_index (Proc.devRef .tc main_v195)) = res_main_v195 V0 := by
  unfold val4
  simp only [ops_part3_2]
  after_results_simp
  simp only [val3_2_main_v22, val3_2_main_v190] <;> rfl
set_option maxRecDepth 8192 in
set_option maxHeartbeats 1200000 in
theorem val4_main_v200 (V0 : Valuation τ sig (Elt F)) : val4 V0 (no_index (Proc.devRef .tc main_v200)) = subf (shapeCast _ (extractStridedSlice S36864x1 ![0, 3] (res_main_v22 V0) slices_S36864x4_S36864x1_0_3) shapeCasts_S36864x1_S36864) (shapeCast _ (extractStridedSlice S36864x1 ![0, 1] (res_main_v22 V0) slices_S36864x4_S36864x1_0_1) shapeCasts_S36864x1_S36864) := by
  unfold val4
  simp only [ops_part3_2]
  after_results_simp
  simp only [val3_2_main_v22] <;> rfl
set_option maxRecDepth 8192 in
set_option maxHeartbeats 1200000 in
theorem val4_main_cst_36 (V0 : Valuation τ sig (Elt F)) : val4 V0 (no_index (Proc.devRef .tc main_cst_36)) = constant S_ .f32 0x3F800000#32 := by
  unfold val4
  simp only [ops_part3_2]
  after_results_simp
  all_goals rfl

/-- The device's buffer contents after @main's first 292 operations. -/
def val4_1 (V0 : Valuation τ sig (Elt F)) : Valuation τ sig (Elt F) := after ops_part4_0 (val4 V0)
/-- The buffers that window `ops_part4_0`'s operations write. -/
abbrev ops_part4_0_W : List (Ref sig .tc) := [main_v201, main_v202, main_v203, main_v204, main_cst_37, main_v205, main_v206, main_v207, main_v208, main_v209, main_cst_38, main_v210, main_v211, main_v212, main_v213, main_v214, main_v215, main_v216, main_v217, main_cst_39, main_v218, main_v219, main_v220, main_v221, main_v222, main_v223, main_v224, main_cst_40, main_v225, main_v226]
set_option maxRecDepth 8192 in
theorem ops_part4_0_writes : (ops_part4_0 : List (HloOp τ sig (Elt F))).Forall fun op => op.writes ⊆ (ops_part4_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_0` does not write keeps its contents through it. -/
theorem val4_1_keep (V0 : Valuation τ sig (Elt F)) (r : Ref sig .tc) (h : r ∉ ops_part4_0_W) :
    val4_1 V0 (Proc.devRef .tc r) = val4 V0 (Proc.devRef .tc r) :=
  after_of_writes_sub ops_part4_0 _ ops_part4_0_writes h
theorem val4_1_main_arg0 (V0 : Valuation τ sig (Elt F)) : val4_1 V0 (no_index (Proc.devRef .tc main_arg0)) = V0 (Proc.devRef .tc main_arg0) :=
  (val4_1_keep V0 main_arg0 (by decide)).trans (val4_main_arg0 V0)
theorem val4_1_main_arg1 (V0 : Valuation τ sig (Elt F)) : val4_1 V0 (no_index (Proc.devRef .tc main_arg1)) = V0 (Proc.devRef .tc main_arg1) :=
  (val4_1_keep V0 main_arg1 (by decide)).trans (val4_main_arg1 V0)
theorem val4_1_main_arg2 (V0 : Valuation τ sig (Elt F)) : val4_1 V0 (no_index (Proc.devRef .tc main_arg2)) = V0 (Proc.devRef .tc main_arg2) :=
  (val4_1_keep V0 main_arg2 (by decide)).trans (val4_main_arg2 V0)
theorem val4_1_main_v46 (V0 : Valuation τ sig (Elt F)) : val4_1 V0 (no_index (Proc.devRef .tc main_v46)) = res_main_v46 V0 :=
  (val4_1_keep V0 main_v46 (by decide)).trans (val4_main_v46 V0)
theorem val4_1_main_v179 (V0 : Valuation τ sig (Elt F)) : val4_1 V0 (no_index (Proc.devRef .tc main_v179)) = res_main_v179 V0 :=
  (val4_1_keep V0 main_v179 (by decide)).trans (val4_main_v179 V0)
theorem val4_1_main_v188 (V0 : Valuation τ sig (Elt F)) : val4_1 V0 (no_index (Proc.devRef .tc main_v188)) = res_main_v188 V0 :=
  (val4_1_keep V0 main_v188 (by decide)).trans (val4_main_v188 V0)
theorem val4_1_main_v195 (V0 : Valuation τ sig (Elt F)) : val4_1 V0 (no_index (Proc.devRef .tc main_v195)) = res_main_v195 V0 :=
  (val4_1_keep V0 main_v195 (by decide)).trans (val4_main_v195 V0)
set_option maxRecDepth 8192 in
set_option maxHeartbeats 2000000 in
theorem val4_1_main_v202 (V0 : Valuation τ sig (Elt F)) : val4_1 V0 (no_index (Proc.devRef .tc main_v202)) = res_main_v202 V0 := by
  unfold val4_1
  simp only [ops_part4_0]
  after_results_simp
  simp only [val4_main_cst_36, val4_main_v200] <;> rfl
set_option maxRecDepth 8192 in
set_option maxHeartbeats 2000000 in
theorem val4_1_main_v207 (V0 : Valuation τ sig (Elt F)) : val4_1 V0 (no_index (Proc.devRef .tc main_v207)) = addf (shapeCast _ (extractStridedSlice S36864x1 ![0, 0] (res_main_v22 V0) slices_S36864x4_S36864x1_0_0) shapeCasts_S36864x1_S36864) (mulf (broadcastInDim S36864 ![] bcast_S_S36864 (constant S_ .f32 0x3F000000#32)) (res_main_v195 V0)) := by
  unfold val4_1
  simp only [ops_part4_0]
  after_results_simp
  simp only [val4_main_v195, val4_main_v22] <;> rfl
set_option maxRecDepth 8192 in
set_option maxHeartbeats 2000000 in
theorem val4_1_main_v212 (V0 : Valuation τ sig (Elt F)) : val4_1 V0 (no_index (Proc.devRef .tc main_v212)) = addf (shapeCast _ (extractStridedSlice S36864x1 ![0, 1] (res_main_v22 V0) slices_S36864x4_S36864x1_0_1) shapeCasts_S36864x1_S36864) (mulf (broadcastInDim S36864 ![] bcast_S_S36864 (constant S_ .f32 0x3F000000#32)) (res_main_v202 V0)) := by
  unfold val4_1
  simp only [ops_part4_0]
  after_results_simp
  simp only [val4_main_cst_36, val4_main_v200, val4_main_v22] <;> rfl
set_option maxRecDepth 8192 in
set_option maxHeartbeats 2000000 in
theorem val4_1_main_v219 (V0 : Valuation τ sig (Elt F)) : val4_1 V0 (no_index (Proc.devRef .tc main_v219)) = res_main_v219 V0 := by
  unfold val4_1
  simp only [ops_part4_0]
  after_results_simp
  simp only [val4_main_v188] <;> rfl
set_option maxRecDepth 8192 in
set_option maxHeartbeats 2000000 in
theorem val4_1_main_v226 (V0 : Valuation τ sig (Elt F)) : val4_1 V0 (no_index (Proc.devRef .tc main_v226)) = res_main_v226 V0 := by
  unfold val4_1
  simp only [ops_part4_0]
  after_results_simp
  simp only [val4_main_v188] <;> rfl

/-- The device's buffer contents after @main's first 322 operations. -/
def val4_2 (V0 : Valuation τ sig (Elt F)) : Valuation τ sig (Elt F) := after ops_part4_1 (val4_1 V0)
/-- The buffers that window `ops_part4_1`'s operations write. -/
abbrev ops_part4_1_W : List (Ref sig .tc) := [main_v227, main_v228, main_cst_41, main_v229, main_v230, main_v231, main_v232, main_v233, main_cst_42, main_v234, main_v235, main_v236, main_v237, main_v238, main_v239, main_v240, main_v241, main_v242, main_v243, main_v244, main_v245, main_v246, main_v247, main_v248, main_v249, main_v250, main_cst_43, main_call10_v0, main_call10_v1, main_call10_v2]
set_option maxRecDepth 8192 in
theorem ops_part4_1_writes : (ops_part4_1 : List (HloOp τ sig (Elt F))).Forall fun op => op.writes ⊆ (ops_part4_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_1` does not write keeps its contents through it. -/
theorem val4_2_keep (V0 : Valuation τ sig (Elt F)) (r : Ref sig .tc) (h : r ∉ ops_part4_1_W) :
    val4_2 V0 (Proc.devRef .tc r) = val4_1 V0 (Proc.devRef .tc r) :=
  after_of_writes_sub ops_part4_1 _ ops_part4_1_writes h
theorem val4_2_main_arg0 (V0 : Valuation τ sig (Elt F)) : val4_2 V0 (no_index (Proc.devRef .tc main_arg0)) = V0 (Proc.devRef .tc main_arg0) :=
  (val4_2_keep V0 main_arg0 (by decide)).trans (val4_1_main_arg0 V0)
theorem val4_2_main_arg1 (V0 : Valuation τ sig (Elt F)) : val4_2 V0 (no_index (Proc.devRef .tc main_arg1)) = V0 (Proc.devRef .tc main_arg1) :=
  (val4_2_keep V0 main_arg1 (by decide)).trans (val4_1_main_arg1 V0)
theorem val4_2_main_arg2 (V0 : Valuation τ sig (Elt F)) : val4_2 V0 (no_index (Proc.devRef .tc main_arg2)) = V0 (Proc.devRef .tc main_arg2) :=
  (val4_2_keep V0 main_arg2 (by decide)).trans (val4_1_main_arg2 V0)
theorem val4_2_main_v179 (V0 : Valuation τ sig (Elt F)) : val4_2 V0 (no_index (Proc.devRef .tc main_v179)) = res_main_v179 V0 :=
  (val4_2_keep V0 main_v179 (by decide)).trans (val4_1_main_v179 V0)
set_option maxRecDepth 8192 in
set_option maxHeartbeats 2000000 in
theorem val4_2_main_v249 (V0 : Valuation τ sig (Elt F)) : val4_2 V0 (no_index (Proc.devRef .tc main_v249)) = (concatenate S36864x4 1 [⟨S36864x1, ((broadcastInDim S36864x1 ![0] bcast_S36864_S36864x1_0 (Host.divf (subf (addf (shapeCast _ (extractStridedSlice S36864x1 ![0, 0] (res_main_v188 V0) slices_S36864x4_S36864x1_0_0) shapeCasts_S36864x1_S36864) (mulf (broadcastInDim S36864 ![] bcast_S_S36864 (constant S_ .f32 0x3F000000#32)) (res_main_v219 V0))) (addf (shapeCast _ (extractStridedSlice S36864x1 ![0, 0] (res_main_v22 V0) slices_S36864x4_S36864x1_0_0) shapeCasts_S36864x1_S36864) (mulf (broadcastInDim S36864 ![] bcast_S_S36864 (constant S_ .f32 0x3F000000#32)) (res_main_v195 V0)))) (res_main_v195 V0))) : (⟨S36864x1, .f32⟩ : BufTy).Contents (Elt F))⟩, ⟨S36864x1, ((broadcastInDim S36864x1 ![0] bcast_S36864_S36864x1_0 (Host.divf (subf (addf (shapeCast _ (extractStridedSlice S36864x1 ![0, 1] (res_main_v188 V0) slices_S36864x4_S36864x1_0_1) shapeCasts_S36864x1_S36864) (mulf (broadcastInDim S36864 ![] bcast_S_S36864 (constant S_ .f32 0x3F000000#32)) (res_main_v226 V0))) (addf (shapeCast _ (extractStridedSlice S36864x1 ![0, 1] (res_main_v22 V0) slices_S36864x4_S36864x1_0_1) shapeCasts_S36864x1_S36864) (mulf (broadcastInDim S36864 ![] bcast_S_S36864 (constant S_ .f32 0x3F000000#32)) (res_main_v202 V0)))) (res_main_v202 V0))) : (⟨S36864x1, .f32⟩ : BufTy).Contents (Elt F))⟩, ⟨S36864x1, ((broadcastInDim S36864x1 ![0] bcast_S36864_S36864x1_0 (Host.log (Host.divf (res_main_v219 V0) (res_main_v195 V0)))) : (⟨S36864x1, .f32⟩ : BufTy).Contents (Elt F))⟩, ⟨S36864x1, ((broadcastInDim S36864x1 ![0] bcast_S36864_S36864x1_0 (Host.log (Host.divf (res_main_v226 V0) (res_main_v202 V0)))) : (⟨S36864x1, .f32⟩ : BufTy).Contents (Elt F))⟩] concatenates_S36864x1_S36864x1_S36864x1_S36864x1_S36864x4_d1 : (⟨S36864x4, .f32⟩ : BufTy).Contents (Elt F)) := by
  unfold val4_2
  simp only [ops_part4_1, TRef.unary, TRef.toBuf, TRef.ofBuf, cast_eq]
  after_results_simp
  try dsimp only [Matrix.cons_val]
  try after_results_simp
  simp only [val4_1_main_v202, val4_1_main_v226, val4_1_main_v195, val4_1_main_v219, val4_1_main_v212, val4_1_main_v188, val4_1_main_v207] <;> rfl
set_option maxRecDepth 8192 in
set_option maxHeartbeats 2000000 in
theorem val4_2_main_call10_v1 (V0 : Valuation τ sig (Elt F)) : val4_2 V0 (no_index (Proc.devRef .tc main_call10_v1)) = broadcastInDim S36864x4 ![0, 1] bcast_S36864x1_S36864x4_0_1 (broadcastInDim S36864x1 ![0] bcast_S36864_S36864x1_0 (res_main_v46 V0)) := by
  unfold val4_2
  simp only [ops_part4_1, TRef.unary, TRef.toBuf, TRef.ofBuf, cast_eq]
  after_results_simp
  try dsimp only [Matrix.cons_val]
  try after_results_simp
  simp only [val4_1_main_v46] <;> rfl
set_option maxRecDepth 8192 in
set_option maxHeartbeats 2000000 in
theorem val4_2_main_call10_v2 (V0 : Valuation τ sig (Elt F)) : val4_2 V0 (no_index (Proc.devRef .tc main_call10_v2)) = broadcastInDim S36864x4 ![] bcast_S_S36864x4 (id (constant S_ .f32 0x00000000#32)) := by
  unfold val4_2
  simp only [ops_part4_1, TRef.unary, TRef.toBuf, TRef.ofBuf, cast_eq]
  after_results_simp
  try dsimp only [Matrix.cons_val]
  try after_results_simp
  all_goals rfl

/-- The device's buffer contents after @main's first 5 windows. -/
def val5 (V0 : Valuation τ sig (Elt F)) : Valuation τ sig (Elt F) := after ops_part4_2 (val4_2 V0)
/-- The buffers that window `ops_part4_2`'s operations write. -/
abbrev ops_part4_2_W : List (Ref sig .tc) := [main_v251, main_cst_44, main_v252]
set_option maxRecDepth 8192 in
theorem ops_part4_2_writes : (ops_part4_2 : List (HloOp τ sig (Elt F))).Forall fun op => op.writes ⊆ (ops_part4_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_2` does not write keeps its contents through it. -/
theorem val5_keep (V0 : Valuation τ sig (Elt F)) (r : Ref sig .tc) (h : r ∉ ops_part4_2_W) :
    val5 V0 (Proc.devRef .tc r) = val4_2 V0 (Proc.devRef .tc r) :=
  after_of_writes_sub ops_part4_2 _ ops_part4_2_writes h
theorem val5_main_arg0 (V0 : Valuation τ sig (Elt F)) : val5 V0 (no_index (Proc.devRef .tc main_arg0)) = V0 (Proc.devRef .tc main_arg0) :=
  (val5_keep V0 main_arg0 (by decide)).trans (val4_2_main_arg0 V0)
theorem val5_main_arg1 (V0 : Valuation τ sig (Elt F)) : val5 V0 (no_index (Proc.devRef .tc main_arg1)) = V0 (Proc.devRef .tc main_arg1) :=
  (val5_keep V0 main_arg1 (by decide)).trans (val4_2_main_arg1 V0)
theorem val5_main_arg2 (V0 : Valuation τ sig (Elt F)) : val5 V0 (no_index (Proc.devRef .tc main_arg2)) = V0 (Proc.devRef .tc main_arg2) :=
  (val5_keep V0 main_arg2 (by decide)).trans (val4_2_main_arg2 V0)
theorem val5_main_v179 (V0 : Valuation τ sig (Elt F)) : val5 V0 (no_index (Proc.devRef .tc main_v179)) = res_main_v179 V0 :=
  (val5_keep V0 main_v179 (by decide)).trans (val4_2_main_v179 V0)
set_option maxRecDepth 8192 in
theorem val5_main_v251 (V0 : Valuation τ sig (Elt F)) : val5 V0 (no_index (Proc.devRef .tc main_v251)) = select (broadcastInDim S36864x4 ![0, 1] bcast_S36864x1_S36864x4_0_1 (broadcastInDim S36864x1 ![0] bcast_S36864_S36864x1_0 (res_main_v46 V0))) ((concatenate S36864x4 1 [⟨S36864x1, ((broadcastInDim S36864x1 ![0] bcast_S36864_S36864x1_0 (Host.divf (subf (addf (shapeCast _ (extractStridedSlice S36864x1 ![0, 0] (res_main_v188 V0) slices_S36864x4_S36864x1_0_0) shapeCasts_S36864x1_S36864) (mulf (broadcastInDim S36864 ![] bcast_S_S36864 (constant S_ .f32 0x3F000000#32)) (res_main_v219 V0))) (addf (shapeCast _ (extractStridedSlice S36864x1 ![0, 0] (res_main_v22 V0) slices_S36864x4_S36864x1_0_0) shapeCasts_S36864x1_S36864) (mulf (broadcastInDim S36864 ![] bcast_S_S36864 (constant S_ .f32 0x3F000000#32)) (res_main_v195 V0)))) (res_main_v195 V0))) : (⟨S36864x1, .f32⟩ : BufTy).Contents (Elt F))⟩, ⟨S36864x1, ((broadcastInDim S36864x1 ![0] bcast_S36864_S36864x1_0 (Host.divf (subf (addf (shapeCast _ (extractStridedSlice S36864x1 ![0, 1] (res_main_v188 V0) slices_S36864x4_S36864x1_0_1) shapeCasts_S36864x1_S36864) (mulf (broadcastInDim S36864 ![] bcast_S_S36864 (constant S_ .f32 0x3F000000#32)) (res_main_v226 V0))) (addf (shapeCast _ (extractStridedSlice S36864x1 ![0, 1] (res_main_v22 V0) slices_S36864x4_S36864x1_0_1) shapeCasts_S36864x1_S36864) (mulf (broadcastInDim S36864 ![] bcast_S_S36864 (constant S_ .f32 0x3F000000#32)) (res_main_v202 V0)))) (res_main_v202 V0))) : (⟨S36864x1, .f32⟩ : BufTy).Contents (Elt F))⟩, ⟨S36864x1, ((broadcastInDim S36864x1 ![0] bcast_S36864_S36864x1_0 (Host.log (Host.divf (res_main_v219 V0) (res_main_v195 V0)))) : (⟨S36864x1, .f32⟩ : BufTy).Contents (Elt F))⟩, ⟨S36864x1, ((broadcastInDim S36864x1 ![0] bcast_S36864_S36864x1_0 (Host.log (Host.divf (res_main_v226 V0) (res_main_v202 V0)))) : (⟨S36864x1, .f32⟩ : BufTy).Contents (Elt F))⟩] concatenates_S36864x1_S36864x1_S36864x1_S36864x1_S36864x4_d1 : (⟨S36864x4, .f32⟩ : BufTy).Contents (Elt F))) (broadcastInDim S36864x4 ![] bcast_S_S36864x4 (id (constant S_ .f32 0x00000000#32))) := by
  unfold val5
  simp only [ops_part4_2, TRef.ternary, TRef.toBuf, TRef.ofBuf, cast_eq]
  after_results_simp
  simp only [val4_2_main_call10_v2, val4_2_main_v249, val4_2_main_call10_v1] <;> rfl
set_option maxRecDepth 8192 in
theorem val5_main_v252 (V0 : Valuation τ sig (Elt F)) : val5 V0 (no_index (Proc.devRef .tc main_v252)) = broadcastInDim S36864 ![] bcast_S_S36864 (constant S_ .f32 0x3F800000#32) := by
  unfold val5
  simp only [ops_part4_2, TRef.ternary, TRef.toBuf, TRef.ofBuf, cast_eq]
  after_results_simp
  all_goals rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v253, main_v254, main_cst_45, main_cst_46, main_call11_v0, main_call11_v1, main_v255, main_cst_47, main_v256, main_v257, main_v258, main_v259, main_v260, main_cst_48, main_v261, main_v262, main_v263, main_c_49, main_v264, main_v265, main_cst_50, main_v266, main_v267, main_v268, main_cst_51, main_v269, main_cst_52, main_call12_v0, main_call12_v1, main_call12_v2, main_v270, main_cst_53, main_v271, main_v272, main_v273, main_v274, main_v275, main_v276, main_v277, main_v278, main_v279, main_v280, main_v281, main_v282, main_v283]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
set_option maxRecDepth 8192 in
set_option maxHeartbeats 2000000 in
theorem val6_main_v277 (V0 : Valuation τ sig (Elt F)) : val6 V0 (no_index (Proc.devRef .tc main_v277)) = shapeCast _ (transpose S1x9x64x64 [0, 3, 1, 2] (shapeCast _ (res_main_v179 V0) shapeCasts_S36864_S1x64x64x9) transposes_S1x64x64x9_S1x9x64x64_0_3_1_2) shapeCasts_S1x9x64x64_S1x1x576x64 := by
  unfold val6
  simp only [ops_part5, TRef.ternary, TRef.unary, TRef.toBuf, TRef.ofBuf, cast_eq]
  after_results_simp
  simp only [val5_main_v179] <;> rfl
set_option maxRecDepth 8192 in
set_option maxHeartbeats 2000000 in
theorem val6_main_v279 (V0 : Valuation τ sig (Elt F)) : val6 V0 (no_index (Proc.devRef .tc main_v279)) = transpose S1x36x64x64 [0, 3, 1, 2] (shapeCast _ (select (broadcastInDim S36864x4 ![0, 1] bcast_S36864x1_S36864x4_0_1 (broadcastInDim S36864x1 ![0] bcast_S36864_S36864x1_0 (res_main_v46 V0))) ((concatenate S36864x4 1 [⟨S36864x1, ((broadcastInDim S36864x1 ![0] bcast_S36864_S36864x1_0 (Host.divf (subf (addf (shapeCast _ (extractStridedSlice S36864x1 ![0, 0] (res_main_v188 V0) slices_S36864x4_S36864x1_0_0) shapeCasts_S36864x1_S36864) (mulf (broadcastInDim S36864 ![] bcast_S_S36864 (constant S_ .f32 0x3F000000#32)) (res_main_v219 V0))) (addf (shapeCast _ (extractStridedSlice S36864x1 ![0, 0] (res_main_v22 V0) slices_S36864x4_S36864x1_0_0) shapeCasts_S36864x1_S36864) (mulf (broadcastInDim S36864 ![] bcast_S_S36864 (constant S_ .f32 0x3F000000#32)) (res_main_v195 V0)))) (res_main_v195 V0))) : (⟨S36864x1, .f32⟩ : BufTy).Contents (Elt F))⟩, ⟨S36864x1, ((broadcastInDim S36864x1 ![0] bcast_S36864_S36864x1_0 (Host.divf (subf (addf (shapeCast _ (extractStridedSlice S36864x1 ![0, 1] (res_main_v188 V0) slices_S36864x4_S36864x1_0_1) shapeCasts_S36864x1_S36864) (mulf (broadcastInDim S36864 ![] bcast_S_S36864 (constant S_ .f32 0x3F000000#32)) (res_main_v226 V0))) (addf (shapeCast _ (extractStridedSlice S36864x1 ![0, 1] (res_main_v22 V0) slices_S36864x4_S36864x1_0_1) shapeCasts_S36864x1_S36864) (mulf (broadcastInDim S36864 ![] bcast_S_S36864 (constant S_ .f32 0x3F000000#32)) (res_main_v202 V0)))) (res_main_v202 V0))) : (⟨S36864x1, .f32⟩ : BufTy).Contents (Elt F))⟩, ⟨S36864x1, ((broadcastInDim S36864x1 ![0] bcast_S36864_S36864x1_0 (Host.log (Host.divf (res_main_v219 V0) (res_main_v195 V0)))) : (⟨S36864x1, .f32⟩ : BufTy).Contents (Elt F))⟩, ⟨S36864x1, ((broadcastInDim S36864x1 ![0] bcast_S36864_S36864x1_0 (Host.log (Host.divf (res_main_v226 V0) (res_main_v202 V0)))) : (⟨S36864x1, .f32⟩ : BufTy).Contents (Elt F))⟩] concatenates_S36864x1_S36864x1_S36864x1_S36864x1_S36864x4_d1 : (⟨S36864x4, .f32⟩ : BufTy).Contents (Elt F))) (broadcastInDim S36864x4 ![] bcast_S_S36864x4 (id (constant S_ .f32 0x00000000#32)))) shapeCasts_S36864x4_S1x64x64x36) transposes_S1x64x64x36_S1x36x64x64_0_3_1_2 := by
  unfold val6
  simp only [ops_part5, TRef.ternary, TRef.unary, TRef.toBuf, TRef.ofBuf, cast_eq]
  after_results_simp
  simp only [val5_main_v251] <;> rfl
set_option maxRecDepth 8192 in
set_option maxHeartbeats 2000000 in
theorem val6_main_v281 (V0 : Valuation τ sig (Elt F)) : val6 V0 (no_index (Proc.devRef .tc main_v281)) = transpose S1x36x64x64 [0, 3, 1, 2] (shapeCast _ (mulf (broadcastInDim S36864x4 ![0, 1] bcast_S36864x1_S36864x4_0_1 (id (select (broadcastInDim S36864x1 ![0] bcast_S36864_S36864x1_0 (cmpf .oeq (res_main_v179 V0) (broadcastInDim S36864 ![] bcast_S_S36864 (constant S_ .f32 0x3F800000#32)))) (broadcastInDim S36864x1 ![] bcast_S_S36864x1 (constant S_ .f32 0x3F800000#32)) (broadcastInDim S36864x1 ![] bcast_S_S36864x1 (constant S_ .f32 0x00000000#32))))) (broadcastInDim S36864x4 ![0, 1] bcast_S1x4_S36864x4_0_1 (broadcastInDim S1x4 ![] bcast_S_S1x4 (constant S_ .f32 0x3F800000#32)))) shapeCasts_S36864x4_S1x64x64x36) transposes_S1x64x64x36_S1x36x64x64_0_3_1_2 := by
  unfold val6
  simp only [ops_part5, TRef.ternary, TRef.unary, TRef.toBuf, TRef.ofBuf, cast_eq]
  after_results_simp
  simp only [val5_main_v252, val5_main_v179] <;> rfl
set_option maxRecDepth 8192 in
set_option maxHeartbeats 2000000 in
theorem val6_main_v283 (V0 : Valuation τ sig (Elt F)) : val6 V0 (no_index (Proc.devRef .tc main_v283)) = transpose S1x36x64x64 [0, 3, 1, 2] (shapeCast _ (mulf (broadcastInDim S36864x4 ![0, 1] bcast_S36864x1_S36864x4_0_1 (select (broadcastInDim S36864x1 ![0] bcast_S36864_S36864x1_0 (cmpf .oge (res_main_v179 V0) (broadcastInDim S36864 ![] bcast_S_S36864 (constant S_ .f32 0x00000000#32)))) (broadcastInDim S36864x1 ![] bcast_S_S36864x1 (Host.divf (constant S_ .f32 0x3F800000#32) (sitofp .f32 (Host.reduce IntOp.addi (extui 32 (cmpf .oge (res_main_v179 V0) (broadcastInDim S36864 ![] bcast_S_S36864 (constant S_ .f32 0x00000000#32))) natLt_1_32) (constantI S_ 32 0#32) reducesTo_S36864_S_d0 h_S_)))) (broadcastInDim S36864x1 ![] bcast_S_S36864x1 (id (constant S_ .f32 0x00000000#32))))) (broadcastInDim S36864x4 ![0, 1] bcast_S1x4_S36864x4_0_1 (broadcastInDim S1x4 ![] bcast_S_S1x4 (constant S_ .f32 0x3F800000#32)))) shapeCasts_S36864x4_S1x64x64x36) transposes_S1x64x64x36_S1x36x64x64_0_3_1_2 := by
  unfold val6
  simp only [ops_part5, TRef.ternary, TRef.unary, TRef.toBuf, TRef.ofBuf, cast_eq]
  after_results_simp
  simp only [val5_main_v179] <;> rfl

theorem after_ops (V0 : Valuation τ sig (Elt F)) : after ops V0 = val6 V0 := by
  simp only [ops, ops_part2, ops_part3, ops_part4, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v277) = shapeCast _ (transpose S1x9x64x64 [0, 3, 1, 2] (shapeCast _ (res_main_v179 (launchContents m c)) shapeCasts_S36864_S1x64x64x9) transposes_S1x64x64x9_S1x9x64x64_0_3_1_2) shapeCasts_S1x9x64x64_S1x1x576x64
      ∧ r.2.mem ((c.tc : Thread nD τ).loc main_v279) = transpose S1x36x64x64 [0, 3, 1, 2] (shapeCast _ (select (broadcastInDim S36864x4 ![0, 1] bcast_S36864x1_S36864x4_0_1 (broadcastInDim S36864x1 ![0] bcast_S36864_S36864x1_0 (res_main_v46 (launchContents m c)))) ((concatenate S36864x4 1 [⟨S36864x1, ((broadcastInDim S36864x1 ![0] bcast_S36864_S36864x1_0 (Host.divf (subf (addf (shapeCast _ (extractStridedSlice S36864x1 ![0, 0] (res_main_v188 (launchContents m c)) slices_S36864x4_S36864x1_0_0) shapeCasts_S36864x1_S36864) (mulf (broadcastInDim S36864 ![] bcast_S_S36864 (constant S_ .f32 0x3F000000#32)) (res_main_v219 (launchContents m c)))) (addf (shapeCast _ (extractStridedSlice S36864x1 ![0, 0] (res_main_v22 (launchContents m c)) slices_S36864x4_S36864x1_0_0) shapeCasts_S36864x1_S36864) (mulf (broadcastInDim S36864 ![] bcast_S_S36864 (constant S_ .f32 0x3F000000#32)) (res_main_v195 (launchContents m c))))) (res_main_v195 (launchContents m c)))) : (⟨S36864x1, .f32⟩ : BufTy).Contents (Elt F))⟩, ⟨S36864x1, ((broadcastInDim S36864x1 ![0] bcast_S36864_S36864x1_0 (Host.divf (subf (addf (shapeCast _ (extractStridedSlice S36864x1 ![0, 1] (res_main_v188 (launchContents m c)) slices_S36864x4_S36864x1_0_1) shapeCasts_S36864x1_S36864) (mulf (broadcastInDim S36864 ![] bcast_S_S36864 (constant S_ .f32 0x3F000000#32)) (res_main_v226 (launchContents m c)))) (addf (shapeCast _ (extractStridedSlice S36864x1 ![0, 1] (res_main_v22 (launchContents m c)) slices_S36864x4_S36864x1_0_1) shapeCasts_S36864x1_S36864) (mulf (broadcastInDim S36864 ![] bcast_S_S36864 (constant S_ .f32 0x3F000000#32)) (res_main_v202 (launchContents m c))))) (res_main_v202 (launchContents m c)))) : (⟨S36864x1, .f32⟩ : BufTy).Contents (Elt F))⟩, ⟨S36864x1, ((broadcastInDim S36864x1 ![0] bcast_S36864_S36864x1_0 (Host.log (Host.divf (res_main_v219 (launchContents m c)) (res_main_v195 (launchContents m c))))) : (⟨S36864x1, .f32⟩ : BufTy).Contents (Elt F))⟩, ⟨S36864x1, ((broadcastInDim S36864x1 ![0] bcast_S36864_S36864x1_0 (Host.log (Host.divf (res_main_v226 (launchContents m c)) (res_main_v202 (launchContents m c))))) : (⟨S36864x1, .f32⟩ : BufTy).Contents (Elt F))⟩] concatenates_S36864x1_S36864x1_S36864x1_S36864x1_S36864x4_d1 : (⟨S36864x4, .f32⟩ : BufTy).Contents (Elt F))) (broadcastInDim S36864x4 ![] bcast_S_S36864x4 (id (constant S_ .f32 0x00000000#32)))) shapeCasts_S36864x4_S1x64x64x36) transposes_S1x64x64x36_S1x36x64x64_0_3_1_2
      ∧ r.2.mem ((c.tc : Thread nD τ).loc main_v281) = transpose S1x36x64x64 [0, 3, 1, 2] (shapeCast _ (mulf (broadcastInDim S36864x4 ![0, 1] bcast_S36864x1_S36864x4_0_1 (id (select (broadcastInDim S36864x1 ![0] bcast_S36864_S36864x1_0 (cmpf .oeq (res_main_v179 (launchContents m c)) (broadcastInDim S36864 ![] bcast_S_S36864 (constant S_ .f32 0x3F800000#32)))) (broadcastInDim S36864x1 ![] bcast_S_S36864x1 (constant S_ .f32 0x3F800000#32)) (broadcastInDim S36864x1 ![] bcast_S_S36864x1 (constant S_ .f32 0x00000000#32))))) (broadcastInDim S36864x4 ![0, 1] bcast_S1x4_S36864x4_0_1 (broadcastInDim S1x4 ![] bcast_S_S1x4 (constant S_ .f32 0x3F800000#32)))) shapeCasts_S36864x4_S1x64x64x36) transposes_S1x64x64x36_S1x36x64x64_0_3_1_2
      ∧ r.2.mem ((c.tc : Thread nD τ).loc main_v283) = transpose S1x36x64x64 [0, 3, 1, 2] (shapeCast _ (mulf (broadcastInDim S36864x4 ![0, 1] bcast_S36864x1_S36864x4_0_1 (select (broadcastInDim S36864x1 ![0] bcast_S36864_S36864x1_0 (cmpf .oge (res_main_v179 (launchContents m c)) (broadcastInDim S36864 ![] bcast_S_S36864 (constant S_ .f32 0x00000000#32)))) (broadcastInDim S36864x1 ![] bcast_S_S36864x1 (Host.divf (constant S_ .f32 0x3F800000#32) (sitofp .f32 (Host.reduce IntOp.addi (extui 32 (cmpf .oge (res_main_v179 (launchContents m c)) (broadcastInDim S36864 ![] bcast_S_S36864 (constant S_ .f32 0x00000000#32))) natLt_1_32) (constantI S_ 32 0#32) reducesTo_S36864_S_d0 h_S_)))) (broadcastInDim S36864x1 ![] bcast_S_S36864x1 (id (constant S_ .f32 0x00000000#32))))) (broadcastInDim S36864x4 ![0, 1] bcast_S1x4_S36864x4_0_1 (broadcastInDim S1x4 ![] bcast_S_S1x4 (constant S_ .f32 0x3F800000#32)))) shapeCasts_S36864x4_S1x64x64x36) transposes_S1x64x64x36_S1x36x64x64_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v277).trans ((congrFun (after_ops (launchContents m c)) (Proc.devRef .tc main_v277)).trans (val6_main_v277 (launchContents m c))),
      (h c main_v279).trans ((congrFun (after_ops (launchContents m c)) (Proc.devRef .tc main_v279)).trans (val6_main_v279 (launchContents m c))),
      (h c main_v281).trans ((congrFun (after_ops (launchContents m c)) (Proc.devRef .tc main_v281)).trans (val6_main_v281 (launchContents m c))),
      (h c main_v283).trans ((congrFun (after_ops (launchContents m c)) (Proc.devRef .tc main_v283)).trans (val6_main_v283 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c))),
      (h c main_arg2).trans ((congrFun (after_ops (launchContents m c)) (Proc.devRef .tc main_arg2)).trans (val6_main_arg2 (launchContents m c)))⟩)
    (run_seq scopedRefs_eq scopedSems_eq defs main (fun _ => ops) main_eq (fun _ => ops_sub) m ρ fun _ => ops_fresh)

end Cert.ReferenceIdeal.Value

end
-- ==== Proof.Agree.lean ====
/- The kernel's results are the reference's. -/
module

public import proofs.«01_k».proof.Proof.Kern.Labels
public import proofs.«01_k».proof.Proof.Kern.Arrays
public import proofs.«01_k».proof.Proof.Math.Box
public import proofs.«01_k».proof.Proof.Math.Defined
public import proofs.«01_k».proof.Proof.Ref.Run

@[expose] public section

set_option maxRecDepth 8192

noncomputable section

namespace Cert.Agree

open Idealize.ShloMosaic Idealize.ShloMosaic.TcCoe Idealize.SL.Sem Idealize.ShloMosaic.StableHlo
open Cert.Spec Cert.KernelIdeal.Gen Cert.KernelIdeal.Body Cert.ReferenceIdeal.Value

/-- Where the body reads the reference's boxes and size, and some overlap of each anchor is defined, the four results agree. -/
theorem results (X : Arrs Ideal) (V0 : Valuation Cert.ReferenceIdeal.τ Cert.ReferenceIdeal.sig (Elt Ideal))
    (h : Reads X (boxes V0) (imH V0) (imW V0)) (hd : ∀ k, ∃ g, ov (boxes V0) (imH V0) (imW V0) k g ≠ ⊥) :
    shapeCast Cert.KernelIdeal.S1x1x576x64 (labOut X) Cert.KernelIdeal.Gen.shapeCasts_S288x128_S1x1x576x64 = lay1 (res_main_v179 V0)
    ∧ stack4 (dxOut X) (dyOut X) (dwOut X) (dhOut X) = lay4 (tgtArr V0)
    ∧ same4 (biwOut X) = lay4 (biwArr V0) ∧ same4 (bowOut X) = lay4 (bowArr V0) := by
  have ht : ∀ (r : Fin 288) (l : Fin 128), (dxOut X (ix2 r l) = tgtArr V0 (ix2 (numF r l) 0) ∧ dyOut X (ix2 r l) = tgtArr V0 (ix2 (numF r l) 1))
      ∧ (dwOut X (ix2 r l) = tgtArr V0 (ix2 (numF r l) 2) ∧ dhOut X (ix2 r l) = tgtArr V0 (ix2 (numF r l) 3)) := fun r l => by
    obtain ⟨b, hb, e0, e1, e2, e3⟩ := target_at h hd r l
    have hr := fun t => (tgtArr_read V0 (numF r l) t b hb).symm
    exact ⟨⟨e0.trans (hr 0), e1.trans (hr 1)⟩, e2.trans (hr 2), e3.trans (hr 3)⟩
  exact ⟨plane_lay1 _ _ fun r l => (lab2_at h hd r l).trans (v179_read V0 (numF r l)).symm,
    stack4_lay4 _ _ _ _ _ (fun r l => (ht r l).1.1) (fun r l => (ht r l).1.2) (fun r l => (ht r l).2.1) (fun r l => (ht r l).2.2),
    same4_lay4 _ _ fun r l t => (biw_at h hd r l).trans (biwArr_read V0 (numF r l) t).symm,
    same4_lay4 _ _ fun r l t => (bow_at h hd r l).trans (bowArr_read V0 (numF r l) t).symm⟩

/-- From memories that agree on the boxes and the image's size, where some box has its corners in order, the four results agree. -/
theorem results_of (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h1 : (V0 (Proc.devRef .tc Cert.ReferenceIdeal.main_arg1) : FVec Ideal Cert.ReferenceIdeal.S100x5 .f32) = m ((c.tc : Thread Cert.KernelIdeal.nD Cert.KernelIdeal.τ).loc Cert.KernelIdeal.main_arg1))
    (h2 : (V0 (Proc.devRef .tc Cert.ReferenceIdeal.main_arg2) : FVec Ideal Cert.ReferenceIdeal.S1x3 .f32) = m ((c.tc : Thread Cert.KernelIdeal.nD Cert.KernelIdeal.τ).loc Cert.KernelIdeal.main_arg2))
    (hb : ∃ g : Fin 100, boxes V0 g 0 ≤ boxes V0 g 2 ∧ boxes V0 g 1 ≤ boxes V0 g 3) :
    shapeCast Cert.KernelIdeal.S1x1x576x64 (labOut (arrs m c t0_0)) Cert.KernelIdeal.Gen.shapeCasts_S288x128_S1x1x576x64 = lay1 (res_main_v179 V0)
    ∧ stack4 (dxOut (arrs m c t0_0)) (dyOut (arrs m c t0_0)) (dwOut (arrs m c t0_0)) (dhOut (arrs m c t0_0)) = lay4 (tgtArr V0)
    ∧ same4 (biwOut (arrs m c t0_0)) = lay4 (biwArr V0) ∧ same4 (bowOut (arrs m c t0_0)) = lay4 (bowArr V0) := by
  refine results _ V0 ?_ fun k => ?_
  · have h := arrs_reads m c
    rw [← h1, ← h2] at h
    exact h
  · obtain ⟨g, hx, hy⟩ := hb
    exact defined _ _ _ g hx hy k

end Cert.Agree

end
-- ==== Proof.lean ====
/- The proof of the claims about the anchor-target kernel. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kern.Transfer
public import proofs.«01_k».proof.Proof.Agree
public import Idealize.ShloMosaic.Lib.Claim
public import Idealize.ShloMosaic.Adequacy
public import Idealize.ShloMosaic.Init

@[expose] public section

set_option maxRecDepth 8192

noncomputable section

namespace Cert.Proof

open Idealize.ShloMosaic Idealize.SL.Sem Idealize.ShloMosaic.StableHlo
open Cert.Spec Cert.KernelIdeal.Body Cert.ReferenceIdeal.Value

/-- The reference's run changes no argument and leaves every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (Idealize.ShloMosaic.θ_run _ _ _).mono (fun r h => ⟨fun c => (h c).2.2.2.2, sem_eq_zero_of_no_sems (by decide) r.2⟩) (Cert.ReferenceIdeal.Value.run m g)

/-- Where some box has its corners in order, the kernel and the reference leave equal labels, targets, inside weights and outside weights. -/
theorem algebraic : Cert.algebraic_KernelIdeal_ReferenceIdeal_pre_some_box (hKernelIdeal := Cert.KernelIdeal.Gen.facts)
    (hReferenceIdeal := Cert.ReferenceIdeal.Gen.facts) (hPre_some_box := Cert.Pre_some_box.facts) := by
  intro m g m' g' hpre hagree
  have hres := fun c => by
    have h1 := (hagree c).2.1
    have h2 := (hagree c).2.2
    have hb := @Cert.Pre_some_box.some_box Cert.Pre_some_box.facts _ _ _ (hpre c)
    rw [← h1] at hb
    exact Cert.Agree.results_of m c (launchContents m' c) h1 h2 hb
  refine ⟨fun c => lay1 (res_main_v179 (launchContents m' c)), fun c => lay4 (tgtArr (launchContents m' c)),
    fun c => lay4 (biwArr (launchContents m' c)), fun c => lay4 (bowArr (launchContents m' c)), ?_, ?_⟩
  · refine (Idealize.ShloMosaic.θ_run _ _ _).mono (fun r h c => ?_) (Cert.KernelIdeal.Body.run_values m g)
    exact ⟨(h c).1.trans (hres c).1, (h c).2.1.trans (hres c).2.1, (h c).2.2.1.trans (hres c).2.2.1, (h c).2.2.2.1.trans (hres c).2.2.2, (h c).2.2.2.2⟩
  · refine (Idealize.ShloMosaic.θ_run _ _ _).mono (fun r h c => ?_) (Cert.ReferenceIdeal.Value.run m' g')
    exact ⟨(h c).1, (h c).2.1, (h c).2.2.1, (h c).2.2.2.1, (h c).2.2.2.2⟩

/-- The runs of the kernel, in both readings of the numbers, and of the reference change no argument; the idealized kernel is the kernel;
    and the kernel's results are the reference's. -/
theorem claim : Cert.Claim := ⟨Cert.Kernel.Gen.facts, Cert.KernelIdeal.Gen.facts, Cert.ReferenceIdeal.Gen.facts, Cert.Pre_some_box.facts,
  fun m g _ => Cert.Same.run_of m g (Cert.KernelIdeal.Body.run_frame m g),
  fun m g _ => Cert.KernelIdeal.Body.run_frame m g,
  fun m g _ => Cert.KernelIdeal.Body.run_frame m g,
  fun m g _ => reference_frame m g,
  fun m g _ => reference_frame m g,
  trivial,
  algebraic⟩

end Cert.Proof

end
